-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "log_g0" .f32 0xBD020AEC#32 ((Real.log (31 / 32) : ℝ) : EReal)
  ∧ IdealRules.named_const.Statement Cert.KernelIdeal.κ "log_g1" .f32 0xBC8102B3#32 ((Real.log (63 / 64) : ℝ) : EReal)
  ∧ IdealRules.named_const.Statement Cert.KernelIdeal.κ "log_g2" .f32 0xBC0080AC#32 ((Real.log (127 / 128) : ℝ) : EReal)
  ∧ IdealRules.named_const.Statement Cert.KernelIdeal.κ "log_g3" .f32 0xBB80402B#32 ((Real.log (255 / 256) : ℝ) : EReal)
  ∧ IdealRules.named_const.Statement Cert.KernelIdeal.κ "chunk_dec0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "chunk_dec1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "chunk_dec2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "chunk_dec3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v36_0)) (v1 : (c : Dev Cert.Kernel3Ideal.nD) → Buf (Elt Ideal) ((c.tc : Thread Cert.Kernel3Ideal.nD Cert.Kernel3Ideal.τ).loc Cert.Kernel3Ideal.main_v36_1)) (v2 : (c : Dev Cert.Kernel3Ideal.nD) → Buf (Elt Ideal) ((c.tc : Thread Cert.Kernel3Ideal.nD Cert.Kernel3Ideal.τ).loc Cert.Kernel3Ideal.main_v36_2)) (v3 : (c : Dev Cert.Kernel3Ideal.nD) → Buf (Elt Ideal) ((c.tc : Thread Cert.Kernel3Ideal.nD Cert.Kernel3Ideal.τ).loc Cert.Kernel3Ideal.main_v36_3)) (v4 : (c : Dev Cert.Kernel3Ideal.nD) → Buf (Elt Ideal) ((c.tc : Thread Cert.Kernel3Ideal.nD Cert.Kernel3Ideal.τ).loc Cert.Kernel3Ideal.main_v36_4)) (v5 : (c : Dev Cert.Kernel3Ideal.nD) → Buf (Elt Ideal) ((c.tc : Thread Cert.Kernel3Ideal.nD Cert.Kernel3Ideal.τ).loc Cert.Kernel3Ideal.main_v36_5)) (v6 : (c : Dev Cert.Kernel3Ideal.nD) → Buf (Elt Ideal) ((c.tc : Thread Cert.Kernel3Ideal.nD Cert.Kernel3Ideal.τ).loc Cert.Kernel3Ideal.main_v36_6)) (v7 : (c : Dev Cert.Kernel3Ideal.nD) → Buf (Elt Ideal) ((c.tc : Thread Cert.Kernel3Ideal.nD Cert.Kernel3Ideal.τ).loc Cert.Kernel3Ideal.main_v36_7)) (v8 : (c : Dev Cert.Kernel3Ideal.nD) → Buf (Elt Ideal) ((c.tc : Thread Cert.Kernel3Ideal.nD Cert.Kernel3Ideal.τ).loc Cert.Kernel3Ideal.main_v36_8)) (v9 : (c : Dev Cert.Kernel3Ideal.nD) → Buf (Elt Ideal) ((c.tc : Thread Cert.Kernel3Ideal.nD Cert.Kernel3Ideal.τ).loc Cert.Kernel3Ideal.main_v36_9)) (v10 : (c : Dev Cert.Kernel3Ideal.nD) → Buf (Elt Ideal) ((c.tc : Thread Cert.Kernel3Ideal.nD Cert.Kernel3Ideal.τ).loc Cert.Kernel3Ideal.main_v36_10)) (v11 : (c : Dev Cert.Kernel3Ideal.nD) → Buf (Elt Ideal) ((c.tc : Thread Cert.Kernel3Ideal.nD Cert.Kernel3Ideal.τ).loc Cert.Kernel3Ideal.main_v36_11)) (v12 : (c : Dev Cert.Kernel3Ideal.nD) → Buf (Elt Ideal) ((c.tc : Thread Cert.Kernel3Ideal.nD Cert.Kernel3Ideal.τ).loc Cert.Kernel3Ideal.main_v36_12)) (v13 : (c : Dev Cert.Kernel3Ideal.nD) → Buf (Elt Ideal) ((c.tc : Thread Cert.Kernel3Ideal.nD Cert.Kernel3Ideal.τ).loc Cert.Kernel3Ideal.main_v36_13)) (v14 : (c : Dev Cert.Kernel3Ideal.nD) → Buf (Elt Ideal) ((c.tc : Thread Cert.Kernel3Ideal.nD Cert.Kernel3Ideal.τ).loc Cert.Kernel3Ideal.main_v36_14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v36_0) = v0 c
          ∧ r.2.mem ((c.tc : Thread Cert.Kernel3Ideal.nD Cert.Kernel3Ideal.τ).loc Cert.Kernel3Ideal.main_v36_1) = v1 c
          ∧ r.2.mem ((c.tc : Thread Cert.Kernel3Ideal.nD Cert.Kernel3Ideal.τ).loc Cert.Kernel3Ideal.main_v36_2) = v2 c
          ∧ r.2.mem ((c.tc : Thread Cert.Kernel3Ideal.nD Cert.Kernel3Ideal.τ).loc Cert.Kernel3Ideal.main_v36_3) = v3 c
          ∧ r.2.mem ((c.tc : Thread Cert.Kernel3Ideal.nD Cert.Kernel3Ideal.τ).loc Cert.Kernel3Ideal.main_v36_4) = v4 c
          ∧ r.2.mem ((c.tc : Thread Cert.Kernel3Ideal.nD Cert.Kernel3Ideal.τ).loc Cert.Kernel3Ideal.main_v36_5) = v5 c
          ∧ r.2.mem ((c.tc : Thread Cert.Kernel3Ideal.nD Cert.Kernel3Ideal.τ).loc Cert.Kernel3Ideal.main_v36_6) = v6 c
          ∧ r.2.mem ((c.tc : Thread Cert.Kernel3Ideal.nD Cert.Kernel3Ideal.τ).loc Cert.Kernel3Ideal.main_v36_7) = v7 c
          ∧ r.2.mem ((c.tc : Thread Cert.Kernel3Ideal.nD Cert.Kernel3Ideal.τ).loc Cert.Kernel3Ideal.main_v36_8) = v8 c
          ∧ r.2.mem ((c.tc : Thread Cert.Kernel3Ideal.nD Cert.Kernel3Ideal.τ).loc Cert.Kernel3Ideal.main_v36_9) = v9 c
          ∧ r.2.mem ((c.tc : Thread Cert.Kernel3Ideal.nD Cert.Kernel3Ideal.τ).loc Cert.Kernel3Ideal.main_v36_10) = v10 c
          ∧ r.2.mem ((c.tc : Thread Cert.Kernel3Ideal.nD Cert.Kernel3Ideal.τ).loc Cert.Kernel3Ideal.main_v36_11) = v11 c
          ∧ r.2.mem ((c.tc : Thread Cert.Kernel3Ideal.nD Cert.Kernel3Ideal.τ).loc Cert.Kernel3Ideal.main_v36_12) = v12 c
          ∧ r.2.mem ((c.tc : Thread Cert.Kernel3Ideal.nD Cert.Kernel3Ideal.τ).loc Cert.Kernel3Ideal.main_v36_13) = v13 c
          ∧ r.2.mem ((c.tc : Thread Cert.Kernel3Ideal.nD Cert.Kernel3Ideal.τ).loc Cert.Kernel3Ideal.main_v36_14) = v14 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v208) = v0 c
          ∧ r.2.mem ((c.tc : Thread Cert.Reference3Ideal.nD Cert.Reference3Ideal.τ).loc Cert.Reference3Ideal.main_v209) = v1 c
          ∧ r.2.mem ((c.tc : Thread Cert.Reference3Ideal.nD Cert.Reference3Ideal.τ).loc Cert.Reference3Ideal.main_v44) = v2 c
          ∧ r.2.mem ((c.tc : Thread Cert.Reference3Ideal.nD Cert.Reference3Ideal.τ).loc Cert.Reference3Ideal.main_v214) = v3 c
          ∧ r.2.mem ((c.tc : Thread Cert.Reference3Ideal.nD Cert.Reference3Ideal.τ).loc Cert.Reference3Ideal.main_v218) = v4 c
          ∧ r.2.mem ((c.tc : Thread Cert.Reference3Ideal.nD Cert.Reference3Ideal.τ).loc Cert.Reference3Ideal.main_v224) = v5 c
          ∧ r.2.mem ((c.tc : Thread Cert.Reference3Ideal.nD Cert.Reference3Ideal.τ).loc Cert.Reference3Ideal.main_v228) = v6 c
          ∧ r.2.mem ((c.tc : Thread Cert.Reference3Ideal.nD Cert.Reference3Ideal.τ).loc Cert.Reference3Ideal.main_v206) = v7 c
          ∧ r.2.mem ((c.tc : Thread Cert.Reference3Ideal.nD Cert.Reference3Ideal.τ).loc Cert.Reference3Ideal.main_v230) = v8 c
          ∧ r.2.mem ((c.tc : Thread Cert.Reference3Ideal.nD Cert.Reference3Ideal.τ).loc Cert.Reference3Ideal.main_v232) = v9 c
          ∧ r.2.mem ((c.tc : Thread Cert.Reference3Ideal.nD Cert.Reference3Ideal.τ).loc Cert.Reference3Ideal.main_v234) = v10 c
          ∧ r.2.mem ((c.tc : Thread Cert.Reference3Ideal.nD Cert.Reference3Ideal.τ).loc Cert.Reference3Ideal.main_v235) = v11 c
          ∧ r.2.mem ((c.tc : Thread Cert.Reference3Ideal.nD Cert.Reference3Ideal.τ).loc Cert.Reference3Ideal.main_v237) = v12 c
          ∧ r.2.mem ((c.tc : Thread Cert.Reference3Ideal.nD Cert.Reference3Ideal.τ).loc Cert.Reference3Ideal.main_v244) = v13 c
          ∧ r.2.mem ((c.tc : Thread Cert.Reference3Ideal.nD Cert.Reference3Ideal.τ).loc Cert.Reference3Ideal.main_v251) = v14 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S16384x512 : Shape := ⟨2, ![16384, 512]⟩
abbrev S16384x1024 : Shape := ⟨2, ![16384, 1024]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S16384x512 .bf16) (main_arg1 : FVec F S16384x512 .bf16) (main_arg2 : FVec F S16384x1024 .bf16) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S16384x1024 .f32 := (extf .f32 · bitsLt_bf16_f32) main_arg2
  let main_v12 : FVec F S16384x1024 .f32 := Host.absf main_v11
  let main_cst_2 : FVec F S_ .f32 := constant S_ .f32 0x7F800000#32
  let main_v13 : FVec F S16384x1024 .f32 := broadcastInDim S16384x1024 ![] bcast_S_S16384x1024 main_cst_2
  let main_v14 : IVec S16384x1024 1 := cmpf .olt main_v12 main_v13
  let main_c_3 : IVec S_ 1 := constantI S_ 1 1#1
  let main_v15 : IVec S_ 1 := (fun x v => Host.reduce IntOp.andi x v reducesTo_S16384x1024_S_d0_1 h_S_) main_v14 main_c_3
  let main_v16 : IVec S_ 1 := andi main_v10 main_v15
  main_v16
-- ==== Pre_finite4.lean ====
abbrev S16384x128 : Shape := ⟨2, ![16384, 128]⟩
abbrev S32x64 : Shape := ⟨2, ![32, 64]⟩
abbrev S2048x256 : Shape := ⟨2, ![2048, 256]⟩
abbrev S256x64 : Shape := ⟨2, ![256, 64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S2048x256 : S_.BroadcastsInDim S2048x256 (![] : Fin 0 → Fin S2048x256.rank)
  reducesTo_S2048x256_S_d0_1 : S2048x256.ReducesTo [0, 1] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  main_v18

def fn {F : FTy → Type} [FloatOps F] (main_arg0 : FVec F S16384x128 .f32) (main_arg1 : FVec F S32x64 .f32) (main_arg2 : FVec F S2048x256 .f32) (main_arg3 : FVec F S256x64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_v13 main_v16
-- ==== Kernel.lean ====
abbrev S16384x512 : Shape := ⟨2, ![16384, 512]⟩
abbrev S16384x1024 : Shape := ⟨2, ![16384, 1024]⟩
abbrev S1024x512 : Shape := ⟨2, ![1024, 512]⟩
abbrev S1024x1024 : Shape := ⟨2, ![1024, 1024]⟩
abbrev S4x128x256 : Shape := ⟨3, ![4, 128, 256]⟩
abbrev S4x256x256 : Shape := ⟨3, ![4, 256, 256]⟩
abbrev S4x256x128 : Shape := ⟨3, ![4, 256, 128]⟩
abbrev S256x256 : Shape := ⟨2, ![256, 256]⟩
abbrev S256x128 : Shape := ⟨2, ![256, 128]⟩
abbrev S1x256x256 : Shape := ⟨3, ![1, 256, 256]⟩
abbrev S1x256x128 : Shape := ⟨3, ![1, 256, 128]⟩
abbrev S1x128x256 : Shape := ⟨3, ![1, 128, 256]⟩
abbrev S128x256 : Shape := ⟨2, ![128, 256]⟩
abbrev S256 : Shape := ⟨1, ![256]⟩
abbrev S256x1 : Shape := ⟨2, ![256, 1]⟩

abbrev nBuf : Space → Nat
  | .hbm => 4
  | .vmem => 12
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .bf16⟩
  | .hbm, ⟨3, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S4x128x256, .f32⟩
  | .local _ .vmem, ⟨9, _⟩ => ⟨S4x256x256, .f32⟩
  | .local _ .vmem, ⟨10, _⟩ => ⟨S4x256x128, .f32⟩
  | .local _ .vmem, ⟨11, _⟩ => ⟨S4x256x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "chunk_dec0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "chunk_dec1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "chunk_dec2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "chunk_dec3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "log_g0" => some ((Real.log (31 / 32) : ℝ) : EReal)
  | "log_g1" => some ((Real.log (63 / 64) : ℝ) : EReal)
  | "log_g2" => some ((Real.log (127 / 128) : ℝ) : EReal)
  | "log_g3" => some ((Real.log (255 / 256) : ℝ) : EReal)
  | _ => none
-- ==== ReferenceIdeal.lean ====
abbrev S16384x512 : Shape := ⟨2, ![16384, 512]⟩
abbrev S16384x1024 : Shape := ⟨2, ![16384, 1024]⟩
abbrev S4 : Shape := ⟨1, ![4]⟩
abbrev S_ : Shape := ⟨0, ![]⟩
abbrev S128 : Shape := ⟨1, ![128]⟩
abbrev S128x128x4x128 : Shape := ⟨4, ![128, 128, 4, 128]⟩
abbrev S128x128x4x256 : Shape := ⟨4, ![128, 128, 4, 256]⟩
abbrev S1x128 : Shape := ⟨2, ![1, 128]⟩
abbrev S4x1 : Shape := ⟨2, ![4, 1]⟩
abbrev S4x128 : Shape := ⟨2, ![4, 128]⟩
abbrev S128x4 : Shape := ⟨2, ![128, 4]⟩
abbrev S1x128x4x1 : Shape := ⟨4, ![1, 128, 4, 1]⟩
abbrev S128x4x128x256 : Shape := ⟨4, ![128, 4, 128, 256]⟩
abbrev S4x128x256 : Shape := ⟨3, ![4, 128, 256]⟩
abbrev S1x4x128x256 : Shape := ⟨4, ![1, 4, 128, 256]⟩
abbrev S4x1x1 : Shape := ⟨3, ![4, 1, 1]⟩
abbrev S128x1 : Shape := ⟨2, ![128, 1]⟩
abbrev S128x128 : Shape := ⟨2, ![128, 128]⟩
abbrev S1x128x128 : Shape := ⟨3, ![1, 128, 128]⟩
abbrev S4x128x128 : Shape := ⟨3, ![4, 128, 128]⟩
abbrev S128x4x128x128 : Shape := ⟨4, ![128, 4, 128, 128]⟩
abbrev S1x4x128x128 : Shape := ⟨4, ![1, 4, 128, 128]⟩
abbrev S128x4x256x128 : Shape := ⟨4, ![128, 4, 256, 128]⟩
abbrev S16384x4x256 : Shape := ⟨3, ![16384, 4, 256]⟩
abbrev S16384x4 : Shape := ⟨2, ![16384, 4]⟩
abbrev S16384x4x1 : Shape := ⟨3, ![16384, 4, 1]⟩

abbrev nBuf : Space → Nat
  | .hbm => 156
  | .vmem => 0
  | .smem => 0
  | _ => 0

abbrev hbmTy0_0 (i : Nat) : BufTy := match i % 128 with
  | 0 => ⟨S16384x512, .bf16⟩
  | 1 => ⟨S16384x512, .bf16⟩
  | 2 => ⟨S16384x1024, .bf16⟩
  | 3 => ⟨S4, .f32⟩
  | 4 => ⟨S_, .f32⟩
  | 5 => ⟨S4, .f32⟩
  | 6 => ⟨S4, .f32⟩
  | 7 => ⟨S_, .f32⟩
  | 8 => ⟨S4, .f32⟩
  | 9 => ⟨S4, .f32⟩
  | 10 => ⟨S_, .f32⟩
  | 11 => ⟨S4, .f32⟩
  | 12 => ⟨S4, .f32⟩
  | 13 => ⟨S4, .f32⟩
  | 14 => ⟨S128, .f32⟩
  | 15 => ⟨S16384x512, .f32⟩
  | 16 => ⟨S128x128x4x128, .f32⟩
  | 17 => ⟨S16384x1024, .f32⟩
  | 18 => ⟨S128x128x4x256, .f32⟩
  | 19 => ⟨S1x128, .f32⟩
  | 20 => ⟨S_, .f32⟩
  | 21 => ⟨S1x128, .f32⟩
  | 22 => ⟨S1x128, .f32⟩
  | 23 => ⟨S4x1, .f32⟩
  | 24 => ⟨S4x128, .f32⟩
  | 25 => ⟨S4x128, .f32⟩
  | 26 => ⟨S4x128, .f32⟩
  | 27 => ⟨S4x128, .f32⟩
  | 28 => ⟨S_, .f32⟩
  | 29 => ⟨S4, .f32⟩
  | 30 => ⟨S4, .f32⟩
  | 31 => ⟨S4, .f32⟩
  | 32 => ⟨S128x4, .f32⟩
  | 33 => ⟨S1x128x4x1, .f32⟩
  | 34 => ⟨S128x128x4x128, .f32⟩
  | 35 => ⟨S128x128x4x128, .f32⟩
  | 36 => ⟨S128x4x128x256, .f32⟩
  | 37 => ⟨S_, .f32⟩
  | 38 => ⟨S4x128x256, .f32⟩
  | 39 => ⟨S_, .f32⟩
  | 40 => ⟨S128x4x128x256, .f32⟩
  | 41 => ⟨S_, .i32⟩
  | 42 => ⟨S128x4x128x256, .f32⟩
  | 43 => ⟨S4, .f32⟩
  | 44 => ⟨S_, .i32⟩
  | 45 => ⟨S4x128x256, .f32⟩
  | 46 => ⟨S128x4x128x256, .f32⟩
  | 47 => ⟨S_, .i32⟩
  | 48 => ⟨S_, .i1⟩
  | 49 => ⟨S_, .i32⟩
  | 50 => ⟨S_, .i32⟩
  | 51 => ⟨S_, .i32⟩
  | 52 => ⟨S1x4x128x256, .f32⟩
  | 53 => ⟨S4x128x256, .f32⟩
  | 54 => ⟨S4x1x1, .f32⟩
  | 55 => ⟨S4x128x256, .f32⟩
  | 56 => ⟨S4x128x256, .f32⟩
  | 57 => ⟨S4x128x256, .f32⟩
  | 58 => ⟨S1x4x128x256, .f32⟩
  | 59 => ⟨S_, .i32⟩
  | 60 => ⟨S_, .i32⟩
  | 61 => ⟨S_, .i32⟩
  | 62 => ⟨S128x4x128x256, .f32⟩
  | 63 => ⟨S_, .i32⟩
  | 64 => ⟨S_, .i32⟩
  | 65 => ⟨S4, .f32⟩
  | 66 => ⟨S_, .f32⟩
  | 67 => ⟨S4, .f32⟩
  | 68 => ⟨S4, .f32⟩
  | 69 => ⟨S_, .f32⟩
  | 70 => ⟨S4, .f32⟩
  | 71 => ⟨S4, .f32⟩
  | 72 => ⟨S_, .f32⟩
  | 73 => ⟨S4, .f32⟩
  | 74 => ⟨S4, .f32⟩
  | 75 => ⟨S4, .f32⟩
  | 76 => ⟨S128, .f32⟩
  | 77 => ⟨S16384x512, .f32⟩
  | 78 => ⟨S128x128x4x128, .f32⟩
  | 79 => ⟨S16384x512, .f32⟩
  | 80 => ⟨S128x128x4x128, .f32⟩
  | 81 => ⟨S16384x1024, .f32⟩
  | 82 => ⟨S128x128x4x256, .f32⟩
  | 83 => ⟨S128x1, .f32⟩
  | 84 => ⟨S1x128, .f32⟩
  | 85 => ⟨S128x128, .f32⟩
  | 86 => ⟨S128x128, .f32⟩
  | 87 => ⟨S128x128, .f32⟩
  | 88 => ⟨S128, .i32⟩
  | 89 => ⟨S128x1, .i32⟩
  | 90 => ⟨S1x128, .i32⟩
  | 91 => ⟨S128x128, .i32⟩
  | 92 => ⟨S128x128, .i32⟩
  | 93 => ⟨S128x128, .i1⟩
  | 94 => ⟨S_, .f32⟩
  | 95 => ⟨S128x128, .f32⟩
  | 96 => ⟨S128x128, .f32⟩
  | 97 => ⟨S1x128x128, .f32⟩
  | 98 => ⟨S4x1x1, .f32⟩
  | 99 => ⟨S4x128x128, .f32⟩
  | 100 => ⟨S4x128x128, .f32⟩
  | 101 => ⟨S4x128x128, .f32⟩
  | 102 => ⟨S4x128x128, .f32⟩
  | 103 => ⟨S_, .f32⟩
  | 104 => ⟨S_, .f32⟩
  | 105 => ⟨S4x128x128, .i1⟩
  | 106 => ⟨S4x128x128, .f32⟩
  | 107 => ⟨S4x128x128, .f32⟩
  | 108 => ⟨S1x128, .f32⟩
  | 109 => ⟨S_, .f32⟩
  | 110 => ⟨S1x128, .f32⟩
  | 111 => ⟨S1x128, .f32⟩
  | 112 => ⟨S4x1, .f32⟩
  | 113 => ⟨S4x128, .f32⟩
  | 114 => ⟨S4x128, .f32⟩
  | 115 => ⟨S4x128, .f32⟩
  | 116 => ⟨S4x128, .f32⟩
  | 117 => ⟨S128x4x128x128, .f32⟩
  | 118 => ⟨S1x4x128x128, .f32⟩
  | 119 => ⟨S128x4x128x128, .f32⟩
  | 120 => ⟨S128x4x128x128, .f32⟩
  | 121 => ⟨S128x4x256x128, .f32⟩
  | 122 => ⟨S128x128x4x256, .f32⟩
  | 123 => ⟨S128x4, .f32⟩
  | 124 => ⟨S1x128x4x1, .f32⟩
  | 125 => ⟨S128x128x4x128, .f32⟩
  | 126 => ⟨S128x128x4x128, .f32⟩
  | 127 => ⟨S128x4x256x128, .f32⟩
  | _ => ⟨S16384x512, .bf16⟩

abbrev hbmTy0_1 (i : Nat) : BufTy := match i % 128 with
  | 0 => ⟨S128x128x4x256, .f32⟩
  | 1 => ⟨S128x128x4x256, .f32⟩
  | 2 => ⟨S16384x4x256, .f32⟩
  | 3 => ⟨S_, .f32⟩
  | 4 => ⟨S16384x4, .f32⟩
  | 5 => ⟨S16384x4x1, .f32⟩
  | 6 => ⟨S_, .f32⟩
  | 7 => ⟨S16384x4x1, .f32⟩
  | 8 => ⟨S16384x4x1, .f32⟩
  | 9 => ⟨S16384x4x256, .f32⟩
  | 10 => ⟨S16384x4x256, .f32⟩
  | 11 => ⟨S16384x4x256, .f32⟩
  | 12 => ⟨S_, .f32⟩
  | 13 => ⟨S16384x4, .f32⟩
  | 14 => ⟨S16384x4x1, .f32⟩
  | 15 => ⟨S_, .f32⟩
  | 16 => ⟨S16384x4x1, .f32⟩
  | 17 => ⟨S16384x4x1, .f32⟩
  | 18 => ⟨S16384x4x256, .f32⟩
  | 19 => ⟨S16384x4x256, .f32⟩
  | 20 => ⟨S_, .f32⟩
  | 21 => ⟨S16384x4x1, .f32⟩
  | 22 => ⟨S16384x4x1, .f32⟩
  | 23 => ⟨S16384x4x1, .f32⟩
  | 24 => ⟨S16384x4x256, .f32⟩
  | 25 => ⟨S16384x4x256, .f32⟩
  | 26 => ⟨S16384x1024, .f32⟩
  | 27 => ⟨S16384x1024, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_c : Ref sig .tc := ⟨.hbm, 41, rfl⟩
abbrev main_v31_0 : Ref sig .tc := ⟨.hbm, 42, rfl⟩
abbrev main_v31_1 : Ref sig .tc := ⟨.hbm, 43, rfl⟩
abbrev main_v31_2 : Ref sig .tc := ⟨.hbm, 44, rfl⟩
abbrev main_v31_3 : Ref sig .tc := ⟨.hbm, 45, rfl⟩
abbrev main_v31_4 : Ref sig .tc := ⟨.hbm, 46, rfl⟩
abbrev main_while0c_c_21 : Ref sig .tc := ⟨.hbm, 47, rfl⟩
abbrev main_while0c_v109 : Ref sig .tc := ⟨.hbm, 48, rfl⟩
abbrev main_while0b_call0_c : Ref sig .tc := ⟨.hbm, 49, rfl⟩
abbrev main_while0b_call0_c_0 : Ref sig .tc := ⟨.hbm, 50, rfl⟩
abbrev main_while0b_call0_c_1 : Ref sig .tc := ⟨.hbm, 51, rfl⟩
abbrev main_while0b_call0_v0 : Ref sig .tc := ⟨.hbm, 52, rfl⟩
abbrev main_while0b_v109 : Ref sig .tc := ⟨.hbm, 53, rfl⟩
abbrev main_while0b_v110 : Ref sig .tc := ⟨.hbm, 54, rfl⟩
abbrev main_while0b_v111 : Ref sig .tc := ⟨.hbm, 55, rfl⟩
abbrev main_while0b_v112 : Ref sig .tc := ⟨.hbm, 56, rfl⟩
abbrev main_while0b_v113 : Ref sig .tc := ⟨.hbm, 57, rfl⟩
abbrev main_while0b_call1_v0 : Ref sig .tc := ⟨.hbm, 58, rfl⟩
abbrev main_while0b_call1_c : Ref sig .tc := ⟨.hbm, 59, rfl⟩
abbrev main_while0b_call1_c_0 : Ref sig .tc := ⟨.hbm, 60, rfl⟩
abbrev main_while0b_call1_c_1 : Ref sig .tc := ⟨.hbm, 61, rfl⟩
abbrev main_while0b_v114 : Ref sig .tc := ⟨.hbm, 62, rfl⟩
abbrev main_while0b_c_21 : Ref sig .tc := ⟨.hbm, 63, rfl⟩
abbrev main_while0b_v115 : Ref sig .tc := ⟨.hbm, 64, rfl⟩
abbrev main_v32 : Ref sig .tc := ⟨.hbm, 65, rfl⟩
abbrev main_cst_6 : Ref sig .tc := ⟨.hbm, 66, rfl⟩
abbrev main_v33 : Ref sig .tc := ⟨.hbm, 67, rfl⟩
abbrev main_v34 : Ref sig .tc := ⟨.hbm, 68, rfl⟩
abbrev main_cst_7 : Ref sig .tc := ⟨.hbm, 69, rfl⟩
abbrev main_v35 : Ref sig .tc := ⟨.hbm, 70, rfl⟩
abbrev main_v36 : Ref sig .tc := ⟨.hbm, 71, rfl⟩
abbrev main_cst_8 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_9 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_10 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_v66 : Ref sig .tc := ⟨.hbm, 107, rfl⟩
abbrev main_v67 : Ref sig .tc := ⟨.hbm, 108, rfl⟩
abbrev main_cst_11 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_12 : Ref sig .tc := ⟨.hbm, 131, rfl⟩
abbrev main_v89 : Ref sig .tc := ⟨.hbm, 132, rfl⟩
abbrev main_v90 : Ref sig .tc := ⟨.hbm, 133, rfl⟩
abbrev main_cst_13 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_14 : Ref sig .tc := ⟨.hbm, 140, rfl⟩
abbrev main_v96 : Ref sig .tc := ⟨.hbm, 141, rfl⟩
abbrev main_v97 : Ref sig .tc := ⟨.hbm, 142, rfl⟩
abbrev main_cst_15 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_16 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S1x16384x1024 : Shape := ⟨3, ![1, 16384, 1024]⟩
abbrev S16384x512 : Shape := ⟨2, ![16384, 512]⟩
abbrev S16384x1024 : Shape := ⟨2, ![16384, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 17
  | .vmem => 20
  | .smem => 0
  | _ => 0

abbrev bufTy : (tb : Table) → Fin (tcTables nBuf tb) → BufTy
  | .hbm, ⟨0, _⟩ => ⟨S1x16384x1024, .f32⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S16384x1024, .f32⟩
  | .hbm, ⟨12, _⟩ => ⟨S512x1024, .bf16⟩
  | .hbm, ⟨13, _⟩ => ⟨S1024x1024, .bf16⟩
  | .hbm, ⟨14, _⟩ => ⟨S1024x1024, .bf16⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S1x16384x1024 : Shape := ⟨3, ![1, 16384, 1024]⟩
abbrev S16384x512 : Shape := ⟨2, ![16384, 512]⟩
abbrev S16384x1024 : Shape := ⟨2, ![16384, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S16384x512, .f32⟩
  | .hbm, ⟨12, _⟩ => ⟨S16384x512, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x512, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel3.lean ====
abbrev S1x16384x1024 : Shape := ⟨3, ![1, 16384, 1024]⟩
abbrev S1024 : Shape := ⟨1, ![1024]⟩
abbrev S1024x6936 : Shape := ⟨2, ![1024, 6936]⟩
abbrev S24 : Shape := ⟨1, ![24]⟩
abbrev S16384x1024 : Shape := ⟨2, ![16384, 1024]⟩
abbrev S1024x24 : Shape := ⟨2, ![1024, 24]⟩
abbrev S1024x2x12 : Shape := ⟨3, ![1024, 2, 12]⟩
abbrev S_ : Shape := ⟨0, ![]⟩
abbrev S1024x2x16 : Shape := ⟨3, ![1024, 2, 16]⟩
abbrev S1024x32 : Shape := ⟨2, ![1024, 32]⟩
abbrev S1024x128 : Shape := ⟨2, ![1024, 128]⟩
abbrev S1024x1280 : Shape := ⟨2, ![1024, 1280]⟩
abbrev S1024x5632 : Shape := ⟨2, ![1024, 5632]⟩
abbrev S1024x7040 : Shape := ⟨2, ![1024, 7040]⟩
abbrev S2x12 : Shape := ⟨2, ![2, 12]⟩
abbrev S2x16 : Shape := ⟨2, ![2, 16]⟩
abbrev S32 : Shape := ⟨1, ![32]⟩
abbrev S128 : Shape := ⟨1, ![128]⟩
abbrev S1x128 : Shape := ⟨2, ![1, 128]⟩
abbrev S1x1024 : Shape := ⟨2, ![1, 1024]⟩
abbrev S8 : Shape := ⟨1, ![8]⟩
abbrev S63 : Shape := ⟨1, ![63]⟩
abbrev S1 : Shape := ⟨1, ![1]⟩
abbrev S64 : Shape := ⟨1, ![64]⟩
abbrev S56 : Shape := ⟨1, ![56]⟩
abbrev S8x128 : Shape := ⟨2, ![8, 128]⟩
abbrev S512x16384 : Shape := ⟨2, ![512, 16384]⟩
abbrev S16384x128 : Shape := ⟨2, ![16384, 128]⟩
abbrev S2x16384x128 : Shape := ⟨3, ![2, 16384, 128]⟩
abbrev S2x80x16384 : Shape := ⟨3, ![2, 80, 16384]⟩
abbrev S2x16x16384 : Shape := ⟨3, ![2, 16, 16384]⟩
abbrev S16384x512 : Shape := ⟨2, ![16384, 512]⟩
abbrev S256x1024 : Shape := ⟨2, ![256, 1024]⟩
abbrev S512x256 : Shape := ⟨2, ![512, 256]⟩
abbrev S256x128 : Shape := ⟨2, ![256, 128]⟩
abbrev S2x256x128 : Shape := ⟨3, ![2, 256, 128]⟩
abbrev S2x80x256 : Shape := ⟨3, ![2, 80, 256]⟩
abbrev S2x16x256 : Shape := ⟨3, ![2, 16, 256]⟩
abbrev S256x512 : Shape := ⟨2, ![256, 512]⟩
abbrev S256 : Shape := ⟨1, ![256]⟩
abbrev S256x1 : Shape := ⟨2, ![256, 1]⟩
abbrev S16x256 : Shape := ⟨2, ![16, 256]⟩
abbrev S1024x640 : Shape := ⟨2, ![1024, 640]⟩
abbrev S256x640 : Shape := ⟨2, ![256, 640]⟩
abbrev S128x256 : Shape := ⟨2, ![128, 256]⟩
abbrev S1024x768 : Shape := ⟨2, ![1024, 768]⟩
abbrev S256x768 : Shape := ⟨2, ![256, 768]⟩
abbrev S64x256 : Shape := ⟨2, ![64, 256]⟩
abbrev S80x256 : Shape := ⟨2, ![80, 256]⟩
abbrev S1x256x128 : Shape := ⟨3, ![1, 256, 128]⟩
abbrev S1x80x256 : Shape := ⟨3, ![1, 80, 256]⟩
abbrev S1x16x256 : Shape := ⟨3, ![1, 16, 256]⟩
abbrev S1024x512 : Shape := ⟨2, ![1024, 512]⟩
abbrev S1024x1024 : Shape := ⟨2, ![1024, 1024]⟩

abbrev nBuf : Space → Nat
  | .hbm => 95
  | .vmem => 36
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x6936, .f32⟩
  | .hbm, ⟨3, _⟩ => ⟨S24, .f32⟩
  | .hbm, ⟨4, _⟩ => ⟨S16384x1024, .f32⟩
  | .hbm, ⟨5, _⟩ => ⟨S1024x24, .f32⟩
  | .hbm, ⟨6, _⟩ => ⟨S1024x2x12, .f32⟩
  | .hbm, ⟨7, _⟩ => ⟨S_, .i32⟩
  | .hbm, ⟨8, _⟩ => ⟨S_, .f32⟩
  | .hbm, ⟨9, _⟩ => ⟨S1024x2x16, .f32⟩
  | .hbm, ⟨10, _⟩ => ⟨S1024x32, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x1280, .f32⟩
  | .hbm, ⟨15, _⟩ => ⟨S1024x5632, .f32⟩
  | .hbm, ⟨16, _⟩ => ⟨S1024x7040, .f32⟩
  | .hbm, ⟨17, _⟩ => ⟨S1024x7040, .bf16⟩
  | .hbm, ⟨18, _⟩ => ⟨S2x12, .f32⟩
  | .hbm, ⟨19, _⟩ => ⟨S_, .i32⟩
  | .hbm, ⟨20, _⟩ => ⟨S_, .f32⟩
  | .hbm, ⟨21, _⟩ => ⟨S2x16, .f32⟩
  | .hbm, ⟨22, _⟩ => ⟨S32, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S1x1024, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S63, .f32⟩
  | .hbm, ⟨52, _⟩ => ⟨S_, .f32⟩
  | .hbm, ⟨53, _⟩ => ⟨S63, .f32⟩
  | .hbm, ⟨54, _⟩ => ⟨S63, .f32⟩
  | .hbm, ⟨55, _⟩ => ⟨S1, .f32⟩
  | .hbm, ⟨56, _⟩ => ⟨S_, .f32⟩
  | .hbm, ⟨57, _⟩ => ⟨S63, .f32⟩
  | .hbm, ⟨58, _⟩ => ⟨S63, .f32⟩
  | .hbm, ⟨59, _⟩ => ⟨S63, .f32⟩
  | .hbm, ⟨60, _⟩ => ⟨S63, .f32⟩
  | .hbm, ⟨61, _⟩ => ⟨S1, .f32⟩
  | .hbm, ⟨62, _⟩ => ⟨S63, .f32⟩
  | .hbm, ⟨63, _⟩ => ⟨S63, .f32⟩
  | .hbm, ⟨64, _⟩ => ⟨S63, .f32⟩
  | .hbm, ⟨65, _⟩ => ⟨S1, .f32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S_, .f32⟩
  | .hbm, ⟨74, _⟩ => ⟨S56, .f32⟩
  | .hbm, ⟨75, _⟩ => ⟨S128, .f32⟩
  | .hbm, ⟨76, _⟩ => ⟨S1x128, .f32⟩
  | .hbm, ⟨77, _⟩ => ⟨S_, .i32⟩
  | .hbm, ⟨78, _⟩ => ⟨S_, .f32⟩
  | .hbm, ⟨79, _⟩ => ⟨S8x128, .f32⟩
  | .hbm, ⟨80, _⟩ => ⟨S512x16384, .f32⟩
  | .hbm, ⟨81, _⟩ => ⟨S16384x128, .f32⟩
  | .hbm, ⟨82, _⟩ => ⟨S16384x128, .f32⟩
  | .hbm, ⟨83, _⟩ => ⟨S2x16384x128, .bf16⟩
  | .hbm, ⟨84, _⟩ => ⟨S2x80x16384, .bf16⟩
  | .hbm, ⟨85, _⟩ => ⟨S2x16384x128, .bf16⟩
  | .hbm, ⟨86, _⟩ => ⟨S2x80x16384, .bf16⟩
  | .hbm, ⟨87, _⟩ => ⟨S2x16x16384, .f32⟩
  | .hbm, ⟨88, _⟩ => ⟨S16384x512, .bf16⟩
  | .hbm, ⟨89, _⟩ => ⟨S16384x512, .bf16⟩
  | .hbm, ⟨90, _⟩ => ⟨S16384x512, .bf16⟩
  | .hbm, ⟨91, _⟩ => ⟨S16384x1024, .bf16⟩
  | .hbm, ⟨92, _⟩ => ⟨S16384x1024, .bf16⟩
  | .hbm, ⟨93, _⟩ => ⟨S16384x1024, .bf16⟩
  | .hbm, ⟨94, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7040, .bf16⟩
  | .local _ .vmem, ⟨4, _⟩ => ⟨S1x128, .f32⟩
  | .local _ .vmem, ⟨5, _⟩ => ⟨S8x128, .f32⟩
  | .local _ .vmem, ⟨6, _⟩ => ⟨S512x256, .f32⟩
  | .local _ .vmem, ⟨7, _⟩ => ⟨S512x256, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S2x256x128, .bf16⟩
  | .local _ .vmem, ⟨13, _⟩ => ⟨S2x256x128, .bf16⟩
  | .local _ .vmem, ⟨14, _⟩ => ⟨S2x80x256, .bf16⟩
  | .local _ .vmem, ⟨15, _⟩ => ⟨S2x80x256, .bf16⟩
  | .local _ .vmem, ⟨16, _⟩ => ⟨S2x256x128, .bf16⟩
  | .local _ .vmem, ⟨17, _⟩ => ⟨S2x256x128, .bf16⟩
  | .local _ .vmem, ⟨18, _⟩ => ⟨S2x80x256, .bf16⟩
  | .local _ .vmem, ⟨19, _⟩ => ⟨S2x80x256, .bf16⟩
  | .local _ .vmem, ⟨20, _⟩ => ⟨S2x16x256, .f32⟩
  | .local _ .vmem, ⟨21, _⟩ => ⟨S2x16x256, .f32⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call2_v0 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_call3_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_cst_8 : Ref sig .tc := ⟨.hbm, 45, rfl⟩
abbrev main_call4_v0 : Ref sig .tc := ⟨.hbm, 46, rfl⟩
abbrev main_call4_v1 : Ref sig .tc := ⟨.hbm, 47, rfl⟩
abbrev main_call4_v2 : Ref sig .tc := ⟨.hbm, 48, rfl⟩
abbrev main_call4_cst : Ref sig .tc := ⟨.hbm, 49, rfl⟩
abbrev main_call4_v3 : Ref sig .tc := ⟨.hbm, 50, rfl⟩
abbrev main_call4_v4 : Ref sig .tc := ⟨.hbm, 51, rfl⟩
abbrev main_call4_cst_0 : Ref sig .tc := ⟨.hbm, 52, rfl⟩
abbrev main_call4_v5 : Ref sig .tc := ⟨.hbm, 53, rfl⟩
abbrev main_call4_v6 : Ref sig .tc := ⟨.hbm, 54, rfl⟩
abbrev main_call4_v7 : Ref sig .tc := ⟨.hbm, 55, rfl⟩
abbrev main_call4_cst_1 : Ref sig .tc := ⟨.hbm, 56, rfl⟩
abbrev main_call4_v8 : Ref sig .tc := ⟨.hbm, 57, rfl⟩
abbrev main_call4_v9 : Ref sig .tc := ⟨.hbm, 58, rfl⟩
abbrev main_call4_v10 : Ref sig .tc := ⟨.hbm, 59, rfl⟩
abbrev main_call4_v11 : Ref sig .tc := ⟨.hbm, 60, rfl⟩
abbrev main_call4_v12 : Ref sig .tc := ⟨.hbm, 61, rfl⟩
abbrev main_call4_v13 : Ref sig .tc := ⟨.hbm, 62, rfl⟩
abbrev main_call4_v14 : Ref sig .tc := ⟨.hbm, 63, rfl⟩
abbrev main_call4_v15 : Ref sig .tc := ⟨.hbm, 64, rfl⟩
abbrev main_call4_v16 : Ref sig .tc := ⟨.hbm, 65, rfl⟩
abbrev main_v27 : Ref sig .tc := ⟨.hbm, 66, rfl⟩
abbrev main_cst_9 : Ref sig .tc := ⟨.hbm, 67, rfl⟩
abbrev main_v28 : Ref sig .tc := ⟨.hbm, 68, rfl⟩
abbrev main_v29 : Ref sig .tc := ⟨.hbm, 69, rfl⟩
abbrev main_cst_10 : Ref sig .tc := ⟨.hbm, 70, rfl⟩
abbrev main_v30 : Ref sig .tc := ⟨.hbm, 71, rfl⟩
abbrev main_v31 : Ref sig .tc := ⟨.hbm, 72, rfl⟩
abbrev main_cst_11 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_c_12 : Ref sig .tc := ⟨.hbm, 77, rfl⟩
abbrev main_call5_v0 : Ref sig .tc := ⟨.hbm, 78, rfl⟩
abbrev main_v35 : Ref sig .tc := ⟨.hbm, 79, rfl⟩
abbrev main_v36_0 : Ref sig .tc := ⟨.hbm, 80, rfl⟩
abbrev main_v36_1 : Ref sig .tc := ⟨.hbm, 81, rfl⟩
abbrev main_v36_2 : Ref sig .tc := ⟨.hbm, 82, rfl⟩
abbrev main_v36_3 : Ref sig .tc := ⟨.hbm, 83, rfl⟩
abbrev main_v36_4 : Ref sig .tc := ⟨.hbm, 84, rfl⟩
abbrev main_v36_5 : Ref sig .tc := ⟨.hbm, 85, rfl⟩
abbrev main_v36_6 : Ref sig .tc := ⟨.hbm, 86, rfl⟩
abbrev main_v36_7 : Ref sig .tc := ⟨.hbm, 87, rfl⟩
abbrev main_v36_8 : Ref sig .tc := ⟨.hbm, 88, rfl⟩
abbrev main_v36_9 : Ref sig .tc := ⟨.hbm, 89, rfl⟩
abbrev main_v36_10 : Ref sig .tc := ⟨.hbm, 90, rfl⟩
abbrev main_v36_11 : Ref sig .tc := ⟨.hbm, 91, rfl⟩
abbrev main_v36_12 : Ref sig .tc := ⟨.hbm, 92, rfl⟩
abbrev main_v36_13 : Ref sig .tc := ⟨.hbm, 93, rfl⟩
abbrev main_v36_14 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7040 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x80x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x80x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x16x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S1x16384x1024 : Shape := ⟨3, ![1, 16384, 1024]⟩
abbrev S1024 : Shape := ⟨1, ![1024]⟩
abbrev S1024x6936 : Shape := ⟨2, ![1024, 6936]⟩
abbrev S24 : Shape := ⟨1, ![24]⟩
abbrev S16384 : Shape := ⟨1, ![16384]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S63 : Shape := ⟨1, ![63]⟩
abbrev S1 : Shape := ⟨1, ![1]⟩
abbrev S64 : Shape := ⟨1, ![64]⟩
abbrev S1x64 : Shape := ⟨2, ![1, 64]⟩
abbrev S16384x64 : Shape := ⟨2, ![16384, 64]⟩
abbrev S1x16384 : Shape := ⟨2, ![1, 16384]⟩
abbrev S1x16384x1 : Shape := ⟨3, ![1, 16384, 1]⟩
abbrev S1x1x1024 : Shape := ⟨3, ![1, 1, 1024]⟩
abbrev S1x16384x6936 : Shape := ⟨3, ![1, 16384, 6936]⟩
abbrev S16384x6936 : Shape := ⟨2, ![16384, 6936]⟩
abbrev S16384x512 : Shape := ⟨2, ![16384, 512]⟩
abbrev S16384x128 : Shape := ⟨2, ![16384, 128]⟩
abbrev S16384x24 : Shape := ⟨2, ![16384, 24]⟩
abbrev S16384x1024 : Shape := ⟨2, ![16384, 1024]⟩
abbrev S16384x8x64 : Shape := ⟨3, ![16384, 8, 64]⟩
abbrev S16384x1x8 : Shape := ⟨3, ![16384, 1, 8]⟩
abbrev S16384x8x8 : Shape := ⟨3, ![16384, 8, 8]⟩
abbrev S16384x8x48 : Shape := ⟨3, ![16384, 8, 48]⟩
abbrev S16384x2x64 : Shape := ⟨3, ![16384, 2, 64]⟩
abbrev S16384x2x8 : Shape := ⟨3, ![16384, 2, 8]⟩
abbrev S16384x2x48 : Shape := ⟨3, ![16384, 2, 48]⟩
abbrev S1x24 : Shape := ⟨2, ![1, 24]⟩
abbrev S16384x8x3 : Shape := ⟨3, ![16384, 8, 3]⟩
abbrev S16384x4x128 : Shape := ⟨3, ![16384, 4, 128]⟩
abbrev S16384x1x64 : Shape := ⟨3, ![16384, 1, 64]⟩
abbrev S16384x4x64 : Shape := ⟨3, ![16384, 4, 64]⟩
abbrev S16384x4x0 : Shape := ⟨3, ![16384, 4, 0]⟩
abbrev S16 : Shape := ⟨1, ![16]⟩
abbrev S16x1 : Shape := ⟨2, ![16, 1]⟩
abbrev S2x16x16384 : Shape := ⟨3, ![2, 16, 16384]⟩
abbrev S1x16x1 : Shape := ⟨3, ![1, 16, 1]⟩
abbrev S16384x2x12 : Shape := ⟨3, ![16384, 2, 12]⟩
abbrev S16384x2x16 : Shape := ⟨3, ![16384, 2, 16]⟩
abbrev S512x16384 : Shape := ⟨2, ![512, 16384]⟩
abbrev S16384x2x128 : Shape := ⟨3, ![16384, 2, 128]⟩
abbrev S2x16384x128 : Shape := ⟨3, ![2, 16384, 128]⟩
abbrev S2x64x16384 : Shape := ⟨3, ![2, 64, 16384]⟩
abbrev S2x80x16384 : Shape := ⟨3, ![2, 80, 16384]⟩

abbrev nBuf : Space → Nat
  | .hbm => 355
  | .vmem => 0
  | .smem => 0
  | _ => 0

abbrev hbmTy0_0 (i : Nat) : BufTy := match i % 128 with
  | 0 => ⟨S1x16384x1024, .f32⟩
  | 1 => ⟨S1024, .f32⟩
  | 2 => ⟨S1024x6936, .f32⟩
  | 3 => ⟨S24, .f32⟩
  | 4 => ⟨S16384, .f32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S16384x1, .f32⟩
  | 22 => ⟨S1x8, .f32⟩
  | 23 => ⟨S16384x8, .f32⟩
  | 24 => ⟨S16384x8, .f32⟩
  | 25 => ⟨S16384x8, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S63, .f32⟩
  | 34 => ⟨S_, .f32⟩
  | 35 => ⟨S63, .f32⟩
  | 36 => ⟨S63, .f32⟩
  | 37 => ⟨S1, .f32⟩
  | 38 => ⟨S_, .f32⟩
  | 39 => ⟨S63, .f32⟩
  | 40 => ⟨S63, .f32⟩
  | 41 => ⟨S63, .f32⟩
  | 42 => ⟨S63, .f32⟩
  | 43 => ⟨S1, .f32⟩
  | 44 => ⟨S63, .f32⟩
  | 45 => ⟨S63, .f32⟩
  | 46 => ⟨S63, .f32⟩
  | 47 => ⟨S1, .f32⟩
  | 48 => ⟨S64, .f32⟩
  | 49 => ⟨S_, .f32⟩
  | 50 => ⟨S64, .f32⟩
  | 51 => ⟨S64, .f32⟩
  | 52 => ⟨S_, .f32⟩
  | 53 => ⟨S64, .f32⟩
  | 54 => ⟨S64, .f32⟩
  | 55 => ⟨S16384x1, .f32⟩
  | 56 => ⟨S1x64, .f32⟩
  | 57 => ⟨S16384x64, .f32⟩
  | 58 => ⟨S16384x64, .f32⟩
  | 59 => ⟨S16384x64, .f32⟩
  | 60 => ⟨S1x16384x1024, .f32⟩
  | 61 => ⟨S_, .f32⟩
  | 62 => ⟨S1x16384, .f32⟩
  | 63 => ⟨S1x16384x1, .f32⟩
  | 64 => ⟨S_, .f32⟩
  | 65 => ⟨S1x16384x1, .f32⟩
  | 66 => ⟨S1x16384x1, .f32⟩
  | 67 => ⟨S_, .f32⟩
  | 68 => ⟨S1x16384x1, .f32⟩
  | 69 => ⟨S1x16384x1, .f32⟩
  | 70 => ⟨S1x16384x1, .f32⟩
  | 71 => ⟨S1x16384x1024, .f32⟩
  | 72 => ⟨S1x16384x1024, .f32⟩
  | 73 => ⟨S1x1x1024, .f32⟩
  | 74 => ⟨S1x16384x1024, .f32⟩
  | 75 => ⟨S1x16384x1024, .f32⟩
  | 76 => ⟨S1x16384x6936, .f32⟩
  | 77 => ⟨S16384x6936, .f32⟩
  | 78 => ⟨S16384x512, .f32⟩
  | 79 => ⟨S16384x128, .f32⟩
  | 80 => ⟨S16384x128, .f32⟩
  | 81 => ⟨S16384x128, .f32⟩
  | 82 => ⟨S16384x128, .f32⟩
  | 83 => ⟨S16384x128, .f32⟩
  | 84 => ⟨S16384x128, .f32⟩
  | 85 => ⟨S16384x24, .f32⟩
  | 86 => ⟨S16384x512, .f32⟩
  | 87 => ⟨S16384x512, .f32⟩
  | 88 => ⟨S16384x512, .f32⟩
  | 89 => ⟨S16384x1024, .f32⟩
  | 90 => ⟨S16384x1024, .f32⟩
  | 91 => ⟨S16384x1024, .f32⟩
  | 92 => ⟨S16384x1024, .f32⟩
  | 93 => ⟨S16384x8x64, .f32⟩
  | 94 => ⟨S16384x8, .f32⟩
  | 95 => ⟨S16384x1x8, .f32⟩
  | 96 => ⟨S16384x8, .f32⟩
  | 97 => ⟨S16384x1x8, .f32⟩
  | 98 => ⟨S16384x8x8, .f32⟩
  | 99 => ⟨S16384x8x8, .f32⟩
  | 100 => ⟨S16384x8x8, .f32⟩
  | 101 => ⟨S16384x8x8, .f32⟩
  | 102 => ⟨S16384x8x8, .f32⟩
  | 103 => ⟨S16384x8x8, .f32⟩
  | 104 => ⟨S16384x8x8, .f32⟩
  | 105 => ⟨S16384x8x8, .f32⟩
  | 106 => ⟨S16384x8x8, .f32⟩
  | 107 => ⟨S16384x8x8, .f32⟩
  | 108 => ⟨S16384x8x8, .f32⟩
  | 109 => ⟨S16384x8x8, .f32⟩
  | 110 => ⟨S16384x8x48, .f32⟩
  | 111 => ⟨S16384x8x64, .f32⟩
  | 112 => ⟨S_, .f32⟩
  | 113 => ⟨S16384x8x64, .f32⟩
  | 114 => ⟨S16384x8x64, .f32⟩
  | 115 => ⟨S16384x2x64, .f32⟩
  | 116 => ⟨S16384x8, .f32⟩
  | 117 => ⟨S16384x1x8, .f32⟩
  | 118 => ⟨S16384x8, .f32⟩
  | 119 => ⟨S16384x1x8, .f32⟩
  | 120 => ⟨S16384x2x8, .f32⟩
  | 121 => ⟨S16384x2x8, .f32⟩
  | 122 => ⟨S16384x2x8, .f32⟩
  | 123 => ⟨S16384x2x8, .f32⟩
  | 124 => ⟨S16384x2x8, .f32⟩
  | 125 => ⟨S16384x2x8, .f32⟩
  | 126 => ⟨S16384x2x8, .f32⟩
  | 127 => ⟨S16384x2x8, .f32⟩
  | _ => ⟨S1x16384x1024, .f32⟩

abbrev hbmTy0_1 (i : Nat) : BufTy := match i % 128 with
  | 0 => ⟨S16384x2x8, .f32⟩
  | 1 => ⟨S16384x2x8, .f32⟩
  | 2 => ⟨S16384x2x8, .f32⟩
  | 3 => ⟨S16384x2x8, .f32⟩
  | 4 => ⟨S16384x2x48, .f32⟩
  | 5 => ⟨S16384x2x64, .f32⟩
  | 6 => ⟨S16384x2x64, .f32⟩
  | 7 => ⟨S16384x8, .f32⟩
  | 8 => ⟨S16384x1x8, .f32⟩
  | 9 => ⟨S16384x8, .f32⟩
  | 10 => ⟨S16384x1x8, .f32⟩
  | 11 => ⟨S16384x2x8, .f32⟩
  | 12 => ⟨S16384x2x8, .f32⟩
  | 13 => ⟨S16384x2x8, .f32⟩
  | 14 => ⟨S16384x2x8, .f32⟩
  | 15 => ⟨S16384x2x8, .f32⟩
  | 16 => ⟨S16384x2x8, .f32⟩
  | 17 => ⟨S16384x2x8, .f32⟩
  | 18 => ⟨S16384x2x8, .f32⟩
  | 19 => ⟨S16384x2x8, .f32⟩
  | 20 => ⟨S16384x2x8, .f32⟩
  | 21 => ⟨S16384x2x8, .f32⟩
  | 22 => ⟨S16384x2x8, .f32⟩
  | 23 => ⟨S16384x2x48, .f32⟩
  | 24 => ⟨S16384x2x64, .f32⟩
  | 25 => ⟨S16384x2x64, .f32⟩
  | 26 => ⟨S16384x8, .f32⟩
  | 27 => ⟨S16384x1x8, .f32⟩
  | 28 => ⟨S16384x8, .f32⟩
  | 29 => ⟨S16384x1x8, .f32⟩
  | 30 => ⟨S16384x2x8, .f32⟩
  | 31 => ⟨S16384x2x8, .f32⟩
  | 32 => ⟨S16384x2x8, .f32⟩
  | 33 => ⟨S16384x2x8, .f32⟩
  | 34 => ⟨S16384x2x8, .f32⟩
  | 35 => ⟨S16384x2x8, .f32⟩
  | 36 => ⟨S16384x2x8, .f32⟩
  | 37 => ⟨S16384x2x8, .f32⟩
  | 38 => ⟨S16384x2x8, .f32⟩
  | 39 => ⟨S16384x2x8, .f32⟩
  | 40 => ⟨S16384x2x8, .f32⟩
  | 41 => ⟨S16384x2x8, .f32⟩
  | 42 => ⟨S16384x2x48, .f32⟩
  | 43 => ⟨S16384x2x64, .f32⟩
  | 44 => ⟨S1x24, .f32⟩
  | 45 => ⟨S16384x24, .f32⟩
  | 46 => ⟨S16384x24, .f32⟩
  | 47 => ⟨S16384x8x3, .f32⟩
  | 48 => ⟨S16384x4x128, .f32⟩
  | 49 => ⟨S16384x64, .f32⟩
  | 50 => ⟨S16384x1x64, .f32⟩
  | 51 => ⟨S16384x64, .f32⟩
  | 52 => ⟨S16384x1x64, .f32⟩
  | 53 => ⟨S16384x4x64, .f32⟩
  | 54 => ⟨S16384x4x64, .f32⟩
  | 55 => ⟨S16384x4x64, .f32⟩
  | 56 => ⟨S16384x4x64, .f32⟩
  | 57 => ⟨S16384x4x64, .f32⟩
  | 58 => ⟨S16384x4x64, .f32⟩
  | 59 => ⟨S16384x4x64, .f32⟩
  | 60 => ⟨S16384x4x64, .f32⟩
  | 61 => ⟨S16384x4x64, .f32⟩
  | 62 => ⟨S16384x4x64, .f32⟩
  | 63 => ⟨S16384x4x64, .f32⟩
  | 64 => ⟨S16384x4x64, .f32⟩
  | 65 => ⟨S16384x4x0, .f32⟩
  | 66 => ⟨S16384x4x128, .f32⟩
  | 67 => ⟨S16384x4x128, .f32⟩
  | 68 => ⟨S16384x64, .f32⟩
  | 69 => ⟨S16384x1x64, .f32⟩
  | 70 => ⟨S16384x64, .f32⟩
  | 71 => ⟨S16384x1x64, .f32⟩
  | 72 => ⟨S16384x4x64, .f32⟩
  | 73 => ⟨S16384x4x64, .f32⟩
  | 74 => ⟨S16384x4x64, .f32⟩
  | 75 => ⟨S16384x4x64, .f32⟩
  | 76 => ⟨S16384x4x64, .f32⟩
  | 77 => ⟨S16384x4x64, .f32⟩
  | 78 => ⟨S16384x4x64, .f32⟩
  | 79 => ⟨S16384x4x64, .f32⟩
  | 80 => ⟨S16384x4x64, .f32⟩
  | 81 => ⟨S16384x4x64, .f32⟩
  | 82 => ⟨S16384x4x64, .f32⟩
  | 83 => ⟨S16384x4x64, .f32⟩
  | 84 => ⟨S16384x4x0, .f32⟩
  | 85 => ⟨S16384x4x128, .f32⟩
  | 86 => ⟨S_, .f32⟩
  | 87 => ⟨S16384x4x128, .f32⟩
  | 88 => ⟨S16384x4x128, .f32⟩
  | 89 => ⟨S16384, .i32⟩
  | 90 => ⟨S16384x1, .i32⟩
  | 91 => ⟨S_, .i32⟩
  | 92 => ⟨S_, .i32⟩
  | 93 => ⟨S16384x1, .i32⟩
  | 94 => ⟨S16384x1, .i32⟩
  | 95 => ⟨S16384x1, .i32⟩
  | 96 => ⟨S_, .i32⟩
  | 97 => ⟨S16384x1, .i32⟩
  | 98 => ⟨S16384x1, .i1⟩
  | 99 => ⟨S16384x1, .i32⟩
  | 100 => ⟨S16384x1, .i32⟩
  | 101 => ⟨S_, .i32⟩
  | 102 => ⟨S16384x1, .i32⟩
  | 103 => ⟨S16384x1, .i1⟩
  | 104 => ⟨S16384x1, .i1⟩
  | 105 => ⟨S_, .i32⟩
  | 106 => ⟨S16384x1, .i32⟩
  | 107 => ⟨S16384x1, .i32⟩
  | 108 => ⟨S16384x1, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S16384x1, .i32⟩
  | 116 => ⟨S16384x1, .i32⟩
  | 117 => ⟨S_, .i32⟩
  | 118 => ⟨S16384x1, .i32⟩
  | 119 => ⟨S16384x1, .i1⟩
  | 120 => ⟨S_, .i32⟩
  | 121 => ⟨S16384x1, .i32⟩
  | 122 => ⟨S16384x1, .i1⟩
  | 123 => ⟨S_, .i32⟩
  | 124 => ⟨S_, .i1⟩
  | 125 => ⟨S16384x1, .i1⟩
  | 126 => ⟨S16384x1, .i1⟩
  | 127 => ⟨S16384x1, .i1⟩
  | _ => ⟨S1x16384x1024, .f32⟩

abbrev hbmTy0_2 (i : Nat) : BufTy := match i % 128 with
  | 0 => ⟨S16384x1, .i32⟩
  | 1 => ⟨S16384x1, .i32⟩
  | 2 => ⟨S16384x1, .i32⟩
  | 3 => ⟨S64, .i32⟩
  | 4 => ⟨S1x64, .i32⟩
  | 5 => ⟨S16384x64, .i32⟩
  | 6 => ⟨S16384x64, .i32⟩
  | 7 => ⟨S16384x64, .i1⟩
  | 8 => ⟨S16384x64, .f32⟩
  | 9 => ⟨S16, .i32⟩
  | 10 => ⟨S16x1, .i32⟩
  | 11 => ⟨S_, .i32⟩
  | 12 => ⟨S16x1, .i32⟩
  | 13 => ⟨S16x1, .i1⟩
  | 14 => ⟨S_, .f32⟩
  | 15 => ⟨S2x16x16384, .f32⟩
  | 16 => ⟨S16x1, .f32⟩
  | 17 => ⟨S1x16x1, .f32⟩
  | 18 => ⟨S2x16x16384, .f32⟩
  | 19 => ⟨S2x16x16384, .f32⟩
  | 20 => ⟨S16384x2x12, .f32⟩
  | 21 => ⟨S_, .i32⟩
  | 22 => ⟨S_, .f32⟩
  | 23 => ⟨S16384x2x16, .f32⟩
  | 24 => ⟨S16384x2x16, .f32⟩
  | 25 => ⟨S16384x2x16, .f32⟩
  | 26 => ⟨S_, .f32⟩
  | 27 => ⟨S16384x2x16, .f32⟩
  | 28 => ⟨S16384x2x16, .f32⟩
  | 29 => ⟨S_, .f32⟩
  | 30 => ⟨S16384x2x16, .f32⟩
  | 31 => ⟨S16384x2x16, .f32⟩
  | 32 => ⟨S2x16x16384, .f32⟩
  | 33 => ⟨S16384x512, .f32⟩
  | 34 => ⟨S512x16384, .f32⟩
  | 35 => ⟨S16384x128, .f32⟩
  | 36 => ⟨S16384x1x64, .f32⟩
  | 37 => ⟨S16384x2x64, .f32⟩
  | 38 => ⟨S16384x2x128, .f32⟩
  | 39 => ⟨S2x16384x128, .f32⟩
  | 40 => ⟨S2x16384x128, .bf16⟩
  | 41 => ⟨S16384x2x64, .f32⟩
  | 42 => ⟨S2x64x16384, .f32⟩
  | 43 => ⟨S2x80x16384, .f32⟩
  | 44 => ⟨S2x80x16384, .bf16⟩
  | 45 => ⟨S_, .f32⟩
  | 46 => ⟨S16384x64, .f32⟩
  | 47 => ⟨S16384x1x64, .f32⟩
  | 48 => ⟨S16384x2x64, .f32⟩
  | 49 => ⟨S16384x2x128, .f32⟩
  | 50 => ⟨S2x16384x128, .f32⟩
  | 51 => ⟨S2x16384x128, .bf16⟩
  | 52 => ⟨S16384x2x64, .f32⟩
  | 53 => ⟨S2x64x16384, .f32⟩
  | 54 => ⟨S2x80x16384, .f32⟩
  | 55 => ⟨S2x80x16384, .bf16⟩
  | 56 => ⟨S16384x512, .f32⟩
  | 57 => ⟨S16384x512, .f32⟩
  | 58 => ⟨S_, .f32⟩
  | 59 => ⟨S16384x512, .f32⟩
  | 60 => ⟨S16384x512, .f32⟩
  | 61 => ⟨S_, .f32⟩
  | 62 => ⟨S16384x512, .f32⟩
  | 63 => ⟨S16384x512, .f32⟩
  | 64 => ⟨S16384x512, .f32⟩
  | 65 => ⟨S16384x512, .bf16⟩
  | 66 => ⟨S16384x512, .f32⟩
  | 67 => ⟨S16384x512, .bf16⟩
  | 68 => ⟨S16384x512, .f32⟩
  | 69 => ⟨S16384x512, .bf16⟩
  | 70 => ⟨S16384x1024, .bf16⟩
  | 71 => ⟨S16384x1024, .f32⟩
  | 72 => ⟨S16384x1024, .f32⟩
  | 73 => ⟨S_, .f32⟩
  | 74 => ⟨S16384x1024, .f32⟩
  | 75 => ⟨S16384x1024, .f32⟩
  | 76 => ⟨S_, .f32⟩
  | 77 => ⟨S16384x1024, .f32⟩
  | 78 => ⟨S16384x1024, .f32⟩
  | 79 => ⟨S16384x1024, .f32⟩
  | 80 => ⟨S16384x1024, .bf16⟩
  | 81 => ⟨S16384x1024, .f32⟩
  | 82 => ⟨S16384x1024, .f32⟩
  | 83 => ⟨S_, .f32⟩
  | 84 => ⟨S16384x1024, .f32⟩
  | 85 => ⟨S16384x1024, .f32⟩
  | 86 => ⟨S_, .f32⟩
  | 87 => ⟨S16384x1024, .f32⟩
  | 88 => ⟨S16384x1024, .f32⟩
  | 89 => ⟨S16384x1024, .bf16⟩
  | 90 => ⟨S16384x1024, .f32⟩
  | 91 => ⟨S16384x1024, .f32⟩
  | 92 => ⟨S_, .f32⟩
  | 93 => ⟨S16384x1024, .f32⟩
  | 94 => ⟨S16384x1024, .f32⟩
  | 95 => ⟨S_, .f32⟩
  | 96 => ⟨S16384x1024, .f32⟩
  | 97 => ⟨S16384x1024, .f32⟩
  | 98 => ⟨S16384x1024, .bf16⟩
  | _ => ⟨S1x16384x1024, .f32⟩

abbrev hbmTy (i : Nat) : BufTy := match i / 128 with
  | 0 => hbmTy0_0 i
  | 1 => hbmTy0_1 i
  | 2 => hbmTy0_2 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_cst : Ref sig .tc := ⟨.hbm, 31, rfl⟩
abbrev main_call0_v3 : Ref sig .tc := ⟨.hbm, 32, rfl⟩
abbrev main_call0_v4 : Ref sig .tc := ⟨.hbm, 33, rfl⟩
abbrev main_call0_cst_0 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_v15 : Ref sig .tc := ⟨.hbm, 46, rfl⟩
abbrev main_call0_v16 : Ref sig .tc := ⟨.hbm, 47, rfl⟩
abbrev main_v17 : Ref sig .tc := ⟨.hbm, 48, rfl⟩
abbrev main_cst_6 : Ref sig .tc := ⟨.hbm, 49, rfl⟩
abbrev main_v18 : Ref sig .tc := ⟨.hbm, 50, rfl⟩
abbrev main_v19 : Ref sig .tc := ⟨.hbm, 51, rfl⟩
abbrev main_cst_7 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_8 : Ref sig .tc := ⟨.hbm, 61, rfl⟩
abbrev main_v28 : Ref sig .tc := ⟨.hbm, 62, rfl⟩
abbrev main_v29 : Ref sig .tc := ⟨.hbm, 63, rfl⟩
abbrev main_cst_9 : Ref sig .tc := ⟨.hbm, 64, rfl⟩
abbrev main_v30 : Ref sig .tc := ⟨.hbm, 65, rfl⟩
abbrev main_v31 : Ref sig .tc := ⟨.hbm, 66, rfl⟩
abbrev main_cst_10 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_11 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_cst_12 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_c : Ref sig .tc := ⟨.hbm, 219, rfl⟩
abbrev main_call1_v0 : Ref sig .tc := ⟨.hbm, 220, rfl⟩
abbrev main_call1_v1 : Ref sig .tc := ⟨.hbm, 221, rfl⟩
abbrev main_call1_v2 : Ref sig .tc := ⟨.hbm, 222, rfl⟩
abbrev main_call1_v3 : Ref sig .tc := ⟨.hbm, 223, rfl⟩
abbrev main_call1_v4 : Ref sig .tc := ⟨.hbm, 224, rfl⟩
abbrev main_call1_v5 : Ref sig .tc := ⟨.hbm, 225, rfl⟩
abbrev main_call1_v6 : Ref sig .tc := ⟨.hbm, 226, rfl⟩
abbrev main_call1_v7 : Ref sig .tc := ⟨.hbm, 227, rfl⟩
abbrev main_call1_v8 : Ref sig .tc := ⟨.hbm, 228, rfl⟩
abbrev main_call1_c : Ref sig .tc := ⟨.hbm, 229, rfl⟩
abbrev main_call1_v9 : Ref sig .tc := ⟨.hbm, 230, rfl⟩
abbrev main_call1_v10 : Ref sig .tc := ⟨.hbm, 231, rfl⟩
abbrev main_call1_v11 : Ref sig .tc := ⟨.hbm, 232, rfl⟩
abbrev main_call1_c_0 : Ref sig .tc := ⟨.hbm, 233, rfl⟩
abbrev main_call1_v12 : Ref sig .tc := ⟨.hbm, 234, rfl⟩
abbrev main_call1_v13 : Ref sig .tc := ⟨.hbm, 235, rfl⟩
abbrev main_v181 : Ref sig .tc := ⟨.hbm, 236, rfl⟩
abbrev main_c_13 : Ref sig .tc := ⟨.hbm, 237, rfl⟩
abbrev main_call2_v0 : Ref sig .tc := ⟨.hbm, 238, rfl⟩
abbrev main_call2_c : Ref sig .tc := ⟨.hbm, 239, rfl⟩
abbrev main_call2_v1 : Ref sig .tc := ⟨.hbm, 240, rfl⟩
abbrev main_call2_c_0 : Ref sig .tc := ⟨.hbm, 241, rfl⟩
abbrev main_call2_v2 : Ref sig .tc := ⟨.hbm, 242, rfl⟩
abbrev main_call2_v3 : Ref sig .tc := ⟨.hbm, 243, rfl⟩
abbrev main_call2_v4 : Ref sig .tc := ⟨.hbm, 244, rfl⟩
abbrev main_call2_c_1 : Ref sig .tc := ⟨.hbm, 245, rfl⟩
abbrev main_call2_v5 : Ref sig .tc := ⟨.hbm, 246, rfl⟩
abbrev main_call2_v6 : Ref sig .tc := ⟨.hbm, 247, rfl⟩
abbrev main_call2_c_2 : Ref sig .tc := ⟨.hbm, 248, rfl⟩
abbrev main_call2_v7 : Ref sig .tc := ⟨.hbm, 249, rfl⟩
abbrev main_call2_v8 : Ref sig .tc := ⟨.hbm, 250, rfl⟩
abbrev main_call2_c_3 : Ref sig .tc := ⟨.hbm, 251, rfl⟩
abbrev main_call2_v9 : Ref sig .tc := ⟨.hbm, 252, rfl⟩
abbrev main_call2_v10 : Ref sig .tc := ⟨.hbm, 253, rfl⟩
abbrev main_call2_v11 : Ref sig .tc := ⟨.hbm, 254, rfl⟩
abbrev main_call2_v12 : Ref sig .tc := ⟨.hbm, 255, rfl⟩
abbrev main_call2_v13 : Ref sig .tc := ⟨.hbm, 256, rfl⟩
abbrev main_call2_v14 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_c_14 : Ref sig .tc := ⟨.hbm, 267, rfl⟩
abbrev main_v191 : Ref sig .tc := ⟨.hbm, 268, rfl⟩
abbrev main_v192 : Ref sig .tc := ⟨.hbm, 269, rfl⟩
abbrev main_cst_15 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_c_16 : Ref sig .tc := ⟨.hbm, 277, rfl⟩
abbrev main_call3_v0 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_cst_17 : Ref sig .tc := ⟨.hbm, 282, rfl⟩
abbrev main_v202 : Ref sig .tc := ⟨.hbm, 283, rfl⟩
abbrev main_v203 : Ref sig .tc := ⟨.hbm, 284, rfl⟩
abbrev main_cst_18 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_cst_19 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_call4_v0 : Ref sig .tc := ⟨.hbm, 312, rfl⟩
abbrev main_call4_v1 : Ref sig .tc := ⟨.hbm, 313, rfl⟩
abbrev main_call4_cst : Ref sig .tc := ⟨.hbm, 314, rfl⟩
abbrev main_call4_v2 : Ref sig .tc := ⟨.hbm, 315, rfl⟩
abbrev main_call4_v3 : Ref sig .tc := ⟨.hbm, 316, rfl⟩
abbrev main_call4_cst_0 : Ref sig .tc := ⟨.hbm, 317, rfl⟩
abbrev main_call4_v4 : Ref sig .tc := ⟨.hbm, 318, rfl⟩
abbrev main_call4_v5 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_call5_v0 : Ref sig .tc := ⟨.hbm, 327, rfl⟩
abbrev main_call5_v1 : Ref sig .tc := ⟨.hbm, 328, rfl⟩
abbrev main_call5_cst : Ref sig .tc := ⟨.hbm, 329, rfl⟩
abbrev main_call5_v2 : Ref sig .tc := ⟨.hbm, 330, rfl⟩
abbrev main_call5_v3 : Ref sig .tc := ⟨.hbm, 331, rfl⟩
abbrev main_call5_cst_0 : Ref sig .tc := ⟨.hbm, 332, rfl⟩
abbrev main_call5_v4 : Ref sig .tc := ⟨.hbm, 333, rfl⟩
abbrev main_call5_v5 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_cst_20 : Ref sig .tc := ⟨.hbm, 339, rfl⟩
abbrev main_v240 : Ref sig .tc := ⟨.hbm, 340, rfl⟩
abbrev main_v241 : Ref sig .tc := ⟨.hbm, 341, rfl⟩
abbrev main_cst_21 : Ref sig .tc := ⟨.hbm, 342, rfl⟩
abbrev main_v242 : Ref sig .tc := ⟨.hbm, 343, rfl⟩
abbrev main_v243 : Ref sig .tc := ⟨.hbm, 344, rfl⟩
abbrev main_v244 : Ref sig .tc := ⟨.hbm, 345, rfl⟩
abbrev main_v245 : Ref sig .tc := ⟨.hbm, 346, rfl⟩
abbrev main_v246 : Ref sig .tc := ⟨.hbm, 347, rfl⟩
abbrev main_cst_22 : Ref sig .tc := ⟨.hbm, 348, rfl⟩
abbrev main_v247 : Ref sig .tc := ⟨.hbm, 349, rfl⟩
abbrev main_v248 : Ref sig .tc := ⟨.hbm, 350, rfl⟩
abbrev main_cst_23 : Ref sig .tc := ⟨.hbm, 351, rfl⟩
abbrev main_v249 : Ref sig .tc := ⟨.hbm, 352, rfl⟩
abbrev main_v250 : Ref sig .tc := ⟨.hbm, 353, rfl⟩
abbrev main_v251 : Ref sig .tc := ⟨.hbm, 354, rfl⟩

abbrev nD : Nat := 1
abbrev τ : Topo := Topo.v7x

variable {F : FTy → Type} [FloatOps F]
-- ==== Kernel4.lean ====
abbrev S16384x128 : Shape := ⟨2, ![16384, 128]⟩
abbrev S32x64 : Shape := ⟨2, ![32, 64]⟩
abbrev S2048x256 : Shape := ⟨2, ![2048, 256]⟩
abbrev S256x64 : Shape := ⟨2, ![256, 64]⟩
abbrev S1x2048 : Shape := ⟨2, ![1, 2048]⟩
abbrev S_ : Shape := ⟨0, ![]⟩
abbrev S8x2048 : Shape := ⟨2, ![8, 2048]⟩
abbrev S2x80x1024 : Shape := ⟨3, ![2, 80, 1024]⟩
abbrev S1x80x1024 : Shape := ⟨3, ![1, 80, 1024]⟩
abbrev S1024x128 : Shape := ⟨2, ![1024, 128]⟩
abbrev S1024x1024 : Shape := ⟨2, ![1024, 1024]⟩
abbrev S1024x256 : Shape := ⟨2, ![1024, 256]⟩
abbrev S8x256 : Shape := ⟨2, ![8, 256]⟩
abbrev S1x256 : Shape := ⟨2, ![1, 256]⟩
abbrev S1024x64 : Shape := ⟨2, ![1024, 64]⟩
abbrev S16x1024 : Shape := ⟨2, ![16, 1024]⟩
abbrev S64x1024 : Shape := ⟨2, ![64, 1024]⟩
abbrev S80x1024 : Shape := ⟨2, ![80, 1024]⟩

abbrev nBuf : Space → Nat
  | .hbm => 9
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S32x64, .f32⟩
  | .hbm, ⟨2, _⟩ => ⟨S2048x256, .f32⟩
  | .hbm, ⟨3, _⟩ => ⟨S256x64, .f32⟩
  | .hbm, ⟨4, _⟩ => ⟨S1x2048, .f32⟩
  | .hbm, ⟨5, _⟩ => ⟨S_, .i32⟩
  | .hbm, ⟨6, _⟩ => ⟨S_, .f32⟩
  | .hbm, ⟨7, _⟩ => ⟨S8x2048, .f32⟩
  | .hbm, ⟨8, _⟩ => ⟨S2x80x1024, .bf16⟩
  | .local _ .vmem, ⟨0, _⟩ => ⟨S16384x128, .f32⟩
  | .local _ .vmem, ⟨1, _⟩ => ⟨S8x2048, .f32⟩
  | .local _ .vmem, ⟨2, _⟩ => ⟨S2048x256, .f32⟩
  | .local _ .vmem, ⟨3, _⟩ => ⟨S256x64, .f32⟩
  | .local _ .vmem, ⟨4, _⟩ => ⟨S1x80x1024, .bf16⟩
  | .local _ .vmem, ⟨5, _⟩ => ⟨S1x80x1024, .bf16⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x80x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x128 : Shape := ⟨2, ![16384, 128]⟩
abbrev S32x64 : Shape := ⟨2, ![32, 64]⟩
abbrev S2048x256 : Shape := ⟨2, ![2048, 256]⟩
abbrev S256x64 : Shape := ⟨2, ![256, 64]⟩
abbrev S16384x2x64 : Shape := ⟨3, ![16384, 2, 64]⟩
abbrev S16x2x64 : Shape := ⟨3, ![16, 2, 64]⟩
abbrev S16400x2x64 : Shape := ⟨3, ![16400, 2, 64]⟩
abbrev S1024 : Shape := ⟨1, ![1024]⟩
abbrev S1024x1 : Shape := ⟨2, ![1024, 1]⟩
abbrev S_ : Shape := ⟨0, ![]⟩
abbrev S32 : Shape := ⟨1, ![32]⟩
abbrev S1x32 : Shape := ⟨2, ![1, 32]⟩
abbrev S1024x32 : Shape := ⟨2, ![1024, 32]⟩
abbrev S1024x32x1 : Shape := ⟨3, ![1024, 32, 1]⟩
abbrev S1024x32x2x64 : Shape := ⟨4, ![1024, 32, 2, 64]⟩
abbrev S1x32x1x64 : Shape := ⟨4, ![1, 32, 1, 64]⟩
abbrev S1024x2x32x64 : Shape := ⟨4, ![1024, 2, 32, 64]⟩
abbrev S1024x2x2048 : Shape := ⟨3, ![1024, 2, 2048]⟩
abbrev S1024x2x256 : Shape := ⟨3, ![1024, 2, 256]⟩
abbrev S1024x2x64 : Shape := ⟨3, ![1024, 2, 64]⟩
abbrev S16 : Shape := ⟨1, ![16]⟩
abbrev S16x1 : Shape := ⟨2, ![16, 1]⟩
abbrev S2x16x1024 : Shape := ⟨3, ![2, 16, 1024]⟩
abbrev S1x16x1 : Shape := ⟨3, ![1, 16, 1]⟩
abbrev S2x64x1024 : Shape := ⟨3, ![2, 64, 1024]⟩
abbrev S2x80x1024 : Shape := ⟨3, ![2, 80, 1024]⟩

abbrev nBuf : Space → Nat
  | .hbm => 64
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S32x64, .f32⟩
  | .hbm, ⟨2, _⟩ => ⟨S2048x256, .f32⟩
  | .hbm, ⟨3, _⟩ => ⟨S256x64, .f32⟩
  | .hbm, ⟨4, _⟩ => ⟨S16384x2x64, .f32⟩
  | .hbm, ⟨5, _⟩ => ⟨S16x2x64, .f32⟩
  | .hbm, ⟨6, _⟩ => ⟨S16400x2x64, .f32⟩
  | .hbm, ⟨7, _⟩ => ⟨S1024, .i32⟩
  | .hbm, ⟨8, _⟩ => ⟨S1024x1, .i32⟩
  | .hbm, ⟨9, _⟩ => ⟨S_, .i32⟩
  | .hbm, ⟨10, _⟩ => ⟨S1024x1, .i32⟩
  | .hbm, ⟨11, _⟩ => ⟨S1024x1, .i32⟩
  | .hbm, ⟨12, _⟩ => ⟨S32, .i32⟩
  | .hbm, ⟨13, _⟩ => ⟨S1x32, .i32⟩
  | .hbm, ⟨14, _⟩ => ⟨S1024x32, .i32⟩
  | .hbm, ⟨15, _⟩ => ⟨S1024x32, .i32⟩
  | .hbm, ⟨16, _⟩ => ⟨S1024x32, .i32⟩
  | .hbm, ⟨17, _⟩ => ⟨S_, .i32⟩
  | .hbm, ⟨18, _⟩ => ⟨S1024x32, .i32⟩
  | .hbm, ⟨19, _⟩ => ⟨S1024x32, .i1⟩
  | .hbm, ⟨20, _⟩ => ⟨S_, .i32⟩
  | .hbm, ⟨21, _⟩ => ⟨S1024x32, .i32⟩
  | .hbm, ⟨22, _⟩ => ⟨S1024x32, .i32⟩
  | .hbm, ⟨23, _⟩ => ⟨S1024x32, .i32⟩
  | .hbm, ⟨24, _⟩ => ⟨S1024x32x1, .i32⟩
  | .hbm, ⟨25, _⟩ => ⟨S1024x32x2x64, .f32⟩
  | .hbm, ⟨26, _⟩ => ⟨S1x32x1x64, .f32⟩
  | .hbm, ⟨27, _⟩ => ⟨S1024x32x2x64, .f32⟩
  | .hbm, ⟨28, _⟩ => ⟨S1024x32x2x64, .f32⟩
  | .hbm, ⟨29, _⟩ => ⟨S1024x2x32x64, .f32⟩
  | .hbm, ⟨30, _⟩ => ⟨S1024x2x2048, .f32⟩
  | .hbm, ⟨31, _⟩ => ⟨S1024x2x256, .f32⟩
  | .hbm, ⟨32, _⟩ => ⟨S1024x2x256, .f32⟩
  | .hbm, ⟨33, _⟩ => ⟨S1024x2x256, .f32⟩
  | .hbm, ⟨34, _⟩ => ⟨S_, .f32⟩
  | .hbm, ⟨35, _⟩ => ⟨S1024x2x256, .f32⟩
  | .hbm, ⟨36, _⟩ => ⟨S1024x2x256, .f32⟩
  | .hbm, ⟨37, _⟩ => ⟨S1024x2x256, .f32⟩
  | .hbm, ⟨38, _⟩ => ⟨S_, .f32⟩
  | .hbm, ⟨39, _⟩ => ⟨S1024x2x256, .f32⟩
  | .hbm, ⟨40, _⟩ => ⟨S1024x2x256, .f32⟩
  | .hbm, ⟨41, _⟩ => ⟨S1024x2x256, .f32⟩
  | .hbm, ⟨42, _⟩ => ⟨S_, .f32⟩
  | .hbm, ⟨43, _⟩ => ⟨S1024x2x256, .f32⟩
  | .hbm, ⟨44, _⟩ => ⟨S1024x2x256, .f32⟩
  | .hbm, ⟨45, _⟩ => ⟨S_, .f32⟩
  | .hbm, ⟨46, _⟩ => ⟨S1024x2x256, .f32⟩
  | .hbm, ⟨47, _⟩ => ⟨S1024x2x256, .f32⟩
  | .hbm, ⟨48, _⟩ => ⟨S1024x2x256, .f32⟩
  | .hbm, ⟨49, _⟩ => ⟨S1024x2x64, .f32⟩
  | .hbm, ⟨50, _⟩ => ⟨S16, .i32⟩
  | .hbm, ⟨51, _⟩ => ⟨S16x1, .i32⟩
  | .hbm, ⟨52, _⟩ => ⟨S_, .i32⟩
  | .hbm, ⟨53, _⟩ => ⟨S16x1, .i32⟩
  | .hbm, ⟨54, _⟩ => ⟨S16x1, .i1⟩
  | .hbm, ⟨55, _⟩ => ⟨S_, .f32⟩
  | .hbm, ⟨56, _⟩ => ⟨S2x16x1024, .f32⟩
  | .hbm, ⟨57, _⟩ => ⟨S16x1, .f32⟩
  | .hbm, ⟨58, _⟩ => ⟨S1x16x1, .f32⟩
  | .hbm, ⟨59, _⟩ => ⟨S2x16x1024, .f32⟩
  | .hbm, ⟨60, _⟩ => ⟨S2x16x1024, .f32⟩
  | .hbm, ⟨61, _⟩ => ⟨S2x64x1024, .f32⟩
  | .hbm, ⟨62, _⟩ => ⟨S2x80x1024, .f32⟩
  | .hbm, ⟨63, _⟩ => ⟨S2x80x1024, .bf16⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Proof.RetBody.lean ====
/- What the retention kernel's body leaves at one grid point, in both of its cases, as one formula: for each head the
   state is carried over the four stretches of 256 rows, and each stretch of the output is the normalised sum of what
   the queries see of their own stretch and of the state before it. -/
module

public import proofs.«01_k».proof.Proof.Gen.KernelIdeal.Value
public import Idealize.ShloMosaic.Lib.Pipeline.ReadBack

@[expose] public section

set_option maxRecDepth 16384

noncomputable section

namespace Cert.KernelIdeal.Ret

open Idealize.ShloMosaic Idealize.ShloMosaic.TcCoe Idealize.ShloMosaic.Tactic Idealize.SL.Sem
open Cert.KernelIdeal Cert.KernelIdeal.Gen

variable {F : FTy → Type} [FloatOps F] [Named F]

/-! ## The boxes the body reads and writes -/

theorem inb_h {a b : ℕ} (h : Fin 4) : ∀ x, (![h.val, 0, 0] : Fin 3 → ℕ) x + (⟨3, ![1, a, b]⟩ : Shape).size x ≤ (⟨3, ![4, a, b]⟩ : Shape).size x := by
  intro x; have := h.isLt
  match x with
  | ⟨0, _⟩ => show h.val + 1 ≤ 4; omega
  | ⟨1, _⟩ => show 0 + a ≤ a; omega
  | ⟨2, _⟩ => show 0 + b ≤ b; omega

theorem inb_sh {w : ℕ} (s h : Fin 4) : ∀ x, (![256 * s.val, w * h.val] : Fin 2 → ℕ) x + (⟨2, ![256, w]⟩ : Shape).size x ≤ (⟨2, ![1024, w * 4]⟩ : Shape).size x := by
  intro x; have := s.isLt; have := h.isLt
  match x with
  | ⟨0, _⟩ => show 256 * s.val + 256 ≤ 1024; omega
  | ⟨1, _⟩ => show w * h.val + w ≤ w * 4; exact (Nat.mul_succ w h.val) ▸ Nat.mul_le_mul_left w (by omega)

/-- Head `h`'s slice of the state scratch. -/
abbrev rR (h : Fin 4) : Rect S4x128x256 := Rect.unit ![h.val, 0, 0] S1x128x256.size (inb_h h)
/-- Head `h`'s slice of the decay mask. -/
abbrev rM (h : Fin 4) : Rect S4x256x256 := Rect.unit ![h.val, 0, 0] S1x256x256.size (inb_h h)
/-- Head `h`'s slice of a decay of the rows. -/
abbrev rD (h : Fin 4) : Rect S4x256x128 := Rect.unit ![h.val, 0, 0] S1x256x128.size (inb_h h)
/-- Stretch `s`, head `h` of the queries' and keys' block. -/
abbrev rQ (s h : Fin 4) : Rect S1024x512 := Rect.unit ![256 * s.val, 128 * h.val] S256x128.size (inb_sh (w := 128) s h)
/-- Stretch `s`, head `h` of the values' and the output's block. -/
abbrev rV (s h : Fin 4) : Rect S1024x1024 := Rect.unit ![256 * s.val, 256 * h.val] S256x256.size (inb_sh (w := 256) s h)

/-! ## One stretch of one head -/

/-- The state after a stretch: the decayed state before it plus the stretch's decayed keys times its values. -/
def hState (cd : F .f32) (k : Vec F S256x128 .bf16) (v : Vec F S256x256 .bf16) (r : Vec F S1x128x256 .f32) (kd : Vec F S1x256x128 .f32) : FVec F S1x128x256 .f32 :=
  shapeCast S1x128x256 (addf (mulf (broadcast S128x256 cd) (shapeCast S128x256 r shapeCasts_S1x128x256_S128x256))
    (matmul dot_S256x128_S256x256_S128x256_0_0_1_1_n_n none
      (truncf .bf16 (mulf (extf .f32 k bitsLt_bf16_f32) (shapeCast S256x128 kd shapeCasts_S1x256x128_S256x128)) bitsLt_bf16_f32) v
      (constant S128x256 .f32 0x00000000#32))) shapeCasts_S128x256_S1x128x256

/-- What a stretch's queries see: of their own stretch through the decay mask, and of the state before it. -/
def hSum (q k : Vec F S256x128 .bf16) (v : Vec F S256x256 .bf16) (r : Vec F S1x128x256 .f32) (dm : Vec F S1x256x256 .f32) (qd : Vec F S1x256x128 .f32) : FVec F S256x256 .f32 :=
  addf (matmul dot_S256x256_S256x256_S256x256_1_0_0_1_n_n none
      (truncf .bf16 (mulf (matmul dot_S256x128_S256x128_S256x256_1_1_0_0_n_n none q k (constant S256x256 .f32 0x00000000#32))
        (shapeCast S256x256 dm shapeCasts_S1x256x256_S256x256)) bitsLt_bf16_f32) v (constant S256x256 .f32 0x00000000#32))
    (matmul dot_S256x128_S128x256_S256x256_1_0_0_1_n_n none
      (truncf .bf16 (mulf (extf .f32 q bitsLt_bf16_f32) (shapeCast S256x128 qd shapeCasts_S1x256x128_S256x128)) bitsLt_bf16_f32)
      (truncf .bf16 (shapeCast S128x256 r shapeCasts_S1x128x256_S128x256) bitsLt_bf16_f32) (constant S256x256 .f32 0x00000000#32))

/-- The stretch's output: its sum, normalised row by row. -/
def hOut (q k : Vec F S256x128 .bf16) (v : Vec F S256x256 .bf16) (r : Vec F S1x128x256 .f32) (dm : Vec F S1x256x256 .f32) (qd : Vec F S1x256x128 .f32) : FVec F S256x256 .bf16 :=
  k0_pay25 (hSum q k v r dm qd)

/-- The decay of one head's state over 256 rows. -/
def cdOf : Fin 4 → F .f32
  | 0 => Named.named κ "chunk_dec0" 0x399ACCA1#32
  | 1 => Named.named κ "chunk_dec1" 0x3C9160A5#32
  | 2 => Named.named κ "chunk_dec2" 0x3E097FCE#32
  | 3 => Named.named κ "chunk_dec3" 0x3EBBFC5D#32

/-- Head `h`'s state before stretch `s` of the block, from the state `r0` before the block. -/
def st (x1 : Vec F S1024x512 .bf16) (x2 : Vec F S1024x1024 .bf16) (r0 : Vec F S1x128x256 .f32) (kd : Vec F S1x256x128 .f32) (h : Fin 4) :
    (s : ℕ) → s ≤ 4 → Vec F S1x128x256 .f32
  | 0, _ => r0
  | s + 1, hs => hState (cdOf h) (View.ld x1 (rQ ⟨s, hs⟩ h)) (View.ld x2 (rV ⟨s, hs⟩ h)) (st x1 x2 r0 kd h s (Nat.le_of_succ_le hs)) kd

/-- Stretch `s`, head `h` of the block of the output. -/
def blkOut (x0 x1 : Vec F S1024x512 .bf16) (x2 : Vec F S1024x1024 .bf16) (r0 : Vec F S1x128x256 .f32) (dm : Vec F S1x256x256 .f32)
    (qd kd : Vec F S1x256x128 .f32) (s h : Fin 4) : FVec F S256x256 .bf16 :=
  hOut (View.ld x0 (rQ s h)) (View.ld x1 (rQ s h)) (View.ld x2 (rV s h)) (st x1 x2 r0 kd h s.val (Nat.le_of_lt s.isLt)) dm qd

/-! ## A point after the first -/

set_option maxHeartbeats 4000000 in
theorem state_B (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S4x128x256 .f32) (harg5 : arg5.IsWhole) (arg6 : Memref sig .tc .vmem S4x256x256 .f32) (harg6 : arg6.IsWhole) (arg7 : Memref sig .tc .vmem S4x256x128 .f32) (harg7 : arg7.IsWhole) (arg8 : Memref sig .tc .vmem S4x256x128 .f32) (harg8 : arg8.IsWhole) (hc0 : ¬cond0_0 i)
    (x0 x1 : Vec F S1024x512 .bf16) (x2 : Vec F S1024x1024 .bf16) (xs0 : Vec F S4x128x256 .f32) (xs1 : Vec F S4x256x256 .f32) (xs2 xs3 : Vec F S4x256x128 .f32) (h : Fin 4) :
    View.ld (sout0_B_0 c i arg1 harg1 arg2 harg2 arg3 harg3 arg4 harg4 arg5 harg5 arg6 harg6 arg7 harg7 arg8 harg8 hc0 x0 x1 x2 xs0 xs1 xs2 xs3) (rR h) = st x1 x2 (View.ld xs0 (rR h)) (View.ld xs3 (rD h)) h 4 (Nat.le_refl 4) := by
  show VS0_0.readCov (kernelRun0_B c i arg1 harg1 arg2 harg2 arg3 harg3 arg4 harg4 arg5 harg5 arg6 harg6 arg7 harg7 arg8 harg8 hc0 x0 x1 x2 xs0 xs1 xs2 xs3).2.1 (rR h).toLoadRect = _
  unfold kernelRun0_B
  dsimp only
  sl_unfold_words
  fin_cases h <;>
  (repeat (refine (View.readCov_skip _ _ _ _ _ (by decide)).trans ?_)
   refine (View.readCov_cons_toLoadRect _ _ _ _).trans ?_
   simp (disch := decide) only [↓ View.readCov_skip, ↓ View.readCov_cons_toLoadRect, ↓ View.readCov_fill, View.readAt_eq_ld, harg1.read_unread, harg2.read_unread, harg3.read_unread, harg5.read_unread, harg6.read_unread, harg7.read_unread, harg8.read_unread]
   rfl)

set_option maxHeartbeats 4000000 in
theorem out_B (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S4x128x256 .f32) (harg5 : arg5.IsWhole) (arg6 : Memref sig .tc .vmem S4x256x256 .f32) (harg6 : arg6.IsWhole) (arg7 : Memref sig .tc .vmem S4x256x128 .f32) (harg7 : arg7.IsWhole) (arg8 : Memref sig .tc .vmem S4x256x128 .f32) (harg8 : arg8.IsWhole) (hc0 : ¬cond0_0 i)
    (x0 x1 : Vec F S1024x512 .bf16) (x2 : Vec F S1024x1024 .bf16) (xs0 : Vec F S4x128x256 .f32) (xs1 : Vec F S4x256x256 .f32) (xs2 xs3 : Vec F S4x256x128 .f32) (s h : Fin 4) :
    View.ld (out0_B_3 c i arg1 harg1 arg2 harg2 arg3 harg3 arg4 harg4 arg5 harg5 arg6 harg6 arg7 harg7 arg8 harg8 hc0 x0 x1 x2 xs0 xs1 xs2 xs3) (rV s h)
      = blkOut x0 x1 x2 (View.ld xs0 (rR h)) (View.ld xs1 (rM h)) (View.ld xs2 (rD h)) (View.ld xs3 (rD h)) s h := by
  show VO0_3.readCov (kernelRun0_B c i arg1 harg1 arg2 harg2 arg3 harg3 arg4 harg4 arg5 harg5 arg6 harg6 arg7 harg7 arg8 harg8 hc0 x0 x1 x2 xs0 xs1 xs2 xs3).1 (rV s h).toLoadRect = _
  unfold kernelRun0_B
  dsimp only
  sl_unfold_words
  fin_cases s <;> fin_cases h <;>
  (repeat (refine (View.readCov_skip _ _ _ _ _ (by decide)).trans ?_)
   refine (View.readCov_cons_toLoadRect _ _ _ _).trans ?_
   simp (disch := decide) only [↓ View.readCov_skip, ↓ View.readCov_cons_toLoadRect, ↓ View.readCov_fill, View.readAt_eq_ld, harg1.read_unread, harg2.read_unread, harg3.read_unread, harg5.read_unread, harg6.read_unread, harg7.read_unread, harg8.read_unread]
   rfl)

/-! ## The first point: the tables, and the empty state -/

/-- The logarithm of one head's rate. -/
def lgOf : Fin 4 → F .f32
  | 0 => Named.named κ "log_g0" 0xBD020AEC#32
  | 1 => Named.named κ "log_g1" 0xBC8102B3#32
  | 2 => Named.named κ "log_g2" 0xBC0080AC#32
  | 3 => Named.named κ "log_g3" 0xBB80402B#32

/-- The decay mask. -/
def dm0 (h : Fin 4) : Vec F S1x256x256 .f32 :=
  shapeCast S1x256x256 (select (cmpf .oge (k0_pay4 (F := F)) (broadcast S256x256 (Scalar.ofBits .f32 0x00000000#32)))
    (exp (mulf (maximumf (k0_pay4 (F := F)) (broadcast S256x256 (Scalar.ofBits .f32 0x00000000#32))) (broadcast S256x256 (lgOf h))))
    (broadcast S256x256 (Scalar.ofBits .f32 0x00000000#32))) shapeCasts_S256x256_S1x256x256

/-- The queries' decay. -/
def qd0 (h : Fin 4) : Vec F S1x256x128 .f32 :=
  shapeCast S1x256x128 (exp (mulf (addf (k0_pay5 (F := F)) (broadcast S256x128 (Scalar.ofBits .f32 0x3F800000#32))) (broadcast S256x128 (lgOf h)))) shapeCasts_S256x128_S1x256x128

/-- The keys' decay. -/
def kd0 (h : Fin 4) : Vec F S1x256x128 .f32 :=
  shapeCast S1x256x128 (exp (mulf (subf (broadcast S256x128 (Scalar.ofBits .f32 0x437F0000#32)) (k0_pay5 (F := F))) (broadcast S256x128 (lgOf h)))) shapeCasts_S256x128_S1x256x128

/-- The state before the first row. -/
def z0 : Vec F S1x128x256 .f32 := fun _ => Scalar.ofBits .f32 0x00000000#32

section
variable (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S4x128x256 .f32) (harg5 : arg5.IsWhole) (arg6 : Memref sig .tc .vmem S4x256x256 .f32) (harg6 : arg6.IsWhole) (arg7 : Memref sig .tc .vmem S4x256x128 .f32) (harg7 : arg7.IsWhole) (arg8 : Memref sig .tc .vmem S4x256x128 .f32) (harg8 : arg8.IsWhole) (hc0 : cond0_0 i) (x0 x1 : Vec F S1024x512 .bf16) (x2 : Vec F S1024x1024 .bf16)

set_option maxHeartbeats 4000000 in
theorem mask_A (h : Fin 4) : View.ld (sout0_A_1 c i arg1 harg1 arg2 harg2 arg3 harg3 arg4 harg4 arg5 harg5 arg6 harg6 arg7 harg7 arg8 harg8 hc0 x0 x1 x2) (rM h) = dm0 h := by
  show VS0_1.readCov (kernelRun0_A c i arg1 harg1 arg2 harg2 arg3 harg3 arg4 harg4 arg5 harg5 arg6 harg6 arg7 harg7 arg8 harg8 hc0 x0 x1 x2).2.2.1 (rM h).toLoadRect = _
  unfold kernelRun0_A
  dsimp only
  sl_unfold_words
  fin_cases h <;>
  (repeat (refine (View.readCov_skip _ _ _ _ _ (by decide)).trans ?_)
   refine (View.readCov_cons_toLoadRect _ _ _ _).trans ?_
   rfl)

set_option maxHeartbeats 4000000 in
theorem qdec_A (h : Fin 4) : View.ld (sout0_A_2 c i arg1 harg1 arg2 harg2 arg3 harg3 arg4 harg4 arg5 harg5 arg6 harg6 arg7 harg7 arg8 harg8 hc0 x0 x1 x2) (rD h) = qd0 h := by
  show VS0_2.readCov (kernelRun0_A c i arg1 harg1 arg2 harg2 arg3 harg3 arg4 harg4 arg5 harg5 arg6 harg6 arg7 harg7 arg8 harg8 hc0 x0 x1 x2).2.2.2.1 (rD h).toLoadRect = _
  unfold kernelRun0_A
  dsimp only
  sl_unfold_words
  fin_cases h <;>
  (repeat (refine (View.readCov_skip _ _ _ _ _ (by decide)).trans ?_)
   refine (View.readCov_cons_toLoadRect _ _ _ _).trans ?_
   rfl)

set_option maxHeartbeats 4000000 in
theorem kdec_A (h : Fin 4) : View.ld (sout0_A_3 c i arg1 harg1 arg2 harg2 arg3 harg3 arg4 harg4 arg5 harg5 arg6 harg6 arg7 harg7 arg8 harg8 hc0 x0 x1 x2) (rD h) = kd0 h := by
  show VS0_3.readCov (kernelRun0_A c i arg1 harg1 arg2 harg2 arg3 harg3 arg4 harg4 arg5 harg5 arg6 harg6 arg7 harg7 arg8 harg8 hc0 x0 x1 x2).2.2.2.2.1 (rD h).toLoadRect = _
  unfold kernelRun0_A
  dsimp only
  sl_unfold_words
  fin_cases h <;>
  (repeat (refine (View.readCov_skip _ _ _ _ _ (by decide)).trans ?_)
   refine (View.readCov_cons_toLoadRect _ _ _ _).trans ?_
   rfl)

set_option maxHeartbeats 4000000 in
theorem state_A (h : Fin 4) : View.ld (sout0_A_0 c i arg1 harg1 arg2 harg2 arg3 harg3 arg4 harg4 arg5 harg5 arg6 harg6 arg7 harg7 arg8 harg8 hc0 x0 x1 x2) (rR h) = st x1 x2 z0 (kd0 h) h 4 (Nat.le_refl 4) := by
  show VS0_0.readCov (kernelRun0_A c i arg1 harg1 arg2 harg2 arg3 harg3 arg4 harg4 arg5 harg5 arg6 harg6 arg7 harg7 arg8 harg8 hc0 x0 x1 x2).2.1 (rR h).toLoadRect = _
  unfold kernelRun0_A
  dsimp only
  sl_unfold_words
  fin_cases h <;>
  (repeat (refine (View.readCov_skip _ _ _ _ _ (by decide)).trans ?_)
   refine (View.readCov_cons_toLoadRect _ _ _ _).trans ?_
   simp (disch := decide) only [↓ View.readCov_skip, ↓ View.readCov_cons_toLoadRect, ↓ View.readCov_fill, View.readAt_eq_ld, harg1.read_unread, harg2.read_unread, harg3.read_unread]
   rfl)

set_option maxHeartbeats 4000000 in
theorem out_A (s h : Fin 4) : View.ld (out0_A_3 c i arg1 harg1 arg2 harg2 arg3 harg3 arg4 harg4 arg5 harg5 arg6 harg6 arg7 harg7 arg8 harg8 hc0 x0 x1 x2) (rV s h) = blkOut x0 x1 x2 z0 (dm0 h) (qd0 h) (kd0 h) s h := by
  show VO0_3.readCov (kernelRun0_A c i arg1 harg1 arg2 harg2 arg3 harg3 arg4 harg4 arg5 harg5 arg6 harg6 arg7 harg7 arg8 harg8 hc0 x0 x1 x2).1 (rV s h).toLoadRect = _
  unfold kernelRun0_A
  dsimp only
  sl_unfold_words
  fin_cases s <;> fin_cases h <;>
  (repeat (refine (View.readCov_skip _ _ _ _ _ (by decide)).trans ?_)
   refine (View.readCov_cons_toLoadRect _ _ _ _).trans ?_
   simp (disch := decide) only [↓ View.readCov_skip, ↓ View.readCov_cons_toLoadRect, ↓ View.readCov_fill, View.readAt_eq_ld, harg1.read_unread, harg2.read_unread, harg3.read_unread]
   rfl)

end

end Cert.KernelIdeal.Ret

end
-- ==== Proof.Decay.lean ====
/- Retention with one decay rate, over the reals: the sum over all earlier rows, and how it is had chunk by chunk from
   a state carried over the chunks, for any length of chunk. -/
module

public import Idealize.ShloMosaic.PureOps.Ideal
public import Mathlib.Algebra.BigOperators.Intervals
public import Mathlib.Algebra.BigOperators.Fin
public import Mathlib.Tactic.Ring

@[expose] public section

noncomputable section

namespace Cert.Decay

open Finset

/-- The decayed sum of the first `N` terms. -/
def state (γ : ℝ) (f : ℕ → ℝ) (N : ℕ) : ℝ := ∑ j ∈ range N, γ ^ (N - 1 - j) * f j

/-- What row `i` sees: of each row `j ≤ i`, the score of the two rows times `j`'s value, decayed by their distance. -/
def sees (γ : ℝ) {D : ℕ} (q k : ℕ → Fin D → ℝ) (v : ℕ → ℝ) (i : ℕ) : ℝ :=
  ∑ j ∈ range (i + 1), γ ^ (i - j) * (∑ d, q i d * k j d) * v j

theorem state_zero (γ : ℝ) (f : ℕ → ℝ) : state γ f 0 = 0 := by simp [state]

/-- One chunk further: the decayed state plus the chunk's own decayed terms. -/
theorem state_add (γ : ℝ) (f : ℕ → ℝ) (N C : ℕ) :
    state γ f (N + C) = γ ^ C * state γ f N + ∑ b : Fin C, γ ^ (C - 1 - b.val) * f (N + b.val) := by
  unfold state
  rw [sum_range_add, mul_sum, Fin.sum_univ_eq_sum_range (fun b => γ ^ (C - 1 - b) * f (N + b)) C]
  congr 1
  · refine sum_congr rfl fun j hj => ?_
    have := mem_range.mp hj
    rw [← mul_assoc, ← pow_add]
    congr 2; omega
  · refine sum_congr rfl fun j hj => ?_
    have := mem_range.mp hj
    congr 2; omega

/-- A row of a chunk of length `C` that begins at row `N`: what it sees of its own chunk through the decay mask, plus
    what it sees of the state before the chunk, is what it sees of all rows up to it. -/
theorem chunk (γ : ℝ) {D : ℕ} (q k : ℕ → Fin D → ℝ) (v : ℕ → ℝ) (N C : ℕ) (a : Fin C) :
    (∑ b : Fin C, ((∑ d, q (N + a.val) d * k (N + b.val) d) * (if b.val ≤ a.val then γ ^ (a.val - b.val) else 0)) * v (N + b.val))
      + ∑ d, (q (N + a.val) d * γ ^ (a.val + 1)) * state γ (fun j => k j d * v j) N
      = sees γ q k v (N + a.val) := by
  unfold sees
  rw [show N + a.val + 1 = N + (a.val + 1) by ring, sum_range_add, add_comm]
  congr 1
  · unfold state
    simp only [mul_sum, sum_mul]
    rw [sum_comm]
    refine sum_congr rfl fun j hj => sum_congr rfl fun d _ => ?_
    have := mem_range.mp hj
    rw [show N + a.val - j = (a.val + 1) + (N - 1 - j) by omega, pow_add]
    ring
  · rw [Fin.sum_univ_eq_sum_range (fun b => ((∑ d, q (N + a.val) d * k (N + b) d) * (if b ≤ a.val then γ ^ (a.val - b) else 0)) * v (N + b)) C]
    have hsub : range (a.val + 1) ⊆ range C := range_subset_range.mpr a.isLt
    rw [← sum_subset hsub]
    · refine sum_congr rfl fun b hb => ?_
      have := mem_range.mp hb
      rw [if_pos (by omega), show N + a.val - (N + b) = a.val - b by omega]
      ring
    · intro b _ hb
      have : ¬ b ≤ a.val := fun h => hb (mem_range.mpr (by omega))
      rw [if_neg this]; ring

end Cert.Decay

end
-- ==== Proof.Rates.lean ====
/- The heads' decay rates, and the tables both programs make of them, as real numbers: an exponential of a whole number
   of logarithms is a power of the rate. -/
module

public import Idealize.ShloMosaic.PureOps.Ideal
public import Idealize.ShloMosaic.Lib.IdealHost
public import Mathlib.Analysis.SpecialFunctions.Pow.Real
public import Mathlib.Tactic.NormNum

@[expose] public section

noncomputable section

namespace Cert.Decay

open Idealize.ShloMosaic

/-- The heads' rates. -/
def rate : Fin 4 → ℝ
  | 0 => 31 / 32
  | 1 => 63 / 64
  | 2 => 127 / 128
  | 3 => 255 / 256

theorem rate_pos (h : Fin 4) : 0 < rate h := by fin_cases h <;> norm_num [rate]

/-- The rates by the layer's formula. -/
theorem rate_eq (h : Fin 4) : rate h = 1 - (2 : ℝ) ^ (-5 - (h.val : ℝ)) := by
  rw [show (-5 - (h.val : ℝ)) = -(((5 + h.val : ℕ) : ℝ)) by push_cast; ring, Real.rpow_neg (by norm_num), Real.rpow_natCast]
  fin_cases h <;> norm_num [rate]

/-- The exponential of `n` times the logarithm of a rate is the rate's `n`-th power. -/
theorem exp_mul_log (h : Fin 4) (n : ℕ) :
    Ideal.exp (((n : ℝ) : EReal) * ((Real.log (rate h) : ℝ) : EReal)) = ((rate h ^ n : ℝ) : EReal) := by
  rw [← EReal.coe_mul, Ideal.exp_coe, mul_comm, ← Real.rpow_def_of_pos (rate_pos h), Real.rpow_natCast]

/-- A small row number, as a signed word. -/
theorem toInt_ofNat_small {a : ℕ} (ha : a < 1024) : (BitVec.ofNat 32 a).toInt = (a : ℤ) := by
  rw [BitVec.toInt_eq_toNat_cond, BitVec.toNat_ofNat, Nat.mod_eq_of_lt (by omega), if_pos (by omega)]

/-- The difference of two small row numbers, as a signed word. -/
theorem toInt_sub_ofNat {a b : ℕ} (ha : a < 1024) (hb : b < 1024) :
    (BitVec.ofNat 32 a - BitVec.ofNat 32 b).toInt = (a : ℤ) - b := by
  rw [BitVec.toInt_sub, toInt_ofNat_small ha, toInt_ofNat_small hb]
  simp only [Int.bmod_def]
  split_ifs <;> omega

/-- The mask's entry: the rate to the distance of the two rows, nothing where the second is later. -/
theorem mask_entry (h : Fin 4) (a b : ℕ) :
    (if (0 : EReal) ≤ ((((a : ℤ) - (b : ℤ) : ℤ) : ℝ) : EReal) then
      Ideal.exp (max ((((a : ℤ) - (b : ℤ) : ℤ) : ℝ) : EReal) 0 * ((Real.log (rate h) : ℝ) : EReal)) else 0)
      = ((if b ≤ a then rate h ^ (a - b) else 0 : ℝ) : EReal) := by
  have hz : (0 : EReal) = ((0 : ℝ) : EReal) := rfl
  by_cases hab : b ≤ a
  · have e : (((a : ℤ) - (b : ℤ) : ℤ) : ℝ) = ((a - b : ℕ) : ℝ) := by rw [Nat.cast_sub hab]; push_cast; ring
    have h0 : (0 : EReal) ≤ (((a - b : ℕ) : ℝ) : EReal) := by rw [hz, EReal.coe_le_coe_iff]; exact Nat.cast_nonneg _
    rw [e, if_pos h0, if_pos hab, max_eq_left h0, exp_mul_log]
  · have h0 : ¬ (0 : EReal) ≤ ((((a : ℤ) - (b : ℤ) : ℤ) : ℝ) : EReal) := by
      rw [hz, EReal.coe_le_coe_iff, not_le]
      exact_mod_cast (by omega : (a : ℤ) - b < 0)
    rw [if_neg h0, if_neg hab, hz]

theorem ofBits_255 : Ideal.ofBits .f32 0x437F0000#32 = ((255 : ℝ) : EReal) := by
  simp [Ideal.ofBits, Ideal.ieee, -EReal.coe_mul]; norm_num
theorem ofBits_127 : Ideal.ofBits .f32 0x42FE0000#32 = ((127 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_neg5 : Ideal.ofBits .f32 0xC0A00000#32 = ((-5 : ℝ) : EReal) := by
  simp [Ideal.ofBits, Ideal.ieee, -EReal.coe_mul, -EReal.coe_neg]; norm_num

end Cert.Decay

end
-- ==== Proof.RetSpec.lean ====
/- The retention of the layer as one formula over its three arrays: row `n` of head `h` is the normalised row of the
   decayed sums over all rows up to `n`. -/
module

public import proofs.«01_k».proof.Proof.Decay
public import proofs.«01_k».proof.Proof.Rates
public import Idealize.ShloMosaic.Lib.Pointwise

@[expose] public section

noncomputable section

namespace Cert.Decay

open Idealize.ShloMosaic

/-- The queries' or keys' array, the values' or result's. -/
abbrev QS : Shape := ⟨2, ![16384, 512]⟩
abbrev VS : Shape := ⟨2, ![16384, 1024]⟩

/-- Row `n`, as an index. -/
def row (n : ℕ) : Fin 16384 := ⟨n % 16384, Nat.mod_lt _ (by norm_num)⟩
/-- Column `d` of head `h` of the queries and keys. -/
def qcol (h : Fin 4) (d : Fin 128) : Fin 512 := ⟨128 * h.val + d.val, by have := h.isLt; have := d.isLt; omega⟩
/-- Column `e` of head `h` of the values. -/
def vcol (h : Fin 4) (e : Fin 256) : Fin 1024 := ⟨256 * h.val + e.val, by have := h.isLt; have := e.isLt; omega⟩

theorem row_of_lt {n : ℕ} (h : n < 16384) : row n = ⟨n, h⟩ := Fin.ext (Nat.mod_eq_of_lt h)

/-- Every element is a real number. -/
def Real' {S : Shape} (x : S.Idx → EReal) : Prop := ∀ i, x i = ((x i).toReal : EReal)

/-- Row `n` of head `h` of the queries or keys. -/
def qk (x : QS.Idx → EReal) (h : Fin 4) (n : ℕ) (d : Fin 128) : ℝ := (x (ix2 (row n) (qcol h d))).toReal
/-- Component `e` of row `n` of head `h` of the values. -/
def vv (x : VS.Idx → EReal) (h : Fin 4) (e : Fin 256) (n : ℕ) : ℝ := (x (ix2 (row n) (vcol h e))).toReal

/-- The decayed products of key component `d` and value component `e`. -/
def kv (x1 : QS.Idx → EReal) (x2 : VS.Idx → EReal) (h : Fin 4) (d : Fin 128) (e : Fin 256) (n : ℕ) : ℝ := qk x1 h n d * vv x2 h e n

/-- The sum over all rows up to `n`. -/
def total (x0 x1 : QS.Idx → EReal) (x2 : VS.Idx → EReal) (h : Fin 4) (n : ℕ) (e : Fin 256) : ℝ :=
  sees (rate h) (qk x0 h) (qk x1 h) (vv x2 h e) n

/-- A row normalised: its mean taken off, over the root of its variance. -/
def normed (o : Fin 256 → EReal) (e : Fin 256) : EReal :=
  (o e - Ideal.div (∑ x, o x) (Ideal.ofBits .f32 0x43800000#32)) *
    Ideal.rsqrt (Ideal.div (∑ x, (o x - Ideal.div (∑ y, o y) (Ideal.ofBits .f32 0x43800000#32)) *
        (o x - Ideal.div (∑ y, o y) (Ideal.ofBits .f32 0x43800000#32))) (Ideal.ofBits .f32 0x43800000#32)
      + Ideal.ofBits .f32 0x358637BD#32)

/-- The retention at row `n`, head `h`, component `e`. -/
def retained (x0 x1 : QS.Idx → EReal) (x2 : VS.Idx → EReal) (n : ℕ) (h : Fin 4) (e : Fin 256) : EReal :=
  normed (fun y => ((total x0 x1 x2 h n y : ℝ) : EReal)) e

/-- A finite sum of real numbers, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The state after one chunk more, in the extended reals, from factors that are real numbers. -/
theorem state_step (h : Fin 4) (x1 : QS.Idx → EReal) (x2 : VS.Idx → EReal) (d : Fin 128) (e : Fin 256) (N C : ℕ) (cd r : EReal) (k w v : Fin C → EReal)
    (hcd : cd = ((rate h ^ C : ℝ) : EReal)) (hr : r = ((state (rate h) (kv x1 x2 h d e) N : ℝ) : EReal))
    (hk : ∀ b : Fin C, k b = ((qk x1 h (N + b.val) d : ℝ) : EReal)) (hw : ∀ b : Fin C, w b = ((rate h ^ (C - 1 - b.val) : ℝ) : EReal))
    (hv : ∀ b : Fin C, v b = ((vv x2 h e (N + b.val) : ℝ) : EReal)) :
    cd * r + ∑ b : Fin C, (k b * w b) * v b = ((state (rate h) (kv x1 x2 h d e) (N + C) : ℝ) : EReal) := by
  rw [state_add, EReal.coe_add, EReal.coe_mul, coe_sum, hcd, hr]
  congr 1
  refine Finset.sum_congr rfl fun b _ => ?_
  rw [hk, hw, hv, ← EReal.coe_mul, ← EReal.coe_mul, kv]
  congr 1; ring

/-- What a row of a chunk sees, in the extended reals, from factors that are real numbers. -/
theorem chunk_step (h : Fin 4) (x0 x1 : QS.Idx → EReal) (x2 : VS.Idx → EReal) (e : Fin 256) (N C : ℕ) (a : Fin C) (q r w : Fin 128 → EReal) (k : Fin C → Fin 128 → EReal) (m v : Fin C → EReal)
    (hq : ∀ d, q d = ((qk x0 h (N + a.val) d : ℝ) : EReal)) (hr : ∀ d, r d = ((state (rate h) (kv x1 x2 h d e) N : ℝ) : EReal))
    (hw : ∀ d, w d = ((rate h ^ (a.val + 1) : ℝ) : EReal))
    (hk : ∀ (b : Fin C) d, k b d = ((qk x1 h (N + b.val) d : ℝ) : EReal))
    (hm : ∀ b : Fin C, m b = ((if b.val ≤ a.val then rate h ^ (a.val - b.val) else 0 : ℝ) : EReal))
    (hv : ∀ b : Fin C, v b = ((vv x2 h e (N + b.val) : ℝ) : EReal)) :
    (∑ b : Fin C, ((∑ d, q d * k b d) * m b) * v b) + ∑ d, (q d * w d) * r d = ((total x0 x1 x2 h (N + a.val) e : ℝ) : EReal) := by
  rw [total, ← chunk (rate h) (qk x0 h) (qk x1 h) (vv x2 h e) N C a, EReal.coe_add, coe_sum, coe_sum]
  congr 1
  · refine Finset.sum_congr rfl fun b _ => ?_
    rw [hm, hv, EReal.coe_mul, EReal.coe_mul, coe_sum]
    congr 2
    refine Finset.sum_congr rfl fun d _ => ?_
    rw [hq, hk, EReal.coe_mul]
  · refine Finset.sum_congr rfl fun d _ => ?_
    rw [hq, hr, hw, EReal.coe_mul, EReal.coe_mul]
    rfl

end Cert.Decay

end
-- ==== Proof.RetKernel.lean ====
/- The retention kernel's result over the extended reals, for arrays of real numbers: by induction on the grid point, each
   head's state before a point is the decayed sum over the rows before it, so each row of the result is the layer's
   formula (`Cert.Decay.retained`). -/
module

public import proofs.«01_k».proof.Proof.RetBody
public import proofs.«01_k».proof.Proof.RetSpec
public import Idealize.ShloMosaic.Lib.Pointwise
public import Idealize.ShloMosaic.Lib.Pipeline.ValueKit.Tiles

@[expose] public section

set_option maxRecDepth 16384

noncomputable section

namespace Cert.KernelIdeal.Ret

open Idealize.ShloMosaic Idealize.ShloMosaic.TcCoe Idealize.ShloMosaic.Tactic Idealize.SL.Sem
open Cert.KernelIdeal Cert.KernelIdeal.Gen Cert.KernelIdeal.Value
open Cert.Decay

/-! ## The stretch's terms at an index -/

theorem hState_apply (cd : Ideal .f32) (k : Vec Ideal S256x128 .bf16) (v : Vec Ideal S256x256 .bf16) (r : Vec Ideal S1x128x256 .f32) (kd : Vec Ideal S1x256x128 .f32)
    (d : Fin 128) (e : Fin 256) :
    hState cd k v r kd (ix3 0 d e) = cd * r (ix3 0 d e) + ∑ b : Fin 256, (k (ix2 b d) * kd (ix3 0 b d)) * v (ix2 b e) := by
  unfold hState
  pointwise

theorem hSum_apply (q k : Vec Ideal S256x128 .bf16) (v : Vec Ideal S256x256 .bf16) (r : Vec Ideal S1x128x256 .f32) (dm : Vec Ideal S1x256x256 .f32) (qd : Vec Ideal S1x256x128 .f32)
    (a e : Fin 256) :
    hSum q k v r dm qd (ix2 a e) = (∑ b : Fin 256, ((∑ d : Fin 128, q (ix2 a d) * k (ix2 b d)) * dm (ix3 0 a b)) * v (ix2 b e))
      + ∑ d : Fin 128, (q (ix2 a d) * qd (ix3 0 a d)) * r (ix3 0 d e) := by
  unfold hSum
  pointwise

theorem norm_apply (o : FVec Ideal S256x256 .f32) (a e : Fin 256) : k0_pay25 (F := Ideal) o (ix2 a e) = normed (fun y => o (ix2 a y)) e := by
  unfold k0_pay25 normed
  pointwise

/-! ## The tables -/

theorem lg_eq (h : Fin 4) : lgOf (F := Ideal) h = ((Real.log (rate h) : ℝ) : EReal) := by
  fin_cases h <;> exact IdealRules.named_const.ideal_named_scalar _ _ _ _ rfl

theorem cd_eq (h : Fin 4) : cdOf (F := Ideal) h = ((rate h ^ 256 : ℝ) : EReal) := by
  fin_cases h <;> (refine (IdealRules.named_const.ideal_named_scalar _ _ _ _ rfl).trans ?_; refine congrArg _ ?_; norm_num [rate])

theorem dm0_apply (h : Fin 4) (a b : Fin 256) :
    dm0 (F := Ideal) h (ix3 0 a b) = ((if b.val ≤ a.val then rate h ^ (a.val - b.val) else 0 : ℝ) : EReal) := by
  rw [← mask_entry]
  unfold dm0 k0_pay4
  pointwise
  rw [lg_eq]
  show (if 0 ≤ (((BitVec.ofNat 32 a.val - BitVec.ofNat 32 b.val).toInt : ℝ) : EReal) then
    Ideal.exp (max (((BitVec.ofNat 32 a.val - BitVec.ofNat 32 b.val).toInt : ℝ) : EReal) 0 * _) else 0) = _
  rw [toInt_sub_ofNat (by have := a.isLt; omega) (by have := b.isLt; omega)]

theorem qd0_apply (h : Fin 4) (a : Fin 256) (d : Fin 128) : qd0 (F := Ideal) h (ix3 0 a d) = ((rate h ^ (a.val + 1) : ℝ) : EReal) := by
  rw [← exp_mul_log]
  unfold qd0 k0_pay5
  pointwise
  rw [lg_eq]
  show Ideal.exp (((((BitVec.ofNat 32 a.val).toInt : ℝ) : EReal) + 1) * _) = _
  rw [toInt_ofNat_small (by have := a.isLt; omega)]
  push_cast
  rfl

theorem kd0_apply (h : Fin 4) (a : Fin 256) (d : Fin 128) : kd0 (F := Ideal) h (ix3 0 a d) = ((rate h ^ (256 - 1 - a.val) : ℝ) : EReal) := by
  rw [← exp_mul_log]
  unfold kd0 k0_pay5
  pointwise
  rw [lg_eq, ofBits_255]
  show Ideal.exp ((((255 : ℝ) : EReal) - (((BitVec.ofNat 32 a.val).toInt : ℝ) : EReal)) * _) = _
  rw [toInt_ofNat_small (by have := a.isLt; omega), ← EReal.coe_sub, Nat.cast_sub (by have := a.isLt; omega)]
  norm_num

/-! ## The blocks -/

variable (m : (ℓ : Loc nD τ sig) → Buf (Elt Ideal) ℓ) (c : Dev nD)

/-- The three arrays, as launched. -/
abbrev X0 : QS.Idx → EReal := m ((c : Thread nD τ).loc main_arg0)
abbrev X1 : QS.Idx → EReal := m ((c : Thread nD τ).loc main_arg1)
abbrev X2 : VS.Idx → EReal := m ((c : Thread nD τ).loc main_arg2)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem q_apply (hx : Real' (X0 m c)) (t : Fin cfg0.N) (s h : Fin 4) (a : Fin 256) (d : Fin 128) :
    View.ld (iblk m c 0 t : Vec Ideal S1024x512 .bf16) (rQ s h) (ix2 a d) = ((qk (X0 m c) h (1024 * t.val + 256 * s.val + a.val) d : ℝ) : EReal) := by
  have hN := lt_of_lt_of_eq t.isLt (show cfg0.N = 16 from N_0)
  have := s.isLt; have := h.isLt; have := a.isLt; have := d.isLt
  obtain ⟨e0, e1⟩ := idx0 t
  unfold qk
  rw [← hx, View.ld_apply]
  unfold iblk
  rw [View.read_apply]
  show m ((c : Thread nD τ).loc main_arg0) _ = m ((c : Thread nD τ).loc main_arg0) _
  congr 1
  funext x
  apply Fin.ext
  match x with
  | ⟨0, _⟩ => show win0_0.index t (0 : Fin 2) * 1024 + 1 * (256 * s.val + 1 * a.val) = (1024 * t.val + 256 * s.val + a.val) % 16384; rw [e0]; omega
  | ⟨1, _⟩ => show win0_0.index t (1 : Fin 2) * 512 + 1 * (128 * h.val + 1 * d.val) = 128 * h.val + d.val; rw [e1]; omega

theorem k_apply (hx : Real' (X1 m c)) (t : Fin cfg0.N) (s h : Fin 4) (a : Fin 256) (d : Fin 128) :
    View.ld (iblk m c 1 t : Vec Ideal S1024x512 .bf16) (rQ s h) (ix2 a d) = ((qk (X1 m c) h (1024 * t.val + 256 * s.val + a.val) d : ℝ) : EReal) := by
  have hN := lt_of_lt_of_eq t.isLt (show cfg0.N = 16 from N_0)
  have := s.isLt; have := h.isLt; have := a.isLt; have := d.isLt
  obtain ⟨e0, e1⟩ := idx1 t
  unfold qk
  rw [← hx, View.ld_apply]
  unfold iblk
  rw [View.read_apply]
  show m ((c : Thread nD τ).loc main_arg1) _ = m ((c : Thread nD τ).loc main_arg1) _
  congr 1
  funext x
  apply Fin.ext
  match x with
  | ⟨0, _⟩ => show win0_1.index t (0 : Fin 2) * 1024 + 1 * (256 * s.val + 1 * a.val) = (1024 * t.val + 256 * s.val + a.val) % 16384; rw [e0]; omega
  | ⟨1, _⟩ => show win0_1.index t (1 : Fin 2) * 512 + 1 * (128 * h.val + 1 * d.val) = 128 * h.val + d.val; rw [e1]; omega

theorem v_apply (hx : Real' (X2 m c)) (t : Fin cfg0.N) (s h : Fin 4) (a e : Fin 256) :
    View.ld (iblk m c 2 t : Vec Ideal S1024x1024 .bf16) (rV s h) (ix2 a e) = ((vv (X2 m c) h e (1024 * t.val + 256 * s.val + a.val) : ℝ) : EReal) := by
  have hN := lt_of_lt_of_eq t.isLt (show cfg0.N = 16 from N_0)
  have := s.isLt; have := h.isLt; have := a.isLt; have := e.isLt
  obtain ⟨e0, e1⟩ := idx2 t
  unfold vv
  rw [← hx, View.ld_apply]
  unfold iblk
  rw [View.read_apply]
  show m ((c : Thread nD τ).loc main_arg2) _ = m ((c : Thread nD τ).loc main_arg2) _
  congr 1
  funext x
  apply Fin.ext
  match x with
  | ⟨0, _⟩ => show win0_2.index t (0 : Fin 2) * 1024 + 1 * (256 * s.val + 1 * a.val) = (1024 * t.val + 256 * s.val + a.val) % 16384; rw [e0]; omega
  | ⟨1, _⟩ => show win0_2.index t (1 : Fin 2) * 1024 + 1 * (256 * h.val + 1 * e.val) = 256 * h.val + e.val; rw [e1]; omega

/-- Head `h`'s state before stretch `s` of point `t` is the decayed sum over the rows before it, if it is so before the
    point's first stretch. -/
theorem st_apply (h1 : Real' (X1 m c)) (h2 : Real' (X2 m c)) (t : Fin cfg0.N) (h : Fin 4) (r0 : Vec Ideal S1x128x256 .f32)
    (hr : ∀ d e, r0 (ix3 0 d e) = ((state (rate h) (kv (X1 m c) (X2 m c) h d e) (1024 * t.val) : ℝ) : EReal)) :
    ∀ (s : ℕ) (hs : s ≤ 4) (d : Fin 128) (e : Fin 256), st (iblk m c 1 t : Vec Ideal S1024x512 .bf16) (iblk m c 2 t : Vec Ideal S1024x1024 .bf16) r0 (kd0 h) h s hs (ix3 0 d e)
      = ((state (rate h) (kv (X1 m c) (X2 m c) h d e) (1024 * t.val + 256 * s) : ℝ) : EReal)
  | 0, _, d, e => hr d e
  | s + 1, hs, d, e => by
    show hState _ _ _ (st _ _ r0 (kd0 h) h s _) _ (ix3 0 d e) = _
    rw [hState_apply, show 1024 * t.val + 256 * (s + 1) = (1024 * t.val + 256 * s) + 256 by ring]
    exact state_step h _ _ d e (1024 * t.val + 256 * s) 256 _ _ _ _ _ (cd_eq h) (st_apply h1 h2 t h r0 hr s _ d e)
      (fun b => k_apply m c h1 t ⟨s, hs⟩ h b d) (fun b => kd0_apply h b d) (fun b => v_apply m c h2 t ⟨s, hs⟩ h b e)

/-- What a point leaves in the scratch buffers and in the output's block. -/
theorem point (h1 : Real' (X1 m c)) (h2 : Real' (X2 m c)) : ∀ (n : ℕ) (hn : n < cfg0.N) (h : Fin 4),
    (∀ d e, View.ld (outsAt0 m c n hn).2.1 (rR h) (ix3 0 d e) = ((state (rate h) (kv (X1 m c) (X2 m c) h d e) (1024 * (n + 1)) : ℝ) : EReal))
    ∧ View.ld (outsAt0 m c n hn).2.2.1 (rM h) = dm0 h
    ∧ View.ld (outsAt0 m c n hn).2.2.2.1 (rD h) = qd0 h
    ∧ View.ld (outsAt0 m c n hn).2.2.2.2 (rD h) = kd0 h
    ∧ ∃ r0 : Vec Ideal S1x128x256 .f32, (∀ d e, r0 (ix3 0 d e) = ((state (rate h) (kv (X1 m c) (X2 m c) h d e) (1024 * n) : ℝ) : EReal))
      ∧ ∀ s, View.ld (outsAt0 m c n hn).1 (rV s h) = blkOut (iblk m c 0 ⟨n, hn⟩) (iblk m c 1 ⟨n, hn⟩) (iblk m c 2 ⟨n, hn⟩) r0 (dm0 h) (qd0 h) (kd0 h) s h
  | 0, hn, h => by
    have hz : ∀ d e, (z0 : Vec Ideal S1x128x256 .f32) (ix3 0 d e) = ((state (rate h) (kv (X1 m c) (X2 m c) h d e) (1024 * 0) : ℝ) : EReal) := by
      intro d e
      rw [Nat.mul_zero, state_zero]
      exact Ideal.ofBits_zero_f32
    rw [outsAt0_A m c ⟨0, hn⟩ rfl]
    dsimp only
    refine ⟨fun d e => ?_, mask_A .., qdec_A .., kdec_A .., z0, hz, fun s => out_A ..⟩
    rw [state_A]
    exact st_apply m c h1 h2 ⟨0, hn⟩ h z0 hz 4 _ d e
  | n + 1, hn, h => by
    obtain ⟨p0, p1, p2, p3, -⟩ := point h1 h2 n (Nat.lt_of_succ_lt hn) h
    have hB : ¬(⟨n + 1, hn⟩ : Fin cfg0.N).val % 16 = 0 := by
      have hN := lt_of_lt_of_eq hn (show cfg0.N = 16 from N_0); dsimp only; omega
    rw [outsAt0_B m c ⟨n + 1, hn⟩ hB]
    dsimp only
    refine ⟨fun d e => ?_, p1, p2, p3, _, p0, fun s => ?_⟩
    · rw [state_B]
      have := st_apply m c h1 h2 ⟨n + 1, hn⟩ h _ p0 4 (Nat.le_refl 4) d e
      rw [← p3] at this
      exact this
    · rw [out_B]
      show blkOut _ _ _ _ (View.ld (outsAt0 m c n _).2.2.1 (rM h)) (View.ld (outsAt0 m c n _).2.2.2.1 (rD h)) (View.ld (outsAt0 m c n _).2.2.2.2 (rD h)) s h = _
      rw [p1, p2, p3]
      rfl

/-- The kernel's result, for arrays of real numbers. -/
theorem result (h0 : Real' (X0 m c)) (h1 : Real' (X1 m c)) (h2 : Real' (X2 m c)) (n : ℕ) (hn : n < 16384) (h : Fin 4) (e : Fin 256) :
    G3 m c (ix2 ⟨n, hn⟩ (vcol h e)) = retained (X0 m c) (X1 m c) (X2 m c) n h e := by
  have hh := h.isLt; have he := e.isLt
  have ht : n / 1024 < cfg0.N := lt_of_lt_of_eq (by omega) N_0.symm
  have hp : pt3Of (ix2 ⟨n, hn⟩ (vcol h e)) = n / 1024 := by
    show 1 * (n / 1024 - 0) + 1 * ((256 * h.val + e.val) / 1024 - 0) = n / 1024; omega
  obtain ⟨-, -, -, -, r0, hr, hout⟩ := point m c h1 h2 (n / 1024) ht h
  have hs : n % 1024 / 256 < 4 := by omega
  have ha : n % 256 < 256 := by omega
  unfold G3
  rw [dif_pos (by rw [hp]; exact ht), fold0_congr m c _ _ (n / 1024) (by omega) hp, ← outsAt0_sweep m c (n / 1024) ht]
  have hl : loc3Of (ix2 ⟨n, hn⟩ (vcol h e)) = (rV ⟨n % 1024 / 256, hs⟩ h).idx (ix2 ⟨n % 256, ha⟩ e) := by
    funext x
    apply Fin.ext
    match x with
    | ⟨0, _⟩ => show n % 1024 = 256 * (n % 1024 / 256) + 1 * (n % 256); omega
    | ⟨1, _⟩ => show (256 * h.val + e.val) % 1024 = 256 * h.val + 1 * e.val; omega
  rw [hl]
  have ho := congrFun (hout ⟨n % 1024 / 256, hs⟩) (ix2 ⟨n % 256, ha⟩ e)
  rw [View.ld_apply] at ho
  refine ho.trans ?_
  unfold blkOut hOut retained
  rw [norm_apply]
  congr 1
  funext y
  rw [hSum_apply]
  have key := chunk_step h (X0 m c) (X1 m c) (X2 m c) y (1024 * (n / 1024) + 256 * (n % 1024 / 256)) 256 ⟨n % 256, ha⟩ _ _ _ _ _ _
    (fun d => q_apply m c h0 ⟨n / 1024, ht⟩ ⟨n % 1024 / 256, hs⟩ h ⟨n % 256, ha⟩ d)
    (fun d => st_apply m c h1 h2 ⟨n / 1024, ht⟩ h r0 hr (n % 1024 / 256) (Nat.le_of_lt hs) d y)
    (fun d => qd0_apply h ⟨n % 256, ha⟩ d)
    (fun b d => k_apply m c h1 ⟨n / 1024, ht⟩ ⟨n % 1024 / 256, hs⟩ h b d)
    (fun b => dm0_apply h ⟨n % 256, ha⟩ b)
    (fun b => v_apply m c h2 ⟨n / 1024, ht⟩ ⟨n % 1024 / 256, hs⟩ h b y)
  refine key.trans ?_
  rw [show 1024 * (n / 1024) + 256 * (n % 1024 / 256) + (⟨n % 256, ha⟩ : Fin 256).val = n by dsimp only; omega]

end Cert.KernelIdeal.Ret

end
-- ==== Proof.RetRef.lean ====
/- The reference's result over the extended reals, for arrays of real numbers: the loop's state before chunk `n` is the
   decayed sum over the rows before it, and what the operations after the loop make of the states and the arrays is the
   layer's formula (`Cert.Decay.retained`). -/
module

public import proofs.«01_k».proof.Proof.Gen.ReferenceIdeal.Run
public import proofs.«01_k».proof.Proof.RetSpec
public import Idealize.ShloMosaic.Lib.Pointwise
public import Idealize.ShloMosaic.Lib.StableHlo.ReadAt
public import Idealize.ShloMosaic.Lib.DynamicIndex
public import Idealize.ShloMosaic.Lib.Pipeline.Value

@[expose] public section

set_option maxRecDepth 16384

noncomputable section

namespace Cert.ReferenceIdeal.Ret

open Idealize.ShloMosaic Idealize.ShloMosaic.TcCoe Idealize.ShloMosaic.Tactic Idealize.SL.Sem
open Idealize.ShloMosaic.StableHlo
open Cert.ReferenceIdeal Cert.ReferenceIdeal.Gen Cert.ReferenceIdeal.Value
open Cert.Decay

/-! ## The terms after the loop -/

section Terms
variable {F : FTy → Type} [FloatOps F]

/-- The logarithms of the decay rates. -/
def logs : Vec F S4 .f32 := Host.log (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0)))))
/-- The decays within a chunk. -/
def within : Vec F S4x128x128 .f32 := select (broadcastInDim S4x128x128 ![1, 2] bcast_S128x128_S4x128x128_1_2 (cmpi .sge (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (Host.exp (mulf (broadcastInDim S4x128x128 ![0, 1, 2] bcast_S1x128x128_S4x128x128_0_1_2 (broadcastInDim S1x128x128 ![1, 2] bcast_S128x128_S1x128x128_1_2 (maximumf (subf (broadcastInDim S128x128 ![0, 1] bcast_S128x1_S128x128_0_1 (broadcastInDim S128x1 ![0] bcast_S128_S128x1_0 (sitofp .f32 (iotaInDim S128 32 0)))) (broadcastInDim S128x128 ![0, 1] bcast_S1x128_S128x128_0_1 (broadcastInDim S1x128 ![1] bcast_S128_S1x128_1 (sitofp .f32 (iotaInDim S128 32 0))))) (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 logs)))) (broadcastInDim S4x128x128 ![] bcast_S_S4x128x128 (id (constant S_ .f32 0x00000000#32)))
/-- The decays from a chunk's start to its rows. -/
def since : Vec F S128x128x4x128 .f32 := broadcastInDim S128x128x4x128 ![0, 1, 2, 3] bcast_S1x128x4x1_S128x128x4x128_0_1_2_3 (broadcastInDim S1x128x4x1 ![1, 2] bcast_S128x4_S1x128x4x1_1_2 (transpose S128x4 [1, 0] (Host.exp (mulf (broadcastInDim S4x128 ![0, 1] bcast_S1x128_S4x128_0_1 (addf (broadcastInDim S1x128 ![1] bcast_S128_S1x128_1 (sitofp .f32 (iotaInDim S128 32 0))) (broadcastInDim S1x128 ![] bcast_S_S1x128 (constant S_ .f32 0x3F800000#32)))) (broadcastInDim S4x128 ![0, 1] bcast_S4x1_S4x128_0_1 (broadcastInDim S4x1 ![0] bcast_S4_S4x1_0 logs)))) transposes_S4x128_S128x4_1_0))
/-- The queries and keys by chunks and heads. -/
def byHead (x : Vec F S16384x512 .bf16) : Vec F S128x128x4x128 .f32 := shapeCast _ (extf .f32 x bitsLt_bf16_f32) shapeCasts_S16384x512_S128x128x4x128
/-- The values by chunks and heads. -/
def byHeadV (x : Vec F S16384x1024 .bf16) : Vec F S128x128x4x256 .f32 := shapeCast _ (extf .f32 x bitsLt_bf16_f32) shapeCasts_S16384x1024_S128x128x4x256
/-- The sums before the norm. -/
def sums (R : Vec F S128x4x128x256 .f32) (q k : Vec F S16384x512 .bf16) (v : Vec F S16384x1024 .bf16) : Vec F S128x128x4x256 .f32 := addf (transpose S128x128x4x256 [0, 3, 1, 2] (Host.dotGeneral dot_S128x128x4x256_S128x4x128x128_S128x4x256x128_1_3_3_2_02_01 none (byHeadV v) (mulf (Host.dotGeneral dot_S128x128x4x128_S128x128x4x128_S128x4x128x128_3_3_1_1_02_02 none (byHead q) (byHead k)) (broadcastInDim S128x4x128x128 ![0, 1, 2, 3] bcast_S1x4x128x128_S128x4x128x128_0_1_2_3 (broadcastInDim S1x4x128x128 ![1, 2, 3] bcast_S4x128x128_S1x4x128x128_1_2_3 within)))) transposes_S128x4x256x128_S128x128x4x256_0_3_1_2) (transpose S128x128x4x256 [0, 3, 1, 2] (Host.dotGeneral dot_S128x4x128x256_S128x128x4x128_S128x4x256x128_2_3_3_1_01_02 none R (mulf (byHead q) since)) transposes_S128x4x256x128_S128x128x4x256_0_3_1_2)
/-- The norm over each head. -/
def norm (o : Vec F S16384x4x256 .f32) : Vec F S16384x1024 .bf16 := truncf .bf16 (shapeCast _ (mulf (subf o (broadcastInDim S16384x4x256 ![0, 1, 2] bcast_S16384x4x1_S16384x4x256_0_1_2 (Host.divf (broadcastInDim S16384x4x1 ![0, 1] bcast_S16384x4_S16384x4x1_0_1 (Host.reduceAdd o (constant S_ .f32 0x00000000#32) reducesTo_S16384x4x256_S16384x4_d2 h_S_)) (broadcastInDim S16384x4x1 ![] bcast_S_S16384x4x1 (constant S_ .f32 0x43800000#32))))) (broadcastInDim S16384x4x256 ![0, 1, 2] bcast_S16384x4x1_S16384x4x256_0_1_2 (Host.rsqrt (addf (Host.divf (broadcastInDim S16384x4x1 ![0, 1] bcast_S16384x4_S16384x4x1_0_1 (Host.reduceAdd (mulf (subf o (broadcastInDim S16384x4x256 ![0, 1, 2] bcast_S16384x4x1_S16384x4x256_0_1_2 (Host.divf (broadcastInDim S16384x4x1 ![0, 1] bcast_S16384x4_S16384x4x1_0_1 (Host.reduceAdd o (constant S_ .f32 0x00000000#32) reducesTo_S16384x4x256_S16384x4_d2 h_S_)) (broadcastInDim S16384x4x1 ![] bcast_S_S16384x4x1 (constant S_ .f32 0x43800000#32))))) (subf o (broadcastInDim S16384x4x256 ![0, 1, 2] bcast_S16384x4x1_S16384x4x256_0_1_2 (Host.divf (broadcastInDim S16384x4x1 ![0, 1] bcast_S16384x4_S16384x4x1_0_1 (Host.reduceAdd o (constant S_ .f32 0x00000000#32) reducesTo_S16384x4x256_S16384x4_d2 h_S_)) (broadcastInDim S16384x4x1 ![] bcast_S_S16384x4x1 (constant S_ .f32 0x43800000#32)))))) (constant S_ .f32 0x00000000#32) reducesTo_S16384x4x256_S16384x4_d2 h_S_)) (broadcastInDim S16384x4x1 ![] bcast_S_S16384x4x1 (constant S_ .f32 0x43800000#32))) (broadcastInDim S16384x4x1 ![] bcast_S_S16384x4x1 (constant S_ .f32 0x358637BD#32)))))) shapeCasts_S16384x4x256_S16384x1024) bitsLt_bf16_f32

theorem out_eq (V0 : Valuation τ sig (Elt F)) : out_main_v108 V0 = norm (shapeCast _ (sums (V0 (Proc.devRef .tc main_v31_4)) (V0 (Proc.devRef .tc main_arg0)) (V0 (Proc.devRef .tc main_arg1)) (V0 (Proc.devRef .tc main_arg2)))
    shapeCasts_S128x128x4x256_S16384x4x256) := rfl

end Terms

theorem logs_apply (h : Fin 4) : logs (F := Ideal) (ix1 h) = ((Real.log (rate h) : ℝ) : EReal) := by
  unfold logs
  pointwise
  rw [ofBits_2, ofBits_neg5]
  show Ideal.log (1 - Ideal.pow _ (((-5 : ℝ) : EReal) - (((BitVec.ofNat 32 h.val).toInt : ℝ) : EReal))) = _
  rw [toInt_ofNat_small (by have := h.isLt; omega), ← EReal.coe_sub, Ideal.pow_coe_coe, show (1 : EReal) = ((1 : ℝ) : EReal) from rfl, ← EReal.coe_sub,
    Int.cast_natCast]
  show Ideal.log ((((1 : ℝ) - (2 : ℝ) ^ (-5 - (h.val : ℝ)) : ℝ)) : EReal) = _
  rw [← rate_eq, Ideal.log_coe, if_neg (not_le.mpr (rate_pos h))]

theorem within_apply (h : Fin 4) (a b : Fin 128) :
    within (F := Ideal) (ix3 h a b) = ((if b.val ≤ a.val then rate h ^ (a.val - b.val) else 0 : ℝ) : EReal) := by
  have ha := a.isLt; have hb := b.isLt
  rw [← mask_entry]
  unfold within
  pointwise
  rw [logs_apply]
  show (if (BitVec.ofBool ((BitVec.ofNat 32 b.val).sle (BitVec.ofNat 32 a.val))) = 1 then
    Ideal.exp (max ((((BitVec.ofNat 32 a.val).toInt : ℝ) : EReal) - (((BitVec.ofNat 32 b.val).toInt : ℝ) : EReal)) 0 * _) else Ideal.ofBits .f32 0x00000000#32) = _
  rw [BitVec.sle, toInt_ofNat_small (by omega), toInt_ofNat_small (by omega), ← EReal.coe_sub, ← Int.cast_sub]
  have hz : Ideal.ofBits .f32 0x00000000#32 = 0 := Ideal.ofBits_zero_f32
  rw [hz]
  refine if_congr ?_ rfl rfl
  rw [show (0 : EReal) = ((0 : ℝ) : EReal) from rfl, EReal.coe_le_coe_iff, show (0 : ℝ) = ((0 : ℤ) : ℝ) by norm_num, Int.cast_le, sub_nonneg]
  by_cases hab : ((b.val : ℤ) ≤ a.val) <;> simp [hab]

theorem since_apply (n : Fin 128) (h : Fin 4) (a d : Fin 128) : since (F := Ideal) (ix4 n a h d) = ((rate h ^ (a.val + 1) : ℝ) : EReal) := by
  rw [← exp_mul_log]
  unfold since
  pointwise
  rw [logs_apply]
  show Ideal.exp (((((BitVec.ofNat 32 a.val).toInt : ℝ) : EReal) + 1) * _) = _
  rw [toInt_ofNat_small (by have := a.isLt; omega)]
  push_cast
  rfl

theorem byHead_apply (x : Vec Ideal S16384x512 .bf16) (hx : Real' x) (n : Fin 128) (h : Fin 4) (a d : Fin 128) :
    byHead x (ix4 n a h d) = ((qk x h (128 * n.val + a.val) d : ℝ) : EReal) := by
  have := n.isLt; have := a.isLt
  unfold byHead qk
  rw [← hx]
  pointwise
  congr 2
  · exact Fin.ext (by show n.val * 128 + a.val = (128 * n.val + a.val) % 16384; omega)
  · exact Fin.ext (by show h.val * 128 + d.val = 128 * h.val + d.val; omega)

theorem byHeadV_apply (x : Vec Ideal S16384x1024 .bf16) (hx : Real' x) (n : Fin 128) (h : Fin 4) (a : Fin 128) (e : Fin 256) :
    byHeadV x (ix4 n a h e) = ((vv x h e (128 * n.val + a.val) : ℝ) : EReal) := by
  have := n.isLt; have := a.isLt
  unfold byHeadV vv
  rw [← hx]
  pointwise
  congr 2
  · exact Fin.ext (by show n.val * 128 + a.val = (128 * n.val + a.val) % 16384; omega)
  · exact Fin.ext (by show h.val * 256 + e.val = 256 * h.val + e.val; omega)

theorem sums_apply (R : Vec Ideal S128x4x128x256 .f32) (q k : Vec Ideal S16384x512 .bf16) (v : Vec Ideal S16384x1024 .bf16) (n : Fin 128) (h : Fin 4) (a : Fin 128) (e : Fin 256) :
    sums R q k v (ix4 n a h e) = (∑ b : Fin 128, ((∑ d : Fin 128, byHead q (ix4 n a h d) * byHead k (ix4 n b h d)) * within (ix3 h a b)) * byHeadV v (ix4 n b h e))
      + ∑ d : Fin 128, (byHead q (ix4 n a h d) * since (ix4 n a h d)) * R (ix4 n h d e) := by
  unfold sums
  pointwise
  congr 1
  · exact Finset.sum_congr rfl fun b _ => mul_comm _ _
  · exact Finset.sum_congr rfl fun b _ => mul_comm _ _

theorem norm_apply (o : Vec Ideal S16384x4x256 .f32) (n : Fin 16384) (h : Fin 4) (e : Fin 256) : norm o (ix2 n (vcol h e)) = normed (fun y => o (ix3 n h y)) e := by
  have := h.isLt; have := e.isLt
  unfold norm normed
  pointwise
  have hh : ∀ p, (⟨(vcol h e).val / 256, p⟩ : Fin 4) = h := fun p => Fin.ext (by show (256 * h.val + e.val) / 256 = h.val; omega)
  have he : ∀ p, (⟨(vcol h e).val % 256, p⟩ : Fin 256) = e := fun p => Fin.ext (by show (256 * h.val + e.val) % 256 = e.val; omega)
  simp only [hh, he]

/-! ## The loop -/

section Entry
variable {F : FTy → Type} [FloatOps F]

/-- The decays from a row to its chunk's end. -/
def before : Vec F S128x128x4x128 .f32 :=
  broadcastInDim S128x128x4x128 ![0, 1, 2, 3] bcast_S1x128x4x1_S128x128x4x128_0_1_2_3 (broadcastInDim S1x128x4x1 ![1, 2] bcast_S128x4_S1x128x4x1_1_2
    (transpose S128x4 [1, 0] (Host.exp (mulf (broadcastInDim S4x128 ![0, 1] bcast_S1x128_S4x128_0_1
      (subf (broadcastInDim S1x128 ![] bcast_S_S1x128 (constant S_ .f32 0x42FE0000#32)) (broadcastInDim S1x128 ![1] bcast_S128_S1x128_1 (sitofp .f32 (iotaInDim S128 32 0)))))
      (broadcastInDim S4x128 ![0, 1] bcast_S4x1_S4x128_0_1 (broadcastInDim S4x1 ![0] bcast_S4_S4x1_0 logs)))) transposes_S4x128_S128x4_1_0))
/-- What each chunk adds to the state. -/
def added (k : Vec F S16384x512 .bf16) (v : Vec F S16384x1024 .bf16) : Vec F S128x4x128x256 .f32 :=
  Host.dotGeneral dot_S128x128x4x128_S128x128x4x256_S128x4x128x256_1_1_3_3_02_02 none (mulf (byHead k) before) (byHeadV v)
/-- The decay over a chunk. -/
def over : Vec F S4 .f32 := Host.exp (mulf (broadcastInDim S4 ![] bcast_S_S4 (constant S_ .f32 0x43000000#32)) logs)

end Entry

theorem before_apply (n : Fin 128) (h : Fin 4) (a d : Fin 128) : before (F := Ideal) (ix4 n a h d) = ((rate h ^ (128 - 1 - a.val) : ℝ) : EReal) := by
  rw [← exp_mul_log]
  unfold before
  pointwise
  rw [logs_apply, ofBits_127]
  show Ideal.exp ((((127 : ℝ) : EReal) - (((BitVec.ofNat 32 a.val).toInt : ℝ) : EReal)) * _) = _
  rw [toInt_ofNat_small (by have := a.isLt; omega), ← EReal.coe_sub, Nat.cast_sub (by have := a.isLt; omega)]
  norm_num

theorem added_apply (k : Vec Ideal S16384x512 .bf16) (v : Vec Ideal S16384x1024 .bf16) (n : Fin 128) (h : Fin 4) (d : Fin 128) (e : Fin 256) :
    added k v (ix4 n h d e) = ∑ b : Fin 128, (byHead k (ix4 n b h d) * before (ix4 n b h d)) * byHeadV v (ix4 n b h e) := by
  unfold added
  pointwise

theorem over_apply (h : Fin 4) : over (F := Ideal) (ix1 h) = ((rate h ^ 128 : ℝ) : EReal) := by
  rw [← exp_mul_log]
  unfold over
  pointwise
  rw [logs_apply, ofBits_128]
  norm_num

variable (m : (ℓ : Loc nD τ sig) → Buf (Elt Ideal) ℓ) (c : Dev nD)

/-- The three arrays, as launched. -/
abbrev X0 : QS.Idx → EReal := m ((c.tc : Thread nD τ).loc main_arg0)
abbrev X1 : QS.Idx → EReal := m ((c.tc : Thread nD τ).loc main_arg1)
abbrev X2 : VS.Idx → EReal := m ((c.tc : Thread nD τ).loc main_arg2)

/-- The contents after `n` trips. -/
abbrev V (n : ℕ) : Valuation τ sig (Elt Ideal) := STEP^[n] (entryContents preI m c)
/-- The carried state after `n` trips. -/
abbrev R (n : ℕ) : S4x128x256.Idx → EReal := V m c n (Proc.devRef .tc main_v31_3)
/-- The states stored so far. -/
abbrev Rs (n : ℕ) : S128x4x128x256.Idx → EReal := V m c n (Proc.devRef .tc main_v31_4)

theorem V_succ (n : ℕ) : V m c (n + 1) = STEP (V m c n) := Function.iterate_succ_apply' STEP n _

theorem added_eq : ∀ n, V m c n (Proc.devRef .tc main_v31_0) = added (F := Ideal) (X1 m c) (X2 m c)
  | 0 => by
    show entryContents preI m c (Proc.devRef .tc main_v31_0) = _
    simp only [entryContents, afterL_cons, afterL_nil]
    after_reads_simp
    rfl
  | n + 1 => by rw [V_succ, STEP_main_v31_0, added_eq n]

theorem over_eq : ∀ n, V m c n (Proc.devRef .tc main_v31_1) = (over : Vec Ideal S4 .f32)
  | 0 => by
    show entryContents preI m c (Proc.devRef .tc main_v31_1) = _
    simp only [entryContents, afterL_cons, afterL_nil]
    after_reads_simp
    rfl
  | n + 1 => by rw [V_succ, STEP_main_v31_1, over_eq n]

theorem counter_eq : ∀ n, V m c n (Proc.devRef .tc main_v31_2) = fun _ => BitVec.ofNat 32 n
  | 0 => ctr_entry m c
  | n + 1 => by
    rw [V_succ, STEP_main_v31_2]
    unfold step_main_v31_2
    rw [counter_eq n]
    funext i
    show BitVec.ofNat 32 n + 1#32 = BitVec.ofNat 32 (n + 1)
    rw [BitVec.ofNat_add]

/-- The starts of the block that trip `n` reads and writes. -/
theorem starts (n : ℕ) (hn : n < 128) (a : Fin 4) :
    ((![fun _ => BitVec.ofNat 32 n, constantI S_ 32 0#32, constantI S_ 32 0#32, constantI S_ 32 0#32] : Fin 4 → (⟨S_, .i32⟩ : BufTy).Contents (Elt Ideal)) a (Shape.Idx.first h_S_)).toInt
      = ((![n, 0, 0, 0] : Fin 4 → ℕ) a : ℤ) := by
  match a with
  | ⟨0, _⟩ => exact toInt_ofNat_small (by omega)
  | ⟨1, _⟩ => rfl
  | ⟨2, _⟩ => rfl
  | ⟨3, _⟩ => rfl

theorem fits (n : ℕ) (hn : n < 128) : S128x4x128x256.Slices ![n, 0, 0, 0] S1x4x128x256 :=
  ⟨rfl, fun a => match a with
    | ⟨0, _⟩ => (by omega : n + 1 ≤ 128)
    | ⟨1, _⟩ => Nat.le_refl 4
    | ⟨2, _⟩ => Nat.le_refl 128
    | ⟨3, _⟩ => Nat.le_refl 256⟩

theorem clamped (n : ℕ) (hn : n < 128) (a : Fin 4) :
    (min (max ((![fun _ => BitVec.ofNat 32 n, constantI S_ 32 0#32, constantI S_ 32 0#32, constantI S_ 32 0#32] : Fin 4 → (⟨S_, .i32⟩ : BufTy).Contents (Elt Ideal)) a (Shape.Idx.first h_S_)).toInt 0)
      ((S128x4x128x256.size a - S1x4x128x256.size a : ℕ) : ℤ)).toNat = (![n, 0, 0, 0] : Fin 4 → ℕ) a := by
  rw [starts n hn a]
  have h : (![n, 0, 0, 0] : Fin 4 → ℕ) a + S1x4x128x256.size a ≤ S128x4x128x256.size a := (fits n hn).2 a
  omega

/-- One trip's state. -/
theorem R_succ (n : ℕ) (hn : n < 128) (h : Fin 4) (d : Fin 128) (e : Fin 256) :
    R m c (n + 1) (ix3 h d e) = over (F := Ideal) (ix1 h) * R m c n (ix3 h d e) + added (F := Ideal) (X1 m c) (X2 m c) (ix4 ⟨n, hn⟩ h d e) := by
  show V m c (n + 1) (Proc.devRef .tc main_v31_3) _ = _
  rw [V_succ, STEP_main_v31_3]
  unfold step_main_v31_3
  rw [counter_eq, over_eq, added_eq, Host.dynamicSlice_eq_extractStridedSlice S1x4x128x256 _ _ ![n, 0, 0, 0] _ (fits n hn) (starts n hn)]
  dsimp only [id_eq]
  pointwise

/-- One trip stores the state it started from. -/
theorem Rs_succ (n : ℕ) (hn : n < 128) (p : Fin 128) (h : Fin 4) (d : Fin 128) (e : Fin 256) :
    Rs m c (n + 1) (ix4 p h d e) = if p.val = n then R m c n (ix3 h d e) else Rs m c n (ix4 p h d e) := by
  show V m c (n + 1) (Proc.devRef .tc main_v31_4) _ = _
  rw [V_succ, STEP_main_v31_4]
  unfold step_main_v31_4
  rw [counter_eq, Host.dynamicUpdateSlice_eq_updateSlice _ _ _ _ ![n, 0, 0, 0] (clamped n hn) (fits n hn)]
  dsimp only [id_eq]
  pointwise
  by_cases hp : p.val = n
  · rw [if_pos hp, dif_pos]
    intro a
    match a with
    | ⟨0, _⟩ => exact ⟨(by omega : n ≤ p.val), (by omega : p.val < n + 1)⟩
    | ⟨1, _⟩ => exact ⟨Nat.zero_le h.val, (by have := h.isLt; omega : h.val < 0 + 4)⟩
    | ⟨2, _⟩ => exact ⟨Nat.zero_le d.val, (by have := d.isLt; omega : d.val < 0 + 128)⟩
    | ⟨3, _⟩ => exact ⟨Nat.zero_le e.val, (by have := e.isLt; omega : e.val < 0 + 256)⟩
  · rw [if_neg hp, dif_neg]
    intro hall
    have h0 : n ≤ p.val ∧ p.val < n + 1 := hall (0 : Fin 4)
    omega

/-- The carried state after `n` trips, and the states stored. -/
theorem R_eq (h1 : Real' (X1 m c)) (h2 : Real' (X2 m c)) (h : Fin 4) (d : Fin 128) (e : Fin 256) :
    ∀ n ≤ 128, R m c n (ix3 h d e) = ((state (rate h) (kv (X1 m c) (X2 m c) h d e) (128 * n) : ℝ) : EReal)
  | 0, _ => by
    rw [Nat.mul_zero, state_zero]
    show (entryContents preI m c (Proc.devRef .tc main_v31_3) : Vec Ideal S4x128x256 .f32) (ix3 h d e) = _
    simp only [entryContents, afterL_cons, afterL_nil]
    after_reads_simp
    exact Ideal.ofBits_zero_f32
  | n + 1, hn => by
    rw [R_succ m c n (by omega), added_apply, show 128 * (n + 1) = 128 * n + 128 by ring]
    exact state_step h _ _ d e (128 * n) 128 _ _ _ _ _ (over_apply h) (R_eq h1 h2 h d e n (by omega)) (fun b => byHead_apply _ h1 _ h b d)
      (fun b => before_apply _ h b d) (fun b => byHeadV_apply _ h2 _ h b e)

theorem Rs_eq (h1 : Real' (X1 m c)) (h2 : Real' (X2 m c)) (h : Fin 4) (d : Fin 128) (e : Fin 256) (p : Fin 128) :
    ∀ n ≤ 128, p.val < n → Rs m c n (ix4 p h d e) = ((state (rate h) (kv (X1 m c) (X2 m c) h d e) (128 * p.val) : ℝ) : EReal)
  | 0, _, hp => absurd hp (Nat.not_lt_zero _)
  | n + 1, hn, hp => by
    rw [Rs_succ m c n (by omega)]
    by_cases hpn : p.val = n
    · rw [if_pos hpn, R_eq m c h1 h2 h d e n (by omega), hpn]
    · rw [if_neg hpn, Rs_eq h1 h2 h d e p n (by omega) (by omega)]

/-- The reference's result, for arrays of real numbers. -/
theorem result (h0 : Real' (X0 m c)) (h1 : Real' (X1 m c)) (h2 : Real' (X2 m c)) (n : ℕ) (hn : n < 16384) (h : Fin 4) (e : Fin 256) :
    (out_main_v108 (V m c 128) : VS.Idx → EReal) (ix2 ⟨n, hn⟩ (vcol h e)) = retained (X0 m c) (X1 m c) (X2 m c) n h e := by
  have ha : n % 128 < 128 := by omega
  have hc : n / 128 < 128 := by omega
  rw [out_eq, show V m c 128 (Proc.devRef .tc main_arg0) = X0 m c from iter_main_arg0 m c 128, show V m c 128 (Proc.devRef .tc main_arg1) = X1 m c from iter_main_arg1 m c 128,
    show V m c 128 (Proc.devRef .tc main_arg2) = X2 m c from iter_main_arg2 m c 128, norm_apply]
  unfold retained
  congr 1
  funext y
  pointwise
  have key := chunk_step h (X0 m c) (X1 m c) (X2 m c) y (128 * (n / 128)) 128 ⟨n % 128, ha⟩ _ _ _ _ _ _
    (fun d => byHead_apply _ h0 ⟨n / 128, hc⟩ h ⟨n % 128, ha⟩ d)
    (fun d => Rs_eq m c h1 h2 h d y ⟨n / 128, hc⟩ 128 (Nat.le_refl 128) hc)
    (fun d => since_apply ⟨n / 128, hc⟩ h ⟨n % 128, ha⟩ d)
    (fun b d => byHead_apply _ h1 ⟨n / 128, hc⟩ h b d)
    (fun b => within_apply h ⟨n % 128, ha⟩ b)
    (fun b => byHeadV_apply _ h2 ⟨n / 128, hc⟩ h b y)
  rw [show 128 * (n / 128) + (⟨n % 128, ha⟩ : Fin 128).val = n by dsimp only; omega] at key
  refine Eq.trans ?_ key
  exact sums_apply _ _ _ _ ⟨n / 128, hc⟩ h ⟨n % 128, ha⟩ y

end Cert.ReferenceIdeal.Ret

end
-- ==== Proof.RetClaims.lean ====
/- The claims about the retention call. -/
module

public import proofs.«01_k».proof.Defs
public import proofs.«01_k».proof.Proof.Gen.Kernel.Frame
public import proofs.«01_k».proof.Proof.RetKernel
public import proofs.«01_k».proof.Proof.RetRef
public import Idealize.ShloMosaic.Lib.ReduceAll
public import Idealize.ShloMosaic.Lib.Quiescent
public import Idealize.ShloMosaic.Lib.WordArith

@[expose] public section

set_option maxRecDepth 16384

noncomputable section

namespace Cert.Ret

open Idealize.ShloMosaic Idealize.ShloMosaic.TcCoe Idealize.ShloMosaic.Tactic Idealize.SL.Sem
open Cert.Decay

/-- The side conditions the precondition states. -/
instance preFacts : Cert.Pre_finite.Facts where
  bitsLt_bf16_f32 := by decide
  bcast_S_S16384x512 := by decide
  reducesTo_S16384x512_S_d0_1 := by decide
  h_S_ := by decide
  bcast_S_S16384x1024 := by decide
  reducesTo_S16384x1024_S_d0_1 := by decide

theorem top_word : Ideal.ofBits .f32 0x7F800000#32 = ⊤ := by
  simp [Ideal.ofBits, Ideal.ieee]

theorem both_one : ∀ a b : BitVec 1, IntOp.andi a b = 1#1 → a = 1#1 ∧ b = 1#1 := by decide

/-- An element whose absolute value is below infinity is a real number. -/
theorem real_of_abs_lt {S : Shape} (x : FVec Ideal S .bf16) (b : FVec Ideal S .f32) (hb : ∀ i, b i = ⊤)
    (h : ∀ i, cmpf .olt (Host.absf (extf .f32 x (by decide) : FVec Ideal S .f32)) b i = 1#1) : Real' x := by
  intro i
  have h2 : BitVec.ofBool (decide (max (x i) (-(x i)) < b i)) = 1#1 := h i
  rw [hb, WordArith.ofBool_eq_one_iff, decide_eq_true_iff, max_lt_iff] at h2
  exact (EReal.coe_toReal h2.1.ne (fun hbot => h2.2.ne (by rw [hbot, EReal.neg_bot]))).symm

theorem reals (x0 x1 : FVec Ideal Cert.Pre_finite.S16384x512 .bf16) (x2 : FVec Ideal Cert.Pre_finite.S16384x1024 .bf16)
    (h : Cert.Pre_finite.fn (F := Ideal) x0 x1 x2 = fun _ => 1#1) :
    Real' (S := QS) x0 ∧ Real' (S := QS) x1 ∧ Real' (S := VS) x2 := by
  have h0 := congrFun h ix0
  dsimp only [Cert.Pre_finite.fn] at h0
  obtain ⟨h01, h2⟩ := both_one _ _ h0
  obtain ⟨h0, h1⟩ := both_one _ _ h01
  exact ⟨real_of_abs_lt _ _ (fun _ => top_word) fun i => Host.reduce_andi_all _ _ _ _ _ h0 i,
    real_of_abs_lt _ _ (fun _ => top_word) fun i => Host.reduce_andi_all _ _ _ _ _ h1 i,
    real_of_abs_lt _ _ (fun _ => top_word) fun i => Host.reduce_andi_all _ _ _ _ _ h2 i⟩

/-- The column of a result element, as a head and a component. -/
theorem col_split (j : Fin 1024) : ∃ (h : Fin 4) (e : Fin 256), j = vcol h e := by
  have := j.isLt
  exact ⟨⟨j.val / 256, by omega⟩, ⟨j.val % 256, by omega⟩, Fin.ext (by show j.val = 256 * (j.val / 256) + j.val % 256; omega)⟩

theorem frame_kernel : Cert.quiescent_Kernel (hKernel := Cert.Kernel.Gen.facts) := fun m g _ => Cert.Kernel.Gen.frame m g
theorem frame_kernelIdeal : Cert.quiescent_KernelIdeal (hKernelIdeal := Cert.KernelIdeal.Gen.facts) := fun m g _ => Cert.KernelIdeal.Gen.frame m g
theorem frame_kernelIdeal_pre : Cert.quiescent_KernelIdeal_pre_finite (hKernelIdeal := Cert.KernelIdeal.Gen.facts) := fun m g _ => Cert.KernelIdeal.Gen.frame m g
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)
theorem frame_reference_pre : Cert.quiescent_ReferenceIdeal_pre_finite (hReferenceIdeal := Cert.ReferenceIdeal.Gen.facts) := fun m g _ => frame_reference m g trivial

theorem preserved : Cert.preserves_Kernel_KernelIdeal :=
  ⟨IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl⟩

theorem equal : Cert.algebraic_KernelIdeal_ReferenceIdeal_pre_finite (hKernelIdeal := Cert.KernelIdeal.Gen.facts) (hReferenceIdeal := Cert.ReferenceIdeal.Gen.facts) := by
  intro m g m' g' hpre hargs
  refine ⟨fun c => Cert.KernelIdeal.Value.G3 m c, Cert.KernelIdeal.Value.run m g, ?_⟩
  refine (θ_run _ _ _).mono (fun r h c => ⟨(h c).1.trans ?_, (h c).2⟩) (Cert.ReferenceIdeal.Value.run m' g')
  obtain ⟨r0, r1, r2⟩ := reals _ _ _ (hpre c)
  obtain ⟨e0, e1, e2⟩ := hargs c
  have k := Cert.KernelIdeal.Ret.result m c r0 r1 r2
  have f := Cert.ReferenceIdeal.Ret.result m' c (by unfold Cert.ReferenceIdeal.Ret.X0; rw [e0]; exact r0) (by unfold Cert.ReferenceIdeal.Ret.X1; rw [e1]; exact r1)
    (by unfold Cert.ReferenceIdeal.Ret.X2; rw [e2]; exact r2)
  unfold Cert.ReferenceIdeal.Ret.X0 Cert.ReferenceIdeal.Ret.X1 Cert.ReferenceIdeal.Ret.X2 at f
  rw [e0, e1, e2] at f
  funext i
  obtain ⟨h, e, hj⟩ := col_split (i 1)
  have hi : i = ix2 (⟨(i 0).val, (i 0).isLt⟩ : Fin 16384) (vcol h e) := by
    rw [← hj]; funext a; match a with
    | ⟨0, _⟩ => rfl
    | ⟨1, _⟩ => rfl
  rw [hi]
  exact (f (i 0).val (i 0).isLt h e).trans (k (i 0).val (i 0).isLt h e).symm

end Cert.Ret

end
-- ==== Proof.PostSpec.lean ====
/- The last call's formula, over the extended reals: the two mixers' outputs, gated and projected, merged and projected,
   normed row by row, scaled and added to the row that came in. -/
module

public import Idealize.ShloMosaic.PureOps.Ideal
public import Mathlib.Algebra.BigOperators.Fin

@[expose] public section

noncomputable section

namespace Cert.Post

open Idealize.ShloMosaic

/-- One row's merged value at column `j`: each mixer's output times its gate, projected, times the merge gate. -/
def merged (oa zn : Fin 512 → EReal) (ob zr ma mb : Fin 1024 → EReal) (wa : Fin 512 → Fin 1024 → EReal) (wb : Fin 1024 → Fin 1024 → EReal)
    (j : Fin 1024) : EReal :=
  ma j * (∑ i, oa i * zn i * wa i j) + mb j * (∑ i, ob i * zr i * wb i j)

/-- A row divided by the root of its mean square (1e-6 added), times `g`. -/
def rms (y g : Fin 1024 → EReal) (j : Fin 1024) : EReal :=
  y j * Ideal.rsqrt (Ideal.div (∑ i, y i * y i) (Ideal.ofBits .f32 0x44800000#32) + Ideal.ofBits .f32 0x358637BD#32) * g j

end Cert.Post

end
-- ==== Proof.PostKernel.lean ====
/- The last call's result: point `t` of its grid writes rows 512·t to 512·t + 511, and each is the formula of Proof/PostSpec.lean
   of the arrays' rows. -/
module

public import proofs.«01_k».proof.Proof.Gen.Kernel2Ideal.Value
public import proofs.«01_k».proof.Proof.PostSpec
public import Idealize.ShloMosaic.Lib.Pointwise
public import Idealize.ShloMosaic.Lib.StableHlo.ReadAt
public import Idealize.ShloMosaic.Lib.Pipeline.Value
public import Idealize.ShloMosaic.Lib.Pipeline.ValueKit.Tiles

@[expose] public section

set_option maxRecDepth 16384

noncomputable section

namespace Cert.Kernel2Ideal.Post

open Idealize.ShloMosaic Idealize.ShloMosaic.TcCoe Idealize.ShloMosaic.Tactic Idealize.SL.Sem
open Idealize.ShloMosaic.StableHlo
open Cert.Kernel2Ideal Cert.Kernel2Ideal.Gen Cert.Kernel2Ideal.Value

/-! ## The body -/

theorem proj_apply (oa zn : Vec Ideal S512x512 .bf16) (wa : Vec Ideal S512x1024 .bf16) (ob zr : Vec Ideal S512x1024 .bf16) (wb : Vec Ideal S1024x1024 .bf16)
    (ma mb : Vec Ideal S512x1024 .bf16) (wo : Vec Ideal S1024x1024 .bf16) (n : Fin 512) (k : Fin 1024) : k0_pay2 oa zn wa ob zr wb ma mb wo (ix2 n k)
      = ∑ i, Cert.Post.merged (fun d => oa (ix2 n d)) (fun d => zn (ix2 n d)) (fun d => ob (ix2 n d)) (fun d => zr (ix2 n d)) (fun d => ma (ix2 n d)) (fun d => mb (ix2 n d))
        (fun a b => wa (ix2 a b)) (fun a b => wb (ix2 a b)) i * wo (ix2 i k) := by
  unfold k0_pay2 Cert.Post.merged
  pointwise

theorem sum_apply (oa zn : Vec Ideal S512x512 .bf16) (wa : Vec Ideal S512x1024 .bf16) (ob zr : Vec Ideal S512x1024 .bf16) (wb : Vec Ideal S1024x1024 .bf16)
    (ma mb : Vec Ideal S512x1024 .bf16) (wo : Vec Ideal S1024x1024 .bf16) (x : Vec Ideal S512x1024 .f32) (g : Vec Ideal S1x1024 .f32) (n : Fin 512) (j : Fin 1024) :
    k0_pay1 (k0_pay2 oa zn wa ob zr wb ma mb wo) (k0_pay3 oa zn wa ob zr wb ma mb wo) x g (ix2 n j)
      = x (ix2 n j) + Cert.Post.rms (fun k => k0_pay2 oa zn wa ob zr wb ma mb wo (ix2 n k)) (fun k => g (ix2 0 k)) j := by
  unfold k0_pay1 k0_pay3 Cert.Post.rms
  generalize k0_pay2 oa zn wa ob zr wb ma mb wo = y
  pointwise

/-! ## The blocks -/

variable (m : (ℓ : Loc nD τ sig) → Buf (Elt Ideal) ℓ) (c : Dev nD)

/-- The row of the arrays that is row `a` of point `t`'s blocks. -/
def row (t : Fin cfg0.N) (a : Fin 512) : Fin 16384 := ⟨512 * t.val + a.val, by
  have := lt_of_lt_of_eq t.isLt (show cfg0.N = 32 from N_0); have := a.isLt; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)

theorem blk0 (t : Fin cfg0.N) (a : Fin 512) (j : Fin 1024) : (iblk m c 0 t : Vec Ideal S512x1024 _) (ix2 a j) = V m c main_v0 (ix2 (row t a) j) := by
  obtain ⟨e0, e1⟩ := idx0 t
  unfold iblk
  rw [View.read_apply]
  show V m c main_v0 _ = V m c main_v0 _
  congr 1
  funext x
  apply Fin.ext
  match x with
  | ⟨0, _⟩ => show win0_0.index t (0 : Fin 2) * 512 + 1 * a.val = 512 * t.val + a.val; rw [e0]; omega
  | ⟨1, _⟩ => show win0_0.index t (1 : Fin 2) * 1024 + 1 * j.val = j.val; rw [e1]; omega

theorem blk1 (t : Fin cfg0.N) (a : Fin 512) (j : Fin 512) : (iblk m c 1 t : Vec Ideal S512x512 _) (ix2 a j) = V m c main_arg1 (ix2 (row t a) j) := by
  obtain ⟨e0, e1⟩ := idx1 t
  unfold iblk
  rw [View.read_apply]
  show V m c main_arg1 _ = V m c main_arg1 _
  congr 1
  funext x
  apply Fin.ext
  match x with
  | ⟨0, _⟩ => show win0_1.index t (0 : Fin 2) * 512 + 1 * a.val = 512 * t.val + a.val; rw [e0]; omega
  | ⟨1, _⟩ => show win0_1.index t (1 : Fin 2) * 512 + 1 * j.val = j.val; rw [e1]; omega

theorem blk2 (t : Fin cfg0.N) (a : Fin 512) (j : Fin 512) : (iblk m c 2 t : Vec Ideal S512x512 _) (ix2 a j) = V m c main_arg2 (ix2 (row t a) j) := by
  obtain ⟨e0, e1⟩ := idx2 t
  unfold iblk
  rw [View.read_apply]
  show V m c main_arg2 _ = V m c main_arg2 _
  congr 1
  funext x
  apply Fin.ext
  match x with
  | ⟨0, _⟩ => show win0_2.index t (0 : Fin 2) * 512 + 1 * a.val = 512 * t.val + a.val; rw [e0]; omega
  | ⟨1, _⟩ => show win0_2.index t (1 : Fin 2) * 512 + 1 * j.val = j.val; rw [e1]; omega

theorem blk3 (t : Fin cfg0.N) (a : Fin 512) (j : Fin 1024) : (iblk m c 3 t : Vec Ideal S512x1024 _) (ix2 a j) = V m c main_arg3 (ix2 (row t a) j) := by
  obtain ⟨e0, e1⟩ := idx3 t
  unfold iblk
  rw [View.read_apply]
  show V m c main_arg3 _ = V m c main_arg3 _
  congr 1
  funext x
  apply Fin.ext
  match x with
  | ⟨0, _⟩ => show win0_3.index t (0 : Fin 2) * 512 + 1 * a.val = 512 * t.val + a.val; rw [e0]; omega
  | ⟨1, _⟩ => show win0_3.index t (1 : Fin 2) * 1024 + 1 * j.val = j.val; rw [e1]; omega

theorem blk4 (t : Fin cfg0.N) (a : Fin 512) (j : Fin 1024) : (iblk m c 4 t : Vec Ideal S512x1024 _) (ix2 a j) = V m c main_arg4 (ix2 (row t a) j) := by
  obtain ⟨e0, e1⟩ := idx4 t
  unfold iblk
  rw [View.read_apply]
  show V m c main_arg4 _ = V m c main_arg4 _
  congr 1
  funext x
  apply Fin.ext
  match x with
  | ⟨0, _⟩ => show win0_4.index t (0 : Fin 2) * 512 + 1 * a.val = 512 * t.val + a.val; rw [e0]; omega
  | ⟨1, _⟩ => show win0_4.index t (1 : Fin 2) * 1024 + 1 * j.val = j.val; rw [e1]; omega

theorem blk5 (t : Fin cfg0.N) (a : Fin 512) (j : Fin 1024) : (iblk m c 5 t : Vec Ideal S512x1024 _) (ix2 a j) = V m c main_arg5 (ix2 (row t a) j) := by
  obtain ⟨e0, e1⟩ := idx5 t
  unfold iblk
  rw [View.read_apply]
  show V m c main_arg5 _ = V m c main_arg5 _
  congr 1
  funext x
  apply Fin.ext
  match x with
  | ⟨0, _⟩ => show win0_5.index t (0 : Fin 2) * 512 + 1 * a.val = 512 * t.val + a.val; rw [e0]; omega
  | ⟨1, _⟩ => show win0_5.index t (1 : Fin 2) * 1024 + 1 * j.val = j.val; rw [e1]; omega

theorem blk6 (t : Fin cfg0.N) (a : Fin 512) (j : Fin 1024) : (iblk m c 6 t : Vec Ideal S512x1024 _) (ix2 a j) = V m c main_arg6 (ix2 (row t a) j) := by
  obtain ⟨e0, e1⟩ := idx6 t
  unfold iblk
  rw [View.read_apply]
  show V m c main_arg6 _ = V m c main_arg6 _
  congr 1
  funext x
  apply Fin.ext
  match x with
  | ⟨0, _⟩ => show win0_6.index t (0 : Fin 2) * 512 + 1 * a.val = 512 * t.val + a.val; rw [e0]; omega
  | ⟨1, _⟩ => show win0_6.index t (1 : Fin 2) * 1024 + 1 * j.val = j.val; rw [e1]; omega

theorem blk7 (t : Fin cfg0.N) (a : Fin 512) (j : Fin 1024) : (iblk m c 7 t : Vec Ideal S512x1024 _) (ix2 a j) = V m c main_v1 (ix2 a j) := by
  obtain ⟨e0, e1⟩ := idx7 t
  unfold iblk
  rw [View.read_apply]
  show V m c main_v1 _ = V m c main_v1 _
  congr 1
  funext x
  apply Fin.ext
  match x with
  | ⟨0, _⟩ => show win0_7.index t (0 : Fin 2) * 512 + 1 * a.val = a.val; rw [e0]; omega
  | ⟨1, _⟩ => show win0_7.index t (1 : Fin 2) * 1024 + 1 * j.val = j.val; rw [e1]; omega

theorem blk8 (t : Fin cfg0.N) (a : Fin 1024) (j : Fin 1024) : (iblk m c 8 t : Vec Ideal S1024x1024 _) (ix2 a j) = V m c main_v2 (ix2 a j) := by
  obtain ⟨e0, e1⟩ := idx8 t
  unfold iblk
  rw [View.read_apply]
  show V m c main_v2 _ = V m c main_v2 _
  congr 1
  funext x
  apply Fin.ext
  match x with
  | ⟨0, _⟩ => show win0_8.index t (0 : Fin 2) * 1024 + 1 * a.val = a.val; rw [e0]; omega
  | ⟨1, _⟩ => show win0_8.index t (1 : Fin 2) * 1024 + 1 * j.val = j.val; rw [e1]; omega

theorem blk9 (t : Fin cfg0.N) (a : Fin 1024) (j : Fin 1024) : (iblk m c 9 t : Vec Ideal S1024x1024 _) (ix2 a j) = V m c main_v3 (ix2 a j) := by
  obtain ⟨e0, e1⟩ := idx9 t
  unfold iblk
  rw [View.read_apply]
  show V m c main_v3 _ = V m c main_v3 _
  congr 1
  funext x
  apply Fin.ext
  match x with
  | ⟨0, _⟩ => show win0_9.index t (0 : Fin 2) * 1024 + 1 * a.val = a.val; rw [e0]; omega
  | ⟨1, _⟩ => show win0_9.index t (1 : Fin 2) * 1024 + 1 * j.val = j.val; rw [e1]; omega

theorem blk10 (t : Fin cfg0.N) (a : Fin 1) (j : Fin 1024) : (iblk m c 10 t : Vec Ideal S1x1024 _) (ix2 a j) = V m c main_v4 (ix2 a j) := by
  obtain ⟨e0, e1⟩ := idx10 t
  unfold iblk
  rw [View.read_apply]
  show V m c main_v4 _ = V m c main_v4 _
  congr 1
  funext x
  apply Fin.ext
  match x with
  | ⟨0, _⟩ => show win0_10.index t (0 : Fin 2) * 1 + 1 * a.val = a.val; rw [e0]; omega
  | ⟨1, _⟩ => show win0_10.index t (1 : Fin 2) * 1024 + 1 * j.val = j.val; rw [e1]; omega

theorem emb11 (t : Fin cfg0.N) (a : Fin 512) (j : Fin 1024) : ((cfg0.win 11).blk t).view.emb (ix2 a j : S512x1024.Idx) = (ix2 (row t a) j : S16384x1024.Idx) := by
  obtain ⟨e0, e1⟩ := idx11 t
  funext x
  apply Fin.ext
  match x with
  | ⟨0, _⟩ => show win0_11.index t (0 : Fin 2) * 512 + 1 * a.val = 512 * t.val + a.val; rw [e0]; omega
  | ⟨1, _⟩ => show win0_11.index t (1 : Fin 2) * 1024 + 1 * j.val = j.val; rw [e1]; omega

/-! ## What the host makes of the arguments before the call -/

section Entry

theorem cast_x (x : Vec Ideal S1x16384x1024 .f32) (n : Fin 16384) (j : Fin 1024) : shapeCast S16384x1024 x shapeCasts_S1x16384x1024_S16384x1024 (ix2 n j) = x (ix3 0 n j) := by
  pointwise

theorem cast_g (x : Vec Ideal S1024 .f32) (j : Fin 1024) : shapeCast S1x1024 x shapeCasts_S1024_S1x1024 (ix2 0 j) = x (ix1 j) := by
  pointwise

theorem V_x (n : Fin 16384) (j : Fin 1024) : V m c main_v0 (ix2 n j) = m ((c : Thread nD τ).loc main_arg0) (ix3 0 n j) := by
  rw [show (V m c main_v0 : Vec Ideal S16384x1024 .f32) = shapeCast _ (m ((c : Thread nD τ).loc main_arg0) : Vec Ideal S1x16384x1024 .f32) shapeCasts_S1x16384x1024_S16384x1024 from by
    simp only [V, hostOps0]; after_reads_simp; rfl]
  exact cast_x _ n j

theorem V_wa : (V m c main_v1 : S512x1024.Idx → EReal) = m ((c : Thread nD τ).loc main_arg7) := by
  simp only [V, hostOps0]; after_reads_simp; rfl

theorem V_wb : (V m c main_v2 : S1024x1024.Idx → EReal) = m ((c : Thread nD τ).loc main_arg8) := by
  simp only [V, hostOps0]; after_reads_simp; rfl

theorem V_wo : (V m c main_v3 : S1024x1024.Idx → EReal) = m ((c : Thread nD τ).loc main_arg9) := by
  simp only [V, hostOps0]; after_reads_simp; rfl

theorem V_g (j : Fin 1024) : V m c main_v4 (ix2 0 j) = m ((c : Thread nD τ).loc main_arg10) (ix1 j) := by
  rw [show (V m c main_v4 : Vec Ideal S1x1024 .f32) = shapeCast _ (m ((c : Thread nD τ).loc main_arg10) : Vec Ideal S1024 .f32) shapeCasts_S1024_S1x1024 from by
    simp only [V, hostOps0]; after_reads_simp; rfl]
  exact cast_g _ j

end Entry

/-! ## The result -/

theorem out_apply (x0 : Vec Ideal S512x1024 .f32) (x1 x2 : Vec Ideal S512x512 .bf16) (x3 x4 x5 x6 x7 : Vec Ideal S512x1024 .bf16) (x8 x9 : Vec Ideal S1024x1024 .bf16) (x10 : Vec Ideal S1x1024 .f32)
    (a : Fin 512) (j : Fin 1024) : out0_11 x0 x1 x2 x3 x4 x5 x6 x7 x8 x9 x10 (ix2 a j)
      = x0 (ix2 a j) + Cert.Post.rms (fun k => ∑ i, Cert.Post.merged (fun d => x1 (ix2 a d)) (fun d => x2 (ix2 a d)) (fun d => x3 (ix2 a d)) (fun d => x4 (ix2 a d))
        (fun d => x5 (ix2 a d)) (fun d => x6 (ix2 a d)) (fun p q => x7 (ix2 p q)) (fun p q => x8 (ix2 p q)) i * x9 (ix2 i k)) (fun k => x10 (ix2 0 k)) j := by
  have hz : (![0, 0] : Fin 2 → ℕ) = fun _ => 0 := by decide
  unfold out0_11
  rw [View.canon_unit_zero hz, sum_apply]
  rw [View.ld_unit_zero hz, View.ld_unit_zero hz, View.ld_unit_zero hz, View.ld_unit_zero hz, View.ld_unit_zero hz, View.ld_unit_zero hz,
    View.ld_unit_zero hz, View.ld_unit_zero hz, View.ld_unit_zero hz, View.ld_unit_zero hz, View.ld_unit_zero hz]
  congr 2
  funext k
  exact proj_apply _ _ _ _ _ _ _ _ _ _ _

abbrev A0 : S1x16384x1024.Idx → EReal := m ((c : Thread nD τ).loc main_arg0)
abbrev A1 : S16384x512.Idx → EReal := m ((c : Thread nD τ).loc main_arg1)
abbrev A2 : S16384x512.Idx → EReal := m ((c : Thread nD τ).loc main_arg2)
abbrev A3 : S16384x1024.Idx → EReal := m ((c : Thread nD τ).loc main_arg3)
abbrev A4 : S16384x1024.Idx → EReal := m ((c : Thread nD τ).loc main_arg4)
abbrev A5 : S16384x1024.Idx → EReal := m ((c : Thread nD τ).loc main_arg5)
abbrev A6 : S16384x1024.Idx → EReal := m ((c : Thread nD τ).loc main_arg6)
abbrev A7 : S512x1024.Idx → EReal := m ((c : Thread nD τ).loc main_arg7)
abbrev A8 : S1024x1024.Idx → EReal := m ((c : Thread nD τ).loc main_arg8)
abbrev A9 : S1024x1024.Idx → EReal := m ((c : Thread nD τ).loc main_arg9)
abbrev A10 : S1024.Idx → EReal := m ((c : Thread nD τ).loc main_arg10)

/-- The result at row `n`, column `j`: the formula of the arguments' rows. -/
theorem result (n : Fin 16384) (j : Fin 1024) : (dats m 0 c).arrAt 11 cfg0.N (ix2 n j)
    = A0 m c (ix3 0 n j) + Cert.Post.rms (fun k => ∑ i, Cert.Post.merged (fun d => A1 m c (ix2 n d))
        (fun d => A2 m c (ix2 n d)) (fun d => A3 m c (ix2 n d)) (fun d => A4 m c (ix2 n d))
        (fun d => A5 m c (ix2 n d)) (fun d => A6 m c (ix2 n d))
        (fun a b => A7 m c (ix2 a b)) (fun a b => A8 m c (ix2 a b)) i * A9 m c (ix2 i k))
      (fun k => A10 m c (ix1 k)) j := by
  have ht : n.val / 512 < cfg0.N := lt_of_lt_of_eq (by have := n.isLt; omega) N_0.symm
  obtain ⟨t, a, rfl⟩ : ∃ t a, n = row t a := ⟨⟨n.val / 512, ht⟩, ⟨n.val % 512, Nat.mod_lt _ (by decide)⟩, Fin.ext (by show n.val = 512 * (n.val / 512) + n.val % 512; omega)⟩
  have b := congrFun (blocks11 m c t (flush0_11 t)) (ix2 a j : S512x1024.Idx)
  rw [flushed11] at b
  have b' : (dats m 0 c).arrAt 11 cfg0.N (((cfg0.win 11).blk t).view.emb (ix2 a j : S512x1024.Idx)) = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a j) := b
  rw [emb11, out_apply] at b'
  simp only [blk0, blk1, blk2, blk3, blk4, blk5, blk6, blk7, blk8, blk9, blk10] at b'
  have x0 : ∀ j, V m c main_v0 (ix2 (row t a) j) = A0 m c (ix3 0 (row t a) j) := fun j => V_x m c _ j
  have x1 : V m c main_arg1 = A1 m c := V_main_arg1 m c
  have x2 : V m c main_arg2 = A2 m c := V_main_arg2 m c
  have x3 : V m c main_arg3 = A3 m c := V_main_arg3 m c
  have x4 : V m c main_arg4 = A4 m c := V_main_arg4 m c
  have x5 : V m c main_arg5 = A5 m c := V_main_arg5 m c
  have x6 : V m c main_arg6 = A6 m c := V_main_arg6 m c
  have x7 : V m c main_v1 = A7 m c := V_wa m c
  have x8 : V m c main_v2 = A8 m c := V_wb m c
  have x9 : V m c main_v3 = A9 m c := V_wo m c
  have x10 : ∀ k, V m c main_v4 (ix2 0 k) = A10 m c (ix1 k) := V_g m c
  rw [x0, x1, x2, x3, x4, x5, x6, x7, x8, x9] at b'
  simp only [x10] at b'
  exact b'

end Cert.Kernel2Ideal.Post

end
-- ==== Proof.PostRef.lean ====
/- The reference of the last call, read at an index: it is the formula `Cert.Post.out` of the arrays' rows. -/
module

public import proofs.«01_k».proof.Proof.Gen.Reference2Ideal.Run
public import proofs.«01_k».proof.Proof.PostSpec
public import Idealize.ShloMosaic.Lib.Pointwise

@[expose] public section

set_option maxRecDepth 16384

noncomputable section

namespace Cert.Reference2Ideal.Post

open Idealize.ShloMosaic Idealize.ShloMosaic.TcCoe Idealize.ShloMosaic.Tactic
open Cert.Reference2Ideal Cert.Reference2Ideal.Gen

variable {F : FTy → Type} [FloatOps F]

/-- The projected merge. -/
def proj (oa zn : Vec F S16384x512 .bf16) (ob zr ma mb : Vec F S16384x1024 .bf16) (wa : Vec F S512x1024 .f32) (wb wo : Vec F S1024x1024 .f32) : Vec F S16384x1024 .f32 :=
  Host.dotGeneral dot_S16384x1024_S1024x1024_S16384x1024_1_0_0_1_n_n none (addf (mulf (extf .f32 ma bitsLt_bf16_f32) (Host.dotGeneral dot_S16384x512_S512x1024_S16384x1024_1_0_0_1_n_n none (mulf (extf .f32 oa bitsLt_bf16_f32) (extf .f32 zn bitsLt_bf16_f32)) wa)) (mulf (extf .f32 mb bitsLt_bf16_f32) (Host.dotGeneral dot_S16384x1024_S1024x1024_S16384x1024_1_0_0_1_n_n none (mulf (extf .f32 ob bitsLt_bf16_f32) (extf .f32 zr bitsLt_bf16_f32)) wb))) wo
/-- The norm and the sum with what came in. -/
def sum (x : Vec F S1x16384x1024 .f32) (y : Vec F S16384x1024 .f32) (g : Vec F S1024 .f32) : Vec F S16384x1024 .f32 :=
  addf (shapeCast _ x shapeCasts_S1x16384x1024_S16384x1024) (mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g)))

theorem proj_apply (oa zn : Vec Ideal S16384x512 .bf16) (ob zr ma mb : Vec Ideal S16384x1024 .bf16) (wa : Vec Ideal S512x1024 .f32) (wb wo : Vec Ideal S1024x1024 .f32)
    (n : Fin 16384) (k : Fin 1024) : proj oa zn ob zr ma mb wa wb wo (ix2 n k)
      = ∑ i, Cert.Post.merged (fun d => oa (ix2 n d)) (fun d => zn (ix2 n d)) (fun d => ob (ix2 n d)) (fun d => zr (ix2 n d)) (fun d => ma (ix2 n d)) (fun d => mb (ix2 n d))
        (fun a b => wa (ix2 a b)) (fun a b => wb (ix2 a b)) i * wo (ix2 i k) := by
  unfold proj Cert.Post.merged
  pointwise

theorem sum_apply (x : Vec Ideal S1x16384x1024 .f32) (y : Vec Ideal S16384x1024 .f32) (g : Vec Ideal S1024 .f32) (n : Fin 16384) (j : Fin 1024) :
    sum x y g (ix2 n j) = x (ix3 0 n j) + Cert.Post.rms (fun k => y (ix2 n k)) (fun k => g (ix1 k)) j := by
  unfold sum Cert.Post.rms
  pointwise

end Cert.Reference2Ideal.Post

end
-- ==== Proof.PostClaims.lean ====
/- The claims about the call of the layer's output. -/
module

public import proofs.«01_k».proof.Defs
public import proofs.«01_k».proof.Proof.Gen.Kernel2.Frame
public import proofs.«01_k».proof.Proof.PostKernel
public import proofs.«01_k».proof.Proof.PostRef
public import Idealize.ShloMosaic.Lib.Quiescent

@[expose] public section

set_option maxRecDepth 16384

noncomputable section

namespace Cert.Post

open Idealize.ShloMosaic Idealize.ShloMosaic.TcCoe Idealize.ShloMosaic.Tactic Idealize.SL.Sem

theorem frame_kernel : Cert.quiescent_Kernel2 (hKernel2 := Cert.Kernel2.Gen.facts) := fun m g _ => Cert.Kernel2.Gen.frame m g
theorem frame_kernelIdeal : Cert.quiescent_Kernel2Ideal (hKernel2Ideal := Cert.Kernel2Ideal.Gen.facts) := fun m g _ => Cert.Kernel2Ideal.Gen.frame m g
theorem frame_reference : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

theorem equal : Cert.algebraic_Kernel2Ideal_Reference2Ideal (hKernel2Ideal := Cert.Kernel2Ideal.Gen.facts) (hReference2Ideal := Cert.Reference2Ideal.Gen.facts) := by
  intro m g m' g' _ hargs
  refine ⟨fun c => (Cert.Kernel2Ideal.Gen.dats m 0 c).arrAt 11 Cert.Kernel2Ideal.cfg0.N, Cert.Kernel2Ideal.Value.run_blocks m g, ?_⟩
  refine (θ_run _ _ _).mono (fun r h c => ⟨(h c).1.trans ?_, (h c).2⟩) (Cert.Reference2Ideal.Value.run m' g')
  obtain ⟨e0, e1, e2, e3, e4, e5, e6, e7, e8, e9, e10⟩ := hargs c
  rw [e0, e1, e2, e3, e4, e5, e6, e7, e8, e9, e10]
  funext i
  have hi : i = ix2 (i 0) (i 1) := by
    funext a; match a with
    | ⟨0, _⟩ => rfl
    | ⟨1, _⟩ => rfl
  rw [hi]
  refine Eq.trans ?_ (Cert.Kernel2Ideal.Post.result m c (i 0) (i 1)).symm
  refine (Cert.Reference2Ideal.Post.sum_apply _ _ _ _ _).trans ?_
  congr 2
  funext k
  exact Cert.Reference2Ideal.Post.proj_apply _ _ _ _ _ _ _ _ _ _ _

end Cert.Post

end
-- ==== Proof.InprojSpec.lean ====
/- The input projection as formulas of one row of the input: the norm, the projection, the two rotations, the gates.
   `y` is the row's projection, column by column from 0. -/
module

public import Idealize.ShloMosaic.Lib.Pointwise

@[expose] public section

noncomputable section

namespace Cert.Inproj

open Idealize.ShloMosaic

/-- The normed row. -/
def hid (x g : Fin 1024 → EReal) (d : Fin 1024) : EReal :=
  x d * Ideal.rsqrt (Ideal.div (∑ k, x k * x k) (Ideal.ofBits .f32 0x44800000#32) + Ideal.ofBits .f32 0x358637BD#32) * g d

/-- The rotation of the first sixteen components of a head, as two halves, by the angles with cosines `c` and sines `s`. -/
def rotN (u : Fin 64 → EReal) (c s : Fin 8 → EReal) (e : Fin 64) : EReal :=
  if h : e.val < 8 then u e * c ⟨e.val, h⟩ - u ⟨8 + e.val, by omega⟩ * s ⟨e.val, h⟩
  else if h' : e.val - 8 < 8 then u e * c ⟨e.val - 8, h'⟩ + u ⟨e.val - 8, by omega⟩ * s ⟨e.val - 8, h'⟩
  else u e

/-- The rotation of a whole head, as two halves. -/
def rotR (u : Fin 128 → EReal) (c s : Fin 64 → EReal) (e : Fin 128) : EReal :=
  if h : e.val < 64 then u e * c ⟨e.val, h⟩ - u ⟨64 + e.val, by omega⟩ * s ⟨e.val, h⟩
  else u e * c ⟨e.val - 64, by omega⟩ + u ⟨e.val - 64, by omega⟩ * s ⟨e.val - 64, by omega⟩

/-- A position as a number. -/
def pos (n : ℕ) : EReal := (((BitVec.ofNat 32 n).toInt : ℝ) : EReal)

/-- `z · σ(z)`. -/
def silu (z : EReal) : EReal := z * Ideal.logistic z

variable (y : ℕ → EReal)

/-- The rotated heads of 64 from column `o` on, at component `j` counted through the heads. -/
def heads (c s : Fin 8 → EReal) (o j : ℕ) : EReal := rotN (fun k => y (o + (j / 64 * 64 + k.val))) c s ⟨j % 64, by omega⟩

/-- The rotated heads of 128 from column `o` on. -/
def wide (c s : Fin 64 → EReal) (o j : ℕ) : EReal := rotR (fun k => y (o + (j / 128 * 128 + k.val))) c s ⟨j % 128, by omega⟩

/-- A group's rotated key, and `f` beside it. -/
def key (c s : Fin 8 → EReal) (o g l : ℕ) (f : ℕ → EReal) : EReal := if l < 64 then heads y c s o (64 * g + l) else f (l - 64)

/-- A group's value, and under it a one and zeros. -/
def value (o g r : ℕ) : EReal := if r < 64 then y (o + (64 * g + r)) else if r = 64 then 1 else 0

/-- Which block of 64 within 512 rows the row `n` is in, as a one among zeros. -/
def block (n l : ℕ) : EReal := if n / 64 % 8 = l then 1 else 0

/-- A gate, and under the twelve of a group four of zero. -/
def gate (b : ℕ → EReal) (g r : ℕ) : EReal := Ideal.logistic (if r < 12 then y (1280 + (12 * g + r)) + b (12 * g + r) else 0)

end Cert.Inproj

end
-- ==== Proof.Index.lean ====
/- Two indices are equal if their coordinates are. -/
module

public import Idealize.ShloMosaic.Lib.Pointwise

@[expose] public section

namespace Cert.Index

open Idealize.ShloMosaic

theorem ext2 {n k : ℕ} (x y : (⟨2, ![n, k]⟩ : Shape).Idx) (h0 : (x 0).val = (y 0).val) (h1 : (x 1).val = (y 1).val) : x = y := by
  funext d
  match d with
  | ⟨0, _⟩ => exact Fin.ext h0
  | ⟨1, _⟩ => exact Fin.ext h1

theorem ext3 {n k l : ℕ} (x y : (⟨3, ![n, k, l]⟩ : Shape).Idx) (h0 : (x 0).val = (y 0).val) (h1 : (x 1).val = (y 1).val) (h2 : (x 2).val = (y 2).val) : x = y := by
  funext d
  match d with
  | ⟨0, _⟩ => exact Fin.ext h0
  | ⟨1, _⟩ => exact Fin.ext h1
  | ⟨2, _⟩ => exact Fin.ext h2

/-- What holds of every pair of coordinates holds of every index. -/
theorem all2 {n k : ℕ} (P : (⟨2, ![n, k]⟩ : Shape).Idx → Prop) (h : ∀ (a : Fin n) (b : Fin k), P (ix2 a b)) (i : (⟨2, ![n, k]⟩ : Shape).Idx) : P i := by
  have e : i = ix2 (⟨(i 0).val, (i 0).isLt⟩ : Fin n) (⟨(i 1).val, (i 1).isLt⟩ : Fin k) := ext2 _ _ rfl rfl
  rw [e]
  exact h _ _

/-- What holds of every triple of coordinates holds of every index. -/
theorem all3 {n k l : ℕ} (P : (⟨3, ![n, k, l]⟩ : Shape).Idx → Prop) (h : ∀ (a : Fin n) (b : Fin k) (d : Fin l), P (ix3 a b d)) (i : (⟨3, ![n, k, l]⟩ : Shape).Idx) : P i := by
  have e : i = ix3 (⟨(i 0).val, (i 0).isLt⟩ : Fin n) (⟨(i 1).val, (i 1).isLt⟩ : Fin k) (⟨(i 2).val, (i 2).isLt⟩ : Fin l) := ext3 _ _ rfl rfl rfl
  rw [e]
  exact h _ _ _

end Cert.Index

end
-- ==== Proof.InprojBody.lean ====
/- One point of the projection's grid: its 256 rows of each result, as the formulas of Proof/InprojSpec.lean of the blocks it reads. -/
module

public import proofs.«01_k».proof.Proof.Gen.Kernel3Ideal.Value
public import proofs.«01_k».proof.Proof.InprojSpec
public import proofs.«01_k».proof.Proof.Index
public import Idealize.ShloMosaic.Lib.Pointwise
public import Idealize.ShloMosaic.Lib.StableHlo.ReadAt
public import Idealize.ShloMosaic.Lib.Pipeline.Value
public import Idealize.ShloMosaic.Lib.Pipeline.ValueKit.Tiles
public import Idealize.ShloMosaic.Lib.Routing.Words

@[expose] public section

set_option maxRecDepth 16384

noncomputable section

namespace Cert.Kernel3Ideal.Inproj

open Idealize.ShloMosaic Idealize.ShloMosaic.TcCoe Idealize.ShloMosaic.Tactic Idealize.SL.Sem
open Idealize.ShloMosaic.StableHlo
open Cert.Kernel3Ideal Cert.Kernel3Ideal.Gen Cert.Kernel3Ideal.Value
open Cert.Index

variable (i : grid0.Coords) (x0 : Vec Ideal S256x1024 .f32) (x1 : Vec Ideal S1x1024 .f32) (x2 : Vec Ideal S1024x7040 .bf16) (x3 : Vec Ideal S1x128 .f32) (x4 : Vec Ideal S8x128 .f32)

/-- The normed row `a` of the block. -/
def hrow (a : Fin 256) (d : Fin 1024) : EReal := Cert.Inproj.hid (fun k => x0 (ix2 a k)) (fun k => x1 (ix2 0 k)) d

/-- Column `k` of the product of row `a`. -/
def zc (a : Fin 256) (k : ℕ) : EReal := if h : k < 7040 then ∑ d, hrow x0 x1 a d * x2 (ix2 d ⟨k, h⟩) else 0

theorem norm_apply (x : Vec Ideal S256x1024 .f32) (g : Vec Ideal S1x1024 .f32) (a : Fin 256) (d : Fin 1024) :
    k0_pay4 x g (ix2 a d) = Cert.Inproj.hid (fun k => x (ix2 a k)) (fun k => g (ix2 0 k)) d := by
  unfold k0_pay4 Cert.Inproj.hid
  pointwise

theorem hid_apply (a : Fin 256) (d : Fin 1024) : k0_pay74 i x0 x1 x2 x3 x4 (ix2 a d) = hrow x0 x1 a d := by
  have hz : (![0, 0] : Fin 2 → ℕ) = fun _ => 0 := by decide
  unfold k0_pay74
  rw [norm_apply, View.ld_unit_zero hz, View.ld_unit_zero hz]
  rfl

theorem ld_cols (w o : ℕ) (inb : ∀ a, (![0, o] : Fin 2 → ℕ) a + (![1024, w] : Fin 2 → ℕ) a ≤ S1024x7040.size a) (ho : o + w ≤ 7040) (d : Fin 1024) (j : Fin w) :
    View.ld x2 (Rect.unit (s := S1024x7040) ![0, o] ![1024, w] inb) (ix2 d j) = x2 (ix2 d ⟨o + j.val, by omega⟩) := by
  refine congrArg x2 (funext fun a => ?_)
  match a with
  | ⟨0, _⟩ => exact Fin.ext (by show 0 + 1 * d.val = d.val; omega)
  | ⟨1, _⟩ => exact Fin.ext (by show o + 1 * j.val = o + j.val; omega)

theorem sum_cols (w o : ℕ) (inb : ∀ a, (![0, o] : Fin 2 → ℕ) a + (![1024, w] : Fin 2 → ℕ) a ≤ S1024x7040.size a) (ho : o + w ≤ 7040) (a : Fin 256) (j : Fin w) :
    (∑ d, k0_pay74 i x0 x1 x2 x3 x4 (ix2 a d) * View.ld x2 (Rect.unit (s := S1024x7040) ![0, o] ![1024, w] inb) (ix2 d j)) = zc x0 x1 x2 a (o + j.val) := by
  unfold zc
  rw [dif_pos (by omega)]
  exact Finset.sum_congr rfl fun d _ => by rw [hid_apply, ld_cols x2 w o inb ho]

theorem mm0 (h : Vec Ideal S256x1024 .bf16) (w : Vec Ideal S1024x640 .bf16) (a : Fin 256) (j : Fin 640) : k0_pay23 h w (ix2 a j) = ∑ d, h (ix2 a d) * w (ix2 d j) := by
  unfold k0_pay23
  pointwise

theorem mm1 (h : Vec Ideal S256x1024 .bf16) (w : Vec Ideal S1024x768 .bf16) (a : Fin 256) (j : Fin 768) : k0_pay34 h w (ix2 a j) = ∑ d, h (ix2 a d) * w (ix2 d j) := by
  unfold k0_pay34
  pointwise

theorem mm2 (h : Vec Ideal S256x1024 .bf16) (w : Vec Ideal S1024x1024 .bf16) (a : Fin 256) (j : Fin 1024) : k0_pay62 h w (ix2 a j) = ∑ d, h (ix2 a d) * w (ix2 d j) := by
  unfold k0_pay62
  pointwise

theorem z0 (a : Fin 256) (j : Fin 640) : k0_pay23 (k0_pay74 i x0 x1 x2 x3 x4) (View.ld x2 r0_3) (ix2 a j) = zc x0 x1 x2 a (0 + j.val) :=
  (mm0 _ _ a j).trans (sum_cols i x0 x1 x2 x3 x4 640 0 _ (by decide) a j)

theorem z1 (a : Fin 256) (j : Fin 768) : k0_pay34 (k0_pay74 i x0 x1 x2 x3 x4) (View.ld x2 r0_9) (ix2 a j) = zc x0 x1 x2 a (640 + j.val) :=
  (mm1 _ _ a j).trans (sum_cols i x0 x1 x2 x3 x4 768 640 _ (by decide) a j)

theorem z2 (a : Fin 256) (j : Fin 1024) : k0_pay62 (k0_pay74 i x0 x1 x2 x3 x4) (View.ld x2 r0_19) (ix2 a j) = zc x0 x1 x2 a (1920 + j.val) :=
  (mm2 _ _ a j).trans (sum_cols i x0 x1 x2 x3 x4 1024 1920 _ (by decide) a j)

/-! ## The tables of the rotations -/

/-- Row `a`'s number among all rows. -/
def num (a : Fin 256) : ℕ := 256 * (i 0).val + a.val

theorem num_lt (a : Fin 256) : num i a < 16384 := by
  have h : (i 0).val < 64 := (i 0).isLt
  unfold num
  have := a.isLt
  omega

theorem word_row (a : Fin 256) : IntOp.addi (Scalar.muli (BitVec.ofNat 32 (i 0).val) 256#32) (BitVec.ofNat 32 a.val) = BitVec.ofNat 32 (num i a) := by
  have h : (i 0).val < 64 := (i 0).isLt
  have := a.isLt
  unfold num
  apply BitVec.eq_of_toNat_eq
  show (BitVec.ofNat 32 (i 0).val * 256#32 + BitVec.ofNat 32 a.val).toNat = _
  simp only [BitVec.toNat_add, BitVec.toNat_mul, BitVec.toNat_ofNat]
  omega

/-- The cosine and sine of row `a`'s angle at the frequency of lane `l`. -/
def cosl (a : Fin 256) (l : Fin 128) : EReal := Ideal.cos (Cert.Inproj.pos (num i a) * x4 (ix2 0 l))
def sinl (a : Fin 256) (l : Fin 128) : EReal := Ideal.sin (Cert.Inproj.pos (num i a) * x4 (ix2 0 l))

/-- Those of the attention's rotation, on lanes 64 to 71, and of the retention's, on lanes 0 to 63. -/
def cosN (a : Fin 256) (f : Fin 8) : EReal := cosl i x4 a ⟨64 + f.val, by omega⟩
def sinN (a : Fin 256) (f : Fin 8) : EReal := sinl i x4 a ⟨64 + f.val, by omega⟩
def cosR (a : Fin 256) (f : Fin 64) : EReal := cosl i x4 a ⟨f.val, by omega⟩
def sinR (a : Fin 256) (f : Fin 64) : EReal := sinl i x4 a ⟨f.val, by omega⟩

theorem cos_apply (a : Fin 256) (l : Fin 128) : k0_pay78 i x0 x1 x2 x3 x4 (ix2 a l) = cosl i x4 a l := by
  unfold k0_pay78 k0_pay9 k0_pay8 k0_pay5
  pointwise
  rw [word_row]
  rfl

theorem sin_apply (a : Fin 256) (l : Fin 128) : k0_pay79 i x0 x1 x2 x3 x4 (ix2 a l) = sinl i x4 a l := by
  unfold k0_pay79 k0_pay10 k0_pay8 k0_pay5
  pointwise
  rw [word_row]
  rfl

theorem roll_apply (w : BitVec 32) (p : Vec Ideal S256x128 .f32) (a : Fin 256) (l : Fin 128) :
    dynamicRotate 1 w none p rotates_S256x128_d1 (ix2 a l) = p (ix2 a ⟨(l.val + 128 - w.toNat % 128) % 128, Nat.mod_lt _ (by decide)⟩) := by
  pointwise

theorem low_lane : ∀ l : Fin 128, IntOp.cmpi .slt (BitVec.ofNat 32 l.val) 64#32 = BitVec.ofBool (decide (l.val < 64)) := by decide +kernel
theorem first_lane : ∀ l : Fin 128, IntOp.cmpi .slt (IntOp.andi (BitVec.ofNat 32 l.val) 63#32) 8#32 = BitVec.ofBool (decide (l.val % 64 < 8)) := by decide +kernel
theorem second_lane : ∀ l : Fin 128, IntOp.andi (IntOp.cmpi .sge (IntOp.andi (BitVec.ofNat 32 l.val) 63#32) 8#32) (IntOp.cmpi .slt (IntOp.andi (BitVec.ofNat 32 l.val) 63#32) 16#32)
    = BitVec.ofBool (decide (8 ≤ l.val % 64 ∧ l.val % 64 - 8 < 8)) := by decide +kernel

theorem low_apply (a : Fin 256) (l : Fin 128) : k0_pay76 i x0 x1 x2 x3 x4 (ix2 a l) = BitVec.ofBool (decide (l.val < 64)) := by
  unfold k0_pay76 k0_pay6
  pointwise
  exact low_lane l

theorem first_apply (a : Fin 256) (l : Fin 128) : k0_pay84 i x0 x1 x2 x3 x4 (ix2 a l) = BitVec.ofBool (decide (l.val % 64 < 8)) := by
  unfold k0_pay84 k0_pay15 k0_pay7
  pointwise
  exact first_lane l

theorem second_apply (a : Fin 256) (l : Fin 128) :
    k0_pay17 (k0_pay77 i x0 x1 x2 x3 x4) (k0_pay85 i x0 x1 x2 x3 x4) (ix2 a l) = BitVec.ofBool (decide (8 ≤ l.val % 64 ∧ l.val % 64 - 8 < 8)) := by
  unfold k0_pay17 k0_pay77 k0_pay85 k0_pay16 k0_pay7
  pointwise
  exact second_lane l

theorem cosr_apply (a : Fin 256) (l : Fin 128) : k0_pay80 i x0 x1 x2 x3 x4 (ix2 a l) = cosl i x4 a ⟨(l.val + 64) % 128, Nat.mod_lt _ (by decide)⟩ := by
  show dynamicRotate 1 64#32 none (k0_pay78 i x0 x1 x2 x3 x4) rotates_S256x128_d1 (ix2 a l) = _
  rw [roll_apply, cos_apply]
  rfl

theorem sinr_apply (a : Fin 256) (l : Fin 128) : k0_pay81 i x0 x1 x2 x3 x4 (ix2 a l) = sinl i x4 a ⟨(l.val + 64) % 128, Nat.mod_lt _ (by decide)⟩ := by
  show dynamicRotate 1 64#32 none (k0_pay79 i x0 x1 x2 x3 x4) rotates_S256x128_d1 (ix2 a l) = _
  rw [roll_apply, sin_apply]
  rfl

theorem select_apply' (p : IVec S256x128 1) (u v : Vec Ideal S256x128 .f32) (a : Fin 256) (l : Fin 128) (P : Prop) [Decidable P]
    (hp : p (ix2 a l) = BitVec.ofBool (decide P)) : select p u v (ix2 a l) = if P then u (ix2 a l) else v (ix2 a l) := by
  show Scalar.select (p (ix2 a l)) _ _ = _
  rw [hp]
  by_cases h : P
  · rw [if_pos h]; simp only [h, decide_true]; rfl
  · rw [if_neg h]; simp only [h, decide_false]; rfl

/-- The cosines and sines of the attention's rotation, brought to the first eight lanes of both halves. -/
theorem clo_apply (a : Fin 256) (l : Fin 128) (h : l.val % 64 < 8) :
    select (k0_pay76 i x0 x1 x2 x3 x4) (k0_pay80 i x0 x1 x2 x3 x4) (k0_pay78 i x0 x1 x2 x3 x4) (ix2 a l) = cosN i x4 a ⟨l.val % 64, h⟩ := by
  rw [select_apply' _ _ _ a l _ (low_apply i x0 x1 x2 x3 x4 a l), cosr_apply, cos_apply]
  unfold cosN
  by_cases h' : l.val < 64
  · rw [if_pos h']; exact congrArg _ (Fin.ext (by show (l.val + 64) % 128 = 64 + l.val % 64; omega))
  · rw [if_neg h']; exact congrArg _ (Fin.ext (by show l.val = 64 + l.val % 64; omega))

theorem slo_apply (a : Fin 256) (l : Fin 128) (h : l.val % 64 < 8) :
    k0_pay18 (k0_pay76 i x0 x1 x2 x3 x4) (k0_pay79 i x0 x1 x2 x3 x4) (k0_pay81 i x0 x1 x2 x3 x4) (ix2 a l) = sinN i x4 a ⟨l.val % 64, h⟩ := by
  show select (k0_pay76 i x0 x1 x2 x3 x4) (k0_pay81 i x0 x1 x2 x3 x4) (k0_pay79 i x0 x1 x2 x3 x4) (ix2 a l) = _
  rw [select_apply' _ _ _ a l _ (low_apply i x0 x1 x2 x3 x4 a l), sinr_apply, sin_apply]
  unfold sinN
  by_cases h' : l.val < 64
  · rw [if_pos h']; exact congrArg _ (Fin.ext (by show (l.val + 64) % 128 = 64 + l.val % 64; omega))
  · rw [if_neg h']; exact congrArg _ (Fin.ext (by show l.val = 64 + l.val % 64; omega))

theorem cn_apply (a : Fin 256) (l : Fin 128) : k0_pay86 i x0 x1 x2 x3 x4 (ix2 a l)
    = if h : l.val % 64 < 8 then cosN i x4 a ⟨l.val % 64, h⟩ else if h' : l.val % 64 - 8 < 8 then cosN i x4 a ⟨l.val % 64 - 8, h'⟩ else 1 := by
  show select (k0_pay84 i x0 x1 x2 x3 x4) (select (k0_pay76 i x0 x1 x2 x3 x4) (k0_pay80 i x0 x1 x2 x3 x4) (k0_pay78 i x0 x1 x2 x3 x4))
    (select (k0_pay17 (k0_pay77 i x0 x1 x2 x3 x4) (k0_pay85 i x0 x1 x2 x3 x4))
      (dynamicRotate 1 8#32 none (select (k0_pay76 i x0 x1 x2 x3 x4) (k0_pay80 i x0 x1 x2 x3 x4) (k0_pay78 i x0 x1 x2 x3 x4)) rotates_S256x128_d1)
      (broadcast S256x128 (Ideal.ofBits .f32 0x3F800000#32 : EReal))) (ix2 a l) = _
  rw [select_apply' _ _ _ a l _ (first_apply i x0 x1 x2 x3 x4 a l)]
  by_cases h : l.val % 64 < 8
  · rw [if_pos h, dif_pos h, clo_apply i x0 x1 x2 x3 x4 a l h]
  · rw [if_neg h, dif_neg h, select_apply' _ _ _ a l _ (second_apply i x0 x1 x2 x3 x4 a l)]
    by_cases h' : l.val % 64 - 8 < 8
    · rw [if_pos ⟨by omega, h'⟩, dif_pos h', roll_apply,
        clo_apply i x0 x1 x2 x3 x4 a _ (by show (l.val + 128 - 8) % 128 % 64 < 8; omega)]
      exact congrArg _ (Fin.ext (by show (l.val + 128 - 8) % 128 % 64 = l.val % 64 - 8; omega))
    · rw [if_neg (fun k => h' k.2), dif_neg h']
      exact Ideal.ofBits_one_f32

theorem sa_apply (a : Fin 256) (l : Fin 128) : k0_pay87 i x0 x1 x2 x3 x4 (ix2 a l)
    = if h : 8 ≤ l.val % 64 ∧ l.val % 64 - 8 < 8 then sinN i x4 a ⟨l.val % 64 - 8, h.2⟩ else 0 := by
  show select (k0_pay17 (k0_pay77 i x0 x1 x2 x3 x4) (k0_pay85 i x0 x1 x2 x3 x4))
      (dynamicRotate 1 8#32 none (k0_pay18 (k0_pay76 i x0 x1 x2 x3 x4) (k0_pay79 i x0 x1 x2 x3 x4) (k0_pay81 i x0 x1 x2 x3 x4)) rotates_S256x128_d1)
      (broadcast S256x128 (Ideal.ofBits .f32 0x00000000#32 : EReal)) (ix2 a l) = _
  rw [select_apply' _ _ _ a l _ (second_apply i x0 x1 x2 x3 x4 a l)]
  by_cases h : 8 ≤ l.val % 64 ∧ l.val % 64 - 8 < 8
  · rw [if_pos h, dif_pos h, roll_apply, slo_apply i x0 x1 x2 x3 x4 a _ (by show (l.val + 128 - 8) % 128 % 64 < 8; omega)]
    exact congrArg _ (Fin.ext (by show (l.val + 128 - 8) % 128 % 64 = l.val % 64 - 8; omega))
  · rw [if_neg h, dif_neg h]
    exact Ideal.ofBits_zero_f32

theorem sb_apply (a : Fin 256) (l : Fin 128) : k0_pay88 i x0 x1 x2 x3 x4 (ix2 a l)
    = if h : l.val % 64 < 8 then 0 - sinN i x4 a ⟨l.val % 64, h⟩ else 0 := by
  show select (k0_pay84 i x0 x1 x2 x3 x4)
      (subf (broadcast S256x128 (Ideal.ofBits .f32 0x00000000#32 : EReal)) (k0_pay18 (k0_pay76 i x0 x1 x2 x3 x4) (k0_pay79 i x0 x1 x2 x3 x4) (k0_pay81 i x0 x1 x2 x3 x4)))
      (broadcast S256x128 (Ideal.ofBits .f32 0x00000000#32 : EReal)) (ix2 a l) = _
  rw [select_apply' _ _ _ a l _ (first_apply i x0 x1 x2 x3 x4 a l)]
  by_cases h : l.val % 64 < 8
  · rw [if_pos h, dif_pos h, ← slo_apply i x0 x1 x2 x3 x4 a l h]
    exact congrArg (fun k : EReal => k - _) Ideal.ofBits_zero_f32
  · rw [if_neg h, dif_neg h]
    exact Ideal.ofBits_zero_f32

theorem cr_apply (a : Fin 256) (l : Fin 128) : k0_pay82 i x0 x1 x2 x3 x4 (ix2 a l)
    = if h : l.val < 64 then cosR i x4 a ⟨l.val, h⟩ else cosR i x4 a ⟨l.val - 64, by omega⟩ := by
  show select (k0_pay76 i x0 x1 x2 x3 x4) (k0_pay78 i x0 x1 x2 x3 x4) (k0_pay80 i x0 x1 x2 x3 x4) (ix2 a l) = _
  rw [select_apply' _ _ _ a l _ (low_apply i x0 x1 x2 x3 x4 a l), cosr_apply, cos_apply]
  by_cases h : l.val < 64
  · rw [if_pos h, dif_pos h]; rfl
  · rw [if_neg h, dif_neg h]; exact congrArg _ (Fin.ext (by show (l.val + 64) % 128 = l.val - 64; omega))

theorem sr_apply (a : Fin 256) (l : Fin 128) : k0_pay83 i x0 x1 x2 x3 x4 (ix2 a l)
    = if h : l.val < 64 then 0 - sinR i x4 a ⟨l.val, h⟩ else sinR i x4 a ⟨l.val - 64, by omega⟩ := by
  show select (k0_pay76 i x0 x1 x2 x3 x4) (subf (broadcast S256x128 (Ideal.ofBits .f32 0x00000000#32 : EReal)) (k0_pay79 i x0 x1 x2 x3 x4)) (k0_pay81 i x0 x1 x2 x3 x4) (ix2 a l) = _
  rw [select_apply' _ _ _ a l _ (low_apply i x0 x1 x2 x3 x4 a l), sinr_apply]
  by_cases h : l.val < 64
  · rw [if_pos h, dif_pos h]
    show (Ideal.ofBits .f32 0x00000000#32 : EReal) - k0_pay79 i x0 x1 x2 x3 x4 (ix2 a l) = _
    rw [sin_apply, Ideal.ofBits_zero_f32]
    rfl
  · rw [if_neg h, dif_neg h]; exact congrArg _ (Fin.ext (by show (l.val + 64) % 128 = l.val - 64; omega))

/-! ## The rotations -/

/-- The rotation of two heads of 64 on 128 lanes, from the tables. -/
def turn (p : Vec Ideal S256x128 .f32) : Vec Ideal S256x128 .f32 :=
  addf (addf (mulf p (k0_pay86 i x0 x1 x2 x3 x4)) (mulf (dynamicRotate 1 8#32 none p rotates_S256x128_d1) (k0_pay87 i x0 x1 x2 x3 x4)))
    (mulf (dynamicRotate 1 120#32 none p rotates_S256x128_d1) (k0_pay88 i x0 x1 x2 x3 x4))

/-- The rotation of one head of 128. -/
def turnR (p : Vec Ideal S256x128 .f32) : Vec Ideal S256x128 .f32 :=
  addf (mulf p (k0_pay82 i x0 x1 x2 x3 x4)) (mulf (dynamicRotate 1 64#32 none p rotates_S256x128_d1) (k0_pay83 i x0 x1 x2 x3 x4))

theorem turn_apply (p : Vec Ideal S256x128 .f32) (a : Fin 256) (l : Fin 128) : turn i x0 x1 x2 x3 x4 p (ix2 a l)
    = Cert.Inproj.rotN (fun k => p (ix2 a ⟨l.val / 64 * 64 + k.val, by omega⟩)) (cosN i x4 a) (sinN i x4 a) ⟨l.val % 64, Nat.mod_lt _ (by decide)⟩ := by
  show p (ix2 a l) * k0_pay86 i x0 x1 x2 x3 x4 (ix2 a l) + dynamicRotate 1 8#32 none p rotates_S256x128_d1 (ix2 a l) * k0_pay87 i x0 x1 x2 x3 x4 (ix2 a l)
    + dynamicRotate 1 120#32 none p rotates_S256x128_d1 (ix2 a l) * k0_pay88 i x0 x1 x2 x3 x4 (ix2 a l) = _
  rw [cn_apply, sa_apply, sb_apply, roll_apply, roll_apply]
  unfold Cert.Inproj.rotN
  have e0 : (⟨l.val / 64 * 64 + l.val % 64, by omega⟩ : Fin 128) = l := Fin.ext (by show l.val / 64 * 64 + l.val % 64 = l.val; omega)
  by_cases h : l.val % 64 < 8
  · have e1 : (⟨(l.val + 128 - (120#32 : BitVec 32).toNat % 128) % 128, Nat.mod_lt _ (by decide)⟩ : Fin 128) = ⟨l.val / 64 * 64 + (8 + l.val % 64), by omega⟩ :=
      Fin.ext (by show (l.val + 128 - 120) % 128 = l.val / 64 * 64 + (8 + l.val % 64); omega)
    simp only [dif_pos h, e0, e1]
    rw [dif_neg (fun k => absurd k.1 (by omega)), mul_zero, add_zero, zero_sub, mul_neg, sub_eq_add_neg]
  · simp only [dif_neg h, mul_zero, add_zero]
    by_cases h' : l.val % 64 - 8 < 8
    · have e1 : (⟨(l.val + 128 - (8#32 : BitVec 32).toNat % 128) % 128, Nat.mod_lt _ (by decide)⟩ : Fin 128) = ⟨l.val / 64 * 64 + (l.val % 64 - 8), by omega⟩ :=
        Fin.ext (by show (l.val + 128 - 8) % 128 = l.val / 64 * 64 + (l.val % 64 - 8); omega)
      simp only [dif_pos h', e0, e1]
      rw [dif_pos ⟨by omega, h'⟩]
    · simp only [dif_neg h', e0]
      rw [dif_neg (fun k => h' k.2), mul_zero, add_zero, mul_one]

theorem turnR_apply (p : Vec Ideal S256x128 .f32) (a : Fin 256) (l : Fin 128) : turnR i x0 x1 x2 x3 x4 p (ix2 a l)
    = Cert.Inproj.rotR (fun k => p (ix2 a k)) (cosR i x4 a) (sinR i x4 a) l := by
  show p (ix2 a l) * k0_pay82 i x0 x1 x2 x3 x4 (ix2 a l) + dynamicRotate 1 64#32 none p rotates_S256x128_d1 (ix2 a l) * k0_pay83 i x0 x1 x2 x3 x4 (ix2 a l) = _
  rw [cr_apply, sr_apply, roll_apply]
  unfold Cert.Inproj.rotR
  by_cases h : l.val < 64
  · have e1 : (⟨(l.val + 128 - (64#32 : BitVec 32).toNat % 128) % 128, Nat.mod_lt _ (by decide)⟩ : Fin 128) = ⟨64 + l.val, by omega⟩ :=
      Fin.ext (by show (l.val + 128 - 64) % 128 = 64 + l.val; omega)
    simp only [dif_pos h, e1]
    rw [zero_sub, mul_neg, sub_eq_add_neg]
  · have e1 : (⟨(l.val + 128 - (64#32 : BitVec 32).toNat % 128) % 128, Nat.mod_lt _ (by decide)⟩ : Fin 128) = ⟨l.val - 64, by omega⟩ :=
      Fin.ext (by show (l.val + 128 - 64) % 128 = l.val - 64; omega)
    simp only [dif_neg h, e1]

/-- A rotated piece holding the columns from `q` on, as the heads counted from column `o`. -/
theorem turn_heads (p : Vec Ideal S256x128 .f32) (a : Fin 256) (z : ℕ → EReal) (q o j : ℕ) (l : Fin 128) (hp : ∀ l : Fin 128, p (ix2 a l) = z (q + l.val))
    (hj : o + j = q + l.val) (hm : j % 64 = l.val % 64) : turn i x0 x1 x2 x3 x4 p (ix2 a l) = Cert.Inproj.heads z (cosN i x4 a) (sinN i x4 a) o j := by
  rw [turn_apply]
  unfold Cert.Inproj.heads
  simp only [hp]
  congr 1
  · funext k; exact congrArg z (by show q + (l.val / 64 * 64 + k.val) = o + (j / 64 * 64 + k.val); omega)
  · exact Fin.ext hm.symm

theorem turn_wide (p : Vec Ideal S256x128 .f32) (a : Fin 256) (z : ℕ → EReal) (q o j : ℕ) (l : Fin 128) (hp : ∀ l : Fin 128, p (ix2 a l) = z (q + l.val))
    (hj : o + j = q + l.val) (hm : j % 128 = l.val) : turnR i x0 x1 x2 x3 x4 p (ix2 a l) = Cert.Inproj.wide z (cosR i x4 a) (sinR i x4 a) o j := by
  rw [turnR_apply]
  unfold Cert.Inproj.wide
  simp only [hp]
  congr 1
  · funext k; exact congrArg z (by show q + k.val = o + (j / 128 * 128 + k.val); omega)
  · exact Fin.ext hm.symm

/-! ## The pieces -/

theorem cut_apply (w off : ℕ) (v : (⟨2, ![256, w]⟩ : Shape).Idx → EReal) (hs : (⟨2, ![256, w]⟩ : Shape).Slices ![0, off] S256x128) (ho : off + 128 ≤ w) (a : Fin 256) (l : Fin 128) :
    extractStridedSlice S256x128 ![0, off] v hs (ix2 a l) = v (ix2 a ⟨off + l.val, by omega⟩) := by
  pointwise
  exact congrArg v (ext2 _ _ (Nat.zero_add _) rfl)

/-- 128 columns of the first product, from column `off` on. -/
theorem cut0 (off : ℕ) (hs : S256x640.Slices ![0, off] S256x128) (ho : off + 128 ≤ 640) (a : Fin 256) (l : Fin 128) :
    extractStridedSlice S256x128 ![0, off] (k0_pay90 i x0 x1 x2 x3 x4) hs (ix2 a l) = zc x0 x1 x2 a (off + l.val) :=
  (cut_apply 640 off _ hs ho a l).trans ((z0 i x0 x1 x2 x3 x4 a _).trans (congrArg (zc x0 x1 x2 a) (by show 0 + (off + l.val) = off + l.val; omega)))

/-- A piece of the queries: 128 columns from `off` on, rotated, scaled and turned over. -/
theorem q_piece (off : ℕ) (hs : S256x640.Slices ![0, off] S256x128) (ho : off + 128 ≤ 512) (hd : off % 64 = 0) (a : Fin 256) (l : Fin 128) :
    transpose S128x256 [1, 0] (mulf (turn i x0 x1 x2 x3 x4 (extractStridedSlice S256x128 ![0, off] (k0_pay90 i x0 x1 x2 x3 x4) hs)) (broadcast S256x128 (Ideal.ofBits .f32 0x3E000000#32 : EReal))) transposes_S256x128_p1_0_S128x256 (ix2 l a)
      = Cert.Inproj.heads (zc x0 x1 x2 a) (cosN i x4 a) (sinN i x4 a) 0 (off + l.val) * Ideal.ofBits .f32 0x3E000000#32 := by
  have e := turn_heads i x0 x1 x2 x3 x4 (extractStridedSlice S256x128 ![0, off] (k0_pay90 i x0 x1 x2 x3 x4) hs) a (zc x0 x1 x2 a) off 0 (off + l.val) l
    (fun l => cut0 i x0 x1 x2 x3 x4 off hs (by omega) a l) (by omega) (by omega)
  rw [← e]
  generalize turn i x0 x1 x2 x3 x4 (extractStridedSlice S256x128 ![0, off] (k0_pay90 i x0 x1 x2 x3 x4) hs) = p
  pointwise

theorem out5 (a : Fin 256) (j : Fin 512) : out0_5 i x0 x1 x2 x3 x4 (ix2 j a)
    = Cert.Inproj.heads (zc x0 x1 x2 a) (cosN i x4 a) (sinN i x4 a) 0 j.val * Ideal.ofBits .f32 0x3E000000#32 := by
  refine View.canon_apply_of_pieces (Val := Elt Ideal) (fun y : S512x256.Idx => (Cert.Inproj.heads (zc x0 x1 x2 (y 1)) (cosN i x4 (y 1)) (sinN i x4 (y 1)) 0 (y 0).val * Ideal.ofBits .f32 0x3E000000#32 : EReal)) _ ?_ (ix2 j a) (cover0_5 _ _ _ _ _)
  intro p hp x
  simp only [List.mem_cons, List.not_mem_nil, or_false] at hp
  obtain rfl | rfl | rfl | rfl := hp
  · obtain ⟨l, b, rfl⟩ : ∃ (l : Fin 128) (b : Fin 256), x = ix2 l b := ⟨x 0, x 1, ext2 x _ rfl rfl⟩
    rw [show r0_7.emb (ix2 l b) = ix2 ⟨384 + l.val, by omega⟩ b from ext2 _ _ (by show 384 + 1 * l.val = 384 + l.val; omega) (by show 0 + 1 * b.val = b.val; omega)]
    exact q_piece i x0 x1 x2 x3 x4 384 slices_S256x640_o0_384_S256x128 (by decide) (by decide) b l
  · obtain ⟨l, b, rfl⟩ : ∃ (l : Fin 128) (b : Fin 256), x = ix2 l b := ⟨x 0, x 1, ext2 x _ rfl rfl⟩
    rw [show r0_6.emb (ix2 l b) = ix2 ⟨256 + l.val, by omega⟩ b from ext2 _ _ (by show 256 + 1 * l.val = 256 + l.val; omega) (by show 0 + 1 * b.val = b.val; omega)]
    exact q_piece i x0 x1 x2 x3 x4 256 slices_S256x640_o0_256_S256x128 (by decide) (by decide) b l
  · obtain ⟨l, b, rfl⟩ : ∃ (l : Fin 128) (b : Fin 256), x = ix2 l b := ⟨x 0, x 1, ext2 x _ rfl rfl⟩
    rw [show r0_5.emb (ix2 l b) = ix2 ⟨128 + l.val, by omega⟩ b from ext2 _ _ (by show 128 + 1 * l.val = 128 + l.val; omega) (by show 0 + 1 * b.val = b.val; omega)]
    exact q_piece i x0 x1 x2 x3 x4 128 slices_S256x640_o0_128_S256x128 (by decide) (by decide) b l
  · obtain ⟨l, b, rfl⟩ : ∃ (l : Fin 128) (b : Fin 256), x = ix2 l b := ⟨x 0, x 1, ext2 x _ rfl rfl⟩
    rw [show r0_4.emb (ix2 l b) = ix2 ⟨0 + l.val, by omega⟩ b from ext2 _ _ (by show 0 + 1 * l.val = 0 + l.val; omega) (by show 0 + 1 * b.val = b.val; omega)]
    exact q_piece i x0 x1 x2 x3 x4 0 slices_S256x640_o0_0_S256x128 (by decide) (by decide) b l

/-- 128 columns of the second product, from column `640 + off` on. -/
theorem cut1 (off : ℕ) (hs : S256x768.Slices ![0, off] S256x128) (ho : off + 128 ≤ 768) (a : Fin 256) (l : Fin 128) :
    extractStridedSlice S256x128 ![0, off] (k0_pay91 i x0 x1 x2 x3 x4) hs (ix2 a l) = zc x0 x1 x2 a (640 + off + l.val) :=
  (cut_apply 768 off _ hs ho a l).trans ((z1 i x0 x1 x2 x3 x4 a _).trans (congrArg (zc x0 x1 x2 a) (by show 640 + (off + l.val) = 640 + off + l.val; omega)))

theorem out6 (a : Fin 256) (j : Fin 128) : out0_6 i x0 x1 x2 x3 x4 (ix2 a j) = Cert.Inproj.heads (zc x0 x1 x2 a) (cosN i x4 a) (sinN i x4 a) 512 j.val := by
  have hz : (![0, 0] : Fin 2 → ℕ) = fun _ => 0 := by decide
  unfold out0_6
  rw [View.canon_unit_zero hz]
  exact turn_heads i x0 x1 x2 x3 x4 _ a (zc x0 x1 x2 a) 512 512 j.val j (fun l => cut0 i x0 x1 x2 x3 x4 512 slices_S256x640_o0_512_S256x128 (by decide) a l) rfl rfl

theorem out7 (a : Fin 256) (j : Fin 128) : out0_7 i x0 x1 x2 x3 x4 (ix2 a j) = zc x0 x1 x2 a (640 + j.val) := by
  have hz : (![0, 0] : Fin 2 → ℕ) = fun _ => 0 := by decide
  unfold out0_7
  rw [View.canon_unit_zero hz]
  exact cut1 i x0 x1 x2 x3 x4 0 slices_S256x768_o0_0_S256x128 (by decide) a j

/-! ### The keys -/

theorem word_and (n : ℕ) (h : n < 16384) : IntOp.andi (BitVec.ofNat 32 n) 511#32 = BitVec.ofNat 32 (n % 512) := by
  apply BitVec.eq_of_toNat_eq
  show (BitVec.ofNat 32 n &&& 511#32).toNat = _
  rw [BitVec.toNat_and, BitVec.toNat_ofNat, BitVec.toNat_ofNat, BitVec.toNat_ofNat]
  have e := Nat.and_two_pow_sub_one_eq_mod (n % 2 ^ 32) 9
  rw [show (511 % 2 ^ 32 : ℕ) = 2 ^ 9 - 1 from by decide, e]
  omega

theorem word_shift : ∀ m : Fin 512, IntOp.shrsi .vector (BitVec.ofNat 32 m.val) 6#32 = BitVec.ofNat 32 (m.val / 64) := by decide +kernel
theorem word_sub : ∀ l : Fin 128, 64 ≤ l.val → IntOp.subi (BitVec.ofNat 32 l.val) 64#32 = BitVec.ofNat 32 (l.val - 64) := by decide +kernel

theorem block_apply (a : Fin 256) (l : Fin 128) (h : ¬ l.val < 64) :
    k0_pay36 (F := Ideal) (k0_pay73 i x0 x1 x2 x3 x4) (k0_pay75 i x0 x1 x2 x3 x4) (ix2 a l) = Cert.Inproj.block (num i a) (l.val - 64) := by
  have hn := num_lt i a
  unfold k0_pay36 k0_pay73 k0_pay75 k0_pay5 Cert.Inproj.block
  pointwise
  rw [word_row, word_and _ hn, word_shift ⟨num i a % 512, Nat.mod_lt _ (by decide)⟩, word_sub l (by omega), WordCmp.cmpi_eq_ofNat (w := 32) (by omega) (by show num i a % 512 / 64 < 2 ^ 32; omega)]
  by_cases e : num i a / 64 % 8 = l.val - 64
  · rw [if_pos e, show decide (l.val - 64 = num i a % 512 / 64) = true from decide_eq_true (by omega)]; rfl
  · rw [if_neg e, show decide (l.val - 64 = num i a % 512 / 64) = false from decide_eq_false (by omega)]; rfl

/-- A group's keys: the first half of the lanes from `p`, the second from `f`. -/
theorem key_piece (p f : Vec Ideal S256x128 .f32) (a : Fin 256) (l : Fin 128) (z : ℕ → EReal) (o g : ℕ) (b : ℕ → EReal)
    (hp : ∀ l : Fin 128, l.val < 64 → p (ix2 a l) = Cert.Inproj.heads z (cosN i x4 a) (sinN i x4 a) o (64 * g + l.val))
    (hf : ∀ l : Fin 128, ¬ l.val < 64 → f (ix2 a l) = b (l.val - 64)) :
    (shapeCast S1x256x128 (truncf .bf16 (select (k0_pay76 i x0 x1 x2 x3 x4) p f : FVec Ideal S256x128 .f32) bitsLt_bf16_f32 : FVec Ideal S256x128 .bf16) shapeCasts_S256x128_S1x256x128 : FVec Ideal S1x256x128 .bf16) (ix3 0 a l)
      = Cert.Inproj.key z (cosN i x4 a) (sinN i x4 a) o g l.val b := by
  have e : (select (k0_pay76 i x0 x1 x2 x3 x4) p f : Vec Ideal S256x128 .f32) (ix2 a l) = Cert.Inproj.key z (cosN i x4 a) (sinN i x4 a) o g l.val b := by
    rw [select_apply' _ _ _ a l _ (low_apply i x0 x1 x2 x3 x4 a l)]
    unfold Cert.Inproj.key
    by_cases h : l.val < 64
    · rw [if_pos h, if_pos h, hp l h]
    · rw [if_neg h, if_neg h, hf l h]
  rw [← e]
  generalize (select (k0_pay76 i x0 x1 x2 x3 x4) p f : Vec Ideal S256x128 .f32) = v
  pointwise

/-- The rotated pair of groups from column `640 + off` on. -/
def pair (off : ℕ) (hs : S256x768.Slices ![0, off] S256x128) : Vec Ideal S256x128 .f32 :=
  turn i x0 x1 x2 x3 x4 (extractStridedSlice S256x128 ![0, off] (k0_pay91 i x0 x1 x2 x3 x4) hs)

theorem pair_apply (off : ℕ) (hs : S256x768.Slices ![0, off] S256x128) (ho : off + 128 ≤ 768) (a : Fin 256) (l : Fin 128) :
    pair i x0 x1 x2 x3 x4 off hs (ix2 a l) = Cert.Inproj.heads (zc x0 x1 x2 a) (cosN i x4 a) (sinN i x4 a) (640 + off) l.val :=
  turn_heads i x0 x1 x2 x3 x4 _ a (zc x0 x1 x2 a) (640 + off) (640 + off) l.val l (fun l => cut1 i x0 x1 x2 x3 x4 off hs ho a l) rfl rfl

theorem pair_first (off : ℕ) (hs : S256x768.Slices ![0, off] S256x128) (ho : off + 128 ≤ 768) (a : Fin 256) (l : Fin 128) (h : l.val < 64) :
    pair i x0 x1 x2 x3 x4 off hs (ix2 a l) = Cert.Inproj.heads (zc x0 x1 x2 a) (cosN i x4 a) (sinN i x4 a) (640 + off) (64 * 0 + l.val) := by
  rw [pair_apply i x0 x1 x2 x3 x4 off hs ho]
  congr 1; omega

theorem pair_second (off : ℕ) (hs : S256x768.Slices ![0, off] S256x128) (ho : off + 128 ≤ 768) (a : Fin 256) (l : Fin 128) (h : l.val < 64) :
    dynamicRotate 1 64#32 none (pair i x0 x1 x2 x3 x4 off hs) rotates_S256x128_d1 (ix2 a l) = Cert.Inproj.heads (zc x0 x1 x2 a) (cosN i x4 a) (sinN i x4 a) (640 + off) (64 * 1 + l.val) := by
  rw [roll_apply, pair_apply i x0 x1 x2 x3 x4 off hs ho]
  congr 1
  show (l.val + 128 - 64) % 128 = 64 * 1 + l.val
  omega

theorem out8 (g : Fin 2) (a : Fin 256) (l : Fin 128) : out0_8 i x0 x1 x2 x3 x4 (ix3 g a l)
    = Cert.Inproj.key (zc x0 x1 x2 a) (cosN i x4 a) (sinN i x4 a) 768 g.val l.val (Cert.Inproj.block (num i a)) := by
  refine View.canon_apply_of_pieces (Val := Elt Ideal) (fun y : S2x256x128.Idx => (Cert.Inproj.key (zc x0 x1 x2 (y 1)) (cosN i x4 (y 1)) (sinN i x4 (y 1)) 768 (y 0).val (y 2).val (Cert.Inproj.block (num i (y 1))) : EReal)) _ ?_ (ix3 g a l) (cover0_8 _ _ _)
  intro p hp x
  simp only [List.mem_cons, List.not_mem_nil, or_false] at hp
  obtain rfl | rfl := hp
  · obtain ⟨b, k, rfl⟩ : ∃ (b : Fin 256) (k : Fin 128), x = ix3 0 b k := ⟨x 1, x 2, ext3 x _ (by have h : (x 0).val < 1 := (x 0).isLt; show (x 0).val = 0; omega) rfl rfl⟩
    rw [show r0_14.emb (ix3 0 b k) = ix3 1 b k from ext3 _ _ rfl (by show 0 + 1 * b.val = b.val; omega) (by show 0 + 1 * k.val = k.val; omega)]
    exact key_piece i x0 x1 x2 x3 x4 _ _ b k _ 768 1 _ (pair_second i x0 x1 x2 x3 x4 128 slices_S256x768_o0_128_S256x128 (by decide) b) (block_apply i x0 x1 x2 x3 x4 b)
  · obtain ⟨b, k, rfl⟩ : ∃ (b : Fin 256) (k : Fin 128), x = ix3 0 b k := ⟨x 1, x 2, ext3 x _ (by have h : (x 0).val < 1 := (x 0).isLt; show (x 0).val = 0; omega) rfl rfl⟩
    rw [show r0_11.emb (ix3 0 b k) = ix3 0 b k from ext3 _ _ rfl (by show 0 + 1 * b.val = b.val; omega) (by show 0 + 1 * k.val = k.val; omega)]
    exact key_piece i x0 x1 x2 x3 x4 _ _ b k _ 768 0 _ (pair_first i x0 x1 x2 x3 x4 128 slices_S256x768_o0_128_S256x128 (by decide) b) (block_apply i x0 x1 x2 x3 x4 b)

theorem out10 (g : Fin 2) (a : Fin 256) (l : Fin 128) : out0_10 i x0 x1 x2 x3 x4 (ix3 g a l)
    = Cert.Inproj.key (zc x0 x1 x2 a) (cosN i x4 a) (sinN i x4 a) 1024 g.val l.val (fun _ => 0) := by
  refine View.canon_apply_of_pieces (Val := Elt Ideal) (fun y : S2x256x128.Idx => (Cert.Inproj.key (zc x0 x1 x2 (y 1)) (cosN i x4 (y 1)) (sinN i x4 (y 1)) 1024 (y 0).val (y 2).val (fun _ => 0) : EReal)) _ ?_ (ix3 g a l) (cover0_10 _ _ _)
  intro p hp x
  simp only [List.mem_cons, List.not_mem_nil, or_false] at hp
  obtain rfl | rfl := hp
  · obtain ⟨b, k, rfl⟩ : ∃ (b : Fin 256) (k : Fin 128), x = ix3 0 b k := ⟨x 1, x 2, ext3 x _ (by have h : (x 0).val < 1 := (x 0).isLt; show (x 0).val = 0; omega) rfl rfl⟩
    rw [show r0_14.emb (ix3 0 b k) = ix3 1 b k from ext3 _ _ rfl (by show 0 + 1 * b.val = b.val; omega) (by show 0 + 1 * k.val = k.val; omega)]
    exact key_piece i x0 x1 x2 x3 x4 _ _ b k _ 1024 1 _ (pair_second i x0 x1 x2 x3 x4 384 slices_S256x768_o0_384_S256x128 (by decide) b) (fun _ _ => Ideal.ofBits_zero_f32)
  · obtain ⟨b, k, rfl⟩ : ∃ (b : Fin 256) (k : Fin 128), x = ix3 0 b k := ⟨x 1, x 2, ext3 x _ (by have h : (x 0).val < 1 := (x 0).isLt; show (x 0).val = 0; omega) rfl rfl⟩
    rw [show r0_11.emb (ix3 0 b k) = ix3 0 b k from ext3 _ _ rfl (by show 0 + 1 * b.val = b.val; omega) (by show 0 + 1 * k.val = k.val; omega)]
    exact key_piece i x0 x1 x2 x3 x4 _ _ b k _ 1024 0 _ (pair_first i x0 x1 x2 x3 x4 384 slices_S256x768_o0_384_S256x128 (by decide) b) (fun _ _ => Ideal.ofBits_zero_f32)

end Cert.Kernel3Ideal.Inproj

end
-- ==== Proof.InprojOut.lean ====
/- The rest of the projection's results at one point of its grid: the values, the gates, the retention's queries and keys, and the plain column blocks. -/
module

public import proofs.«01_k».proof.Proof.InprojBody

@[expose] public section

set_option maxRecDepth 16384

noncomputable section

namespace Cert.Kernel3Ideal.Inproj

open Idealize.ShloMosaic Idealize.ShloMosaic.TcCoe Idealize.ShloMosaic.Tactic Idealize.SL.Sem
open Idealize.ShloMosaic.StableHlo
open Cert.Kernel3Ideal Cert.Kernel3Ideal.Gen Cert.Kernel3Ideal.Value
open Cert.Index

variable (i : grid0.Coords) (x0 : Vec Ideal S256x1024 .f32) (x1 : Vec Ideal S1x1024 .f32) (x2 : Vec Ideal S1024x7040 .bf16) (x3 : Vec Ideal S1x128 .f32) (x4 : Vec Ideal S8x128 .f32)

/-! ## The values with their ones -/

/-- The rows under the values: ones, then zeros. -/
theorem ones_apply (r : Fin 16) (a : Fin 256) : k0_pay89 i x0 x1 x2 x3 x4 (ix2 r a) = if r.val = 0 then (1 : EReal) else 0 := by
  unfold k0_pay89 k0_pay22
  pointwise
  rw [WordCmp.cmpi_eq_ofNat (w := 32) (by omega) (by decide)]
  by_cases e : r.val = 0
  · rw [if_pos e, decide_eq_true e]; rfl
  · rw [if_neg e, decide_eq_false e]; rfl

theorem stack_apply (u : Vec Ideal S64x256 .f32) (v : Vec Ideal S16x256 .f32) (r : Fin 80) (a : Fin 256) :
    (shapeCast S1x80x256 (truncf .bf16 (concatenate S80x256 0 [⟨S64x256, u⟩, ⟨S16x256, v⟩] concatenates_S64x256_S16x256_S80x256_d0 : FVec Ideal S80x256 .f32) bitsLt_bf16_f32 : FVec Ideal S80x256 .bf16) shapeCasts_S80x256_S1x80x256 : FVec Ideal S1x80x256 .bf16) (ix3 0 r a)
      = if h : r.val < 64 then u (ix2 ⟨r.val, h⟩ a) else v (ix2 ⟨r.val - 64, by omega⟩ a) := by
  pointwise

theorem under_apply (off : ℕ) (p : Vec Ideal S256x128 .f32) (hs : S128x256.Slices ![off, 0] S64x256) (ho : off + 64 ≤ 128) (r : Fin 64) (a : Fin 256) :
    extractStridedSlice S64x256 ![off, 0] (transpose S128x256 [1, 0] p transposes_S256x128_p1_0_S128x256) hs (ix2 r a) = p (ix2 a ⟨off + r.val, by omega⟩) := by
  have e : transpose S128x256 [1, 0] p transposes_S256x128_p1_0_S128x256 (ix2 ⟨off + r.val, by omega⟩ a) = p (ix2 a ⟨off + r.val, by omega⟩) := by pointwise
  rw [← e]
  generalize transpose S128x256 [1, 0] p transposes_S256x128_p1_0_S128x256 = q
  pointwise

/-- A group's values turned over, with the ones under them. -/
theorem value_piece (col g : ℕ) (hc : S256x768.Slices ![0, col] S256x128) (hcol : col + 128 ≤ 768) (hs : S128x256.Slices ![64 * g, 0] S64x256) (hg : 64 * g + 64 ≤ 128) (r : Fin 80) (a : Fin 256) :
    (shapeCast S1x80x256 (truncf .bf16 (concatenate S80x256 0 [⟨S64x256, extractStridedSlice S64x256 ![64 * g, 0] (transpose S128x256 [1, 0] (extractStridedSlice S256x128 ![0, col] (k0_pay91 i x0 x1 x2 x3 x4) hc) transposes_S256x128_p1_0_S128x256) hs⟩, ⟨S16x256, k0_pay89 i x0 x1 x2 x3 x4⟩] concatenates_S64x256_S16x256_S80x256_d0 : FVec Ideal S80x256 .f32) bitsLt_bf16_f32 : FVec Ideal S80x256 .bf16) shapeCasts_S80x256_S1x80x256 : FVec Ideal S1x80x256 .bf16) (ix3 0 r a)
      = Cert.Inproj.value (zc x0 x1 x2 a) (640 + col) g r.val := by
  rw [stack_apply]
  unfold Cert.Inproj.value
  by_cases h : r.val < 64
  · rw [dif_pos h, if_pos h, under_apply _ _ hs hg, cut1 i x0 x1 x2 x3 x4 col hc hcol]
  · rw [dif_neg h, if_neg h, ones_apply]
    exact if_congr (by show r.val - 64 = 0 ↔ r.val = 64; omega) rfl rfl

/-- An index of a slab of one group is the group's row and lane. -/
theorem slab {n k : ℕ} (x : (⟨3, ![1, n, k]⟩ : Shape).Idx) : ∃ (r : Fin n) (b : Fin k), x = ix3 0 r b :=
  ⟨x 1, x 2, ext3 x _ (by have h : (x 0).val < 1 := (x 0).isLt; show (x 0).val = 0; omega) rfl rfl⟩

/-- An index of a matrix is its row and column. -/
theorem cell {n k : ℕ} (x : (⟨2, ![n, k]⟩ : Shape).Idx) : ∃ (r : Fin n) (b : Fin k), x = ix2 r b := ⟨x 0, x 1, ext2 x _ rfl rfl⟩

theorem at12 (r : Fin 80) (b : Fin 256) : r0_12.emb (ix3 0 r b) = ix3 0 r b :=
  ext3 _ _ rfl (by show 0 + 1 * r.val = r.val; omega) (by show 0 + 1 * b.val = b.val; omega)
theorem at15 (r : Fin 80) (b : Fin 256) : r0_15.emb (ix3 0 r b) = ix3 1 r b :=
  ext3 _ _ rfl (by show 0 + 1 * r.val = r.val; omega) (by show 0 + 1 * b.val = b.val; omega)
theorem at13 (r : Fin 16) (b : Fin 256) : r0_13.emb (ix3 0 r b) = ix3 0 r b :=
  ext3 _ _ rfl (by show 0 + 1 * r.val = r.val; omega) (by show 0 + 1 * b.val = b.val; omega)
theorem at16 (r : Fin 16) (b : Fin 256) : r0_16.emb (ix3 0 r b) = ix3 1 r b :=
  ext3 _ _ rfl (by show 0 + 1 * r.val = r.val; omega) (by show 0 + 1 * b.val = b.val; omega)

theorem out9 (g : Fin 2) (r : Fin 80) (a : Fin 256) : out0_9 i x0 x1 x2 x3 x4 (ix3 g r a) = Cert.Inproj.value (zc x0 x1 x2 a) 896 g.val r.val := by
  refine View.canon_apply_of_pieces (Val := Elt Ideal) (fun y : S2x80x256.Idx => (Cert.Inproj.value (zc x0 x1 x2 (y 2)) 896 (y 0).val (y 1).val : EReal)) _ ?_ (ix3 g r a) (cover0_9 _ _ _)
  intro p hp x
  simp only [List.mem_cons, List.not_mem_nil, or_false] at hp
  obtain rfl | rfl := hp
  · obtain ⟨r, b, rfl⟩ : ∃ (r : Fin 80) (b : Fin 256), x = ix3 0 r b := slab x
    rw [at15]
    exact value_piece i x0 x1 x2 x3 x4 256 1 slices_S256x768_o0_256_S256x128 (by decide) slices_S128x256_o64_0_S64x256 (by decide) r b
  · obtain ⟨r, b, rfl⟩ : ∃ (r : Fin 80) (b : Fin 256), x = ix3 0 r b := slab x
    rw [at12]
    exact value_piece i x0 x1 x2 x3 x4 256 0 slices_S256x768_o0_256_S256x128 (by decide) slices_S128x256_o0_0_S64x256 (by decide) r b

theorem out11 (g : Fin 2) (r : Fin 80) (a : Fin 256) : out0_11 i x0 x1 x2 x3 x4 (ix3 g r a) = Cert.Inproj.value (zc x0 x1 x2 a) 1152 g.val r.val := by
  refine View.canon_apply_of_pieces (Val := Elt Ideal) (fun y : S2x80x256.Idx => (Cert.Inproj.value (zc x0 x1 x2 (y 2)) 1152 (y 0).val (y 1).val : EReal)) _ ?_ (ix3 g r a) (cover0_11 _ _ _)
  intro p hp x
  simp only [List.mem_cons, List.not_mem_nil, or_false] at hp
  obtain rfl | rfl := hp
  · obtain ⟨r, b, rfl⟩ : ∃ (r : Fin 80) (b : Fin 256), x = ix3 0 r b := slab x
    rw [at15]
    exact value_piece i x0 x1 x2 x3 x4 512 1 slices_S256x768_o0_512_S256x128 (by decide) slices_S128x256_o64_0_S64x256 (by decide) r b
  · obtain ⟨r, b, rfl⟩ : ∃ (r : Fin 80) (b : Fin 256), x = ix3 0 r b := slab x
    rw [at12]
    exact value_piece i x0 x1 x2 x3 x4 512 0 slices_S256x768_o0_512_S256x128 (by decide) slices_S128x256_o0_0_S64x256 (by decide) r b

/-! ## The gates -/

theorem logit_apply (v : Vec Ideal S256x768 .f32) (w : Vec Ideal S1x128 .f32) (a : Fin 256) (l : Fin 128) :
    k0_pay50 v w (ix2 l a) = Ideal.logistic (v (ix2 a ⟨640 + l.val, by omega⟩) + w (ix2 0 l)) := by
  unfold k0_pay50
  pointwise

theorem logits_apply (a : Fin 256) (l : Fin 128) : k0_pay95 i x0 x1 x2 x3 x4 (ix2 l a) = Ideal.logistic (zc x0 x1 x2 a (1280 + l.val) + x3 (ix2 0 l)) := by
  have hz : (![0, 0] : Fin 2 → ℕ) = fun _ => 0 := by decide
  unfold k0_pay95
  rw [logit_apply, View.ld_unit_zero hz]
  refine congrArg (fun u : EReal => Ideal.logistic (u + x3 (ix2 0 l))) ((z1 i x0 x1 x2 x3 x4 a _).trans (congrArg (zc x0 x1 x2 a) ?_))
  show 640 + (640 + l.val) = 1280 + l.val
  omega

theorem gate_piece (off : ℕ) (p : Vec Ideal S128x256 .f32) (hs : S128x256.Slices ![off, 0] S16x256) (ho : off + 16 ≤ 128) (r : Fin 16) (a : Fin 256) :
    (shapeCast S1x16x256 (extractStridedSlice S16x256 ![off, 0] p hs : FVec Ideal S16x256 .f32) shapeCasts_S16x256_S1x16x256 : FVec Ideal S1x16x256 .f32) (ix3 0 r a) = p (ix2 ⟨off + r.val, by omega⟩ a) := by
  have e : extractStridedSlice S16x256 ![off, 0] p hs (ix2 r a) = p (ix2 ⟨off + r.val, by omega⟩ a) := by
    pointwise
  rw [← e]
  generalize extractStridedSlice S16x256 ![off, 0] p hs = q
  pointwise

theorem out12 (g : Fin 2) (r : Fin 16) (a : Fin 256) : out0_12 i x0 x1 x2 x3 x4 (ix3 g r a)
    = Ideal.logistic (zc x0 x1 x2 a (1280 + (16 * g.val + r.val)) + x3 (ix2 0 ⟨16 * g.val + r.val, by omega⟩)) := by
  refine View.canon_apply_of_pieces (Val := Elt Ideal) (fun y : S2x16x256.Idx => (Ideal.logistic (zc x0 x1 x2 (y 2) (1280 + (16 * (y 0).val + (y 1).val)) + x3 (ix2 0 ⟨16 * (y 0).val + (y 1).val, by have h0 : (y 0).val < 2 := (y 0).isLt; have h1 : (y 1).val < 16 := (y 1).isLt; omega⟩)) : EReal)) _ ?_ (ix3 g r a) (cover0_12 _ _ _)
  intro p hp x
  simp only [List.mem_cons, List.not_mem_nil, or_false] at hp
  obtain rfl | rfl := hp
  · obtain ⟨r, b, rfl⟩ : ∃ (r : Fin 16) (b : Fin 256), x = ix3 0 r b := slab x
    rw [at16]
    exact (gate_piece 16 (k0_pay95 i x0 x1 x2 x3 x4) slices_S128x256_o16_0_S16x256 (by decide) r b).trans (logits_apply i x0 x1 x2 x3 x4 b _)
  · obtain ⟨r, b, rfl⟩ : ∃ (r : Fin 16) (b : Fin 256), x = ix3 0 r b := slab x
    rw [at13]
    exact (gate_piece 0 (k0_pay95 i x0 x1 x2 x3 x4) slices_S128x256_o0_0_S16x256 (by decide) r b).trans (logits_apply i x0 x1 x2 x3 x4 b _)

/-! ## The retention's queries and keys -/

/-- 128 columns of the third product, from column `1920 + off` on, rotated. -/
theorem wide_piece (off o : ℕ) (hs : S256x1024.Slices ![0, off] S256x128) (ho : off + 128 ≤ 1024) (j : ℕ) (a : Fin 256) (l : Fin 128)
    (hj : o + j = 1920 + off + l.val) (hm : j % 128 = l.val) :
    turnR i x0 x1 x2 x3 x4 (extractStridedSlice S256x128 ![0, off] (k0_pay96 i x0 x1 x2 x3 x4) hs) (ix2 a l) = Cert.Inproj.wide (zc x0 x1 x2 a) (cosR i x4 a) (sinR i x4 a) o j :=
  turn_wide i x0 x1 x2 x3 x4 _ a (zc x0 x1 x2 a) (1920 + off) o j l
    (fun l => (cut_apply 1024 off _ hs ho a l).trans ((z2 i x0 x1 x2 x3 x4 a _).trans (congrArg (zc x0 x1 x2 a) (by show 1920 + (off + l.val) = 1920 + off + l.val; omega)))) hj hm

theorem scaled_apply (p : Vec Ideal S256x128 .f32) (c : BitVec 32) (a : Fin 256) (l : Fin 128) :
    (truncf .bf16 (mulf p (broadcast S256x128 (Ideal.ofBits .f32 c : EReal)) : FVec Ideal S256x128 .f32) bitsLt_bf16_f32 : FVec Ideal S256x128 .bf16) (ix2 a l) = p (ix2 a l) * Ideal.ofBits .f32 c := by
  pointwise

theorem at20 (b : Fin 256) (l : Fin 128) : r0_20.emb (ix2 b l) = ix2 b ⟨0 + l.val, by omega⟩ :=
  ext2 _ _ (by show 0 + 1 * b.val = b.val; omega) (by show 0 + 1 * l.val = 0 + l.val; omega)
theorem at21 (b : Fin 256) (l : Fin 128) : r0_21.emb (ix2 b l) = ix2 b ⟨128 + l.val, by omega⟩ :=
  ext2 _ _ (by show 0 + 1 * b.val = b.val; omega) (by show 128 + 1 * l.val = 128 + l.val; omega)
theorem at22 (b : Fin 256) (l : Fin 128) : r0_22.emb (ix2 b l) = ix2 b ⟨256 + l.val, by omega⟩ :=
  ext2 _ _ (by show 0 + 1 * b.val = b.val; omega) (by show 256 + 1 * l.val = 256 + l.val; omega)
theorem at23 (b : Fin 256) (l : Fin 128) : r0_23.emb (ix2 b l) = ix2 b ⟨384 + l.val, by omega⟩ :=
  ext2 _ _ (by show 0 + 1 * b.val = b.val; omega) (by show 384 + 1 * l.val = 384 + l.val; omega)

theorem out14 (a : Fin 256) (j : Fin 512) : out0_14 i x0 x1 x2 x3 x4 (ix2 a j) = Cert.Inproj.wide (zc x0 x1 x2 a) (cosR i x4 a) (sinR i x4 a) 1920 j.val := by
  refine View.canon_apply_of_pieces (Val := Elt Ideal) (fun y : S256x512.Idx => (Cert.Inproj.wide (zc x0 x1 x2 (y 0)) (cosR i x4 (y 0)) (sinR i x4 (y 0)) 1920 (y 1).val : EReal)) _ ?_ (ix2 a j) (cover0_14 _ _ _ _ _)
  intro p hp x
  simp only [List.mem_cons, List.not_mem_nil, or_false] at hp
  obtain rfl | rfl | rfl | rfl := hp
  · obtain ⟨b, l, rfl⟩ : ∃ (b : Fin 256) (l : Fin 128), x = ix2 b l := cell x
    rw [at23]
    exact wide_piece i x0 x1 x2 x3 x4 384 1920 slices_S256x1024_o0_384_S256x128 (by decide) (384 + l.val) b l (by omega) (by omega)
  · obtain ⟨b, l, rfl⟩ : ∃ (b : Fin 256) (l : Fin 128), x = ix2 b l := cell x
    rw [at22]
    exact wide_piece i x0 x1 x2 x3 x4 256 1920 slices_S256x1024_o0_256_S256x128 (by decide) (256 + l.val) b l (by omega) (by omega)
  · obtain ⟨b, l, rfl⟩ : ∃ (b : Fin 256) (l : Fin 128), x = ix2 b l := cell x
    rw [at21]
    exact wide_piece i x0 x1 x2 x3 x4 128 1920 slices_S256x1024_o0_128_S256x128 (by decide) (128 + l.val) b l (by omega) (by omega)
  · obtain ⟨b, l, rfl⟩ : ∃ (b : Fin 256) (l : Fin 128), x = ix2 b l := cell x
    rw [at20]
    exact wide_piece i x0 x1 x2 x3 x4 0 1920 slices_S256x1024_o0_0_S256x128 (by decide) (0 + l.val) b l (by omega) (by omega)

theorem out15 (a : Fin 256) (j : Fin 512) : out0_15 i x0 x1 x2 x3 x4 (ix2 a j)
    = Cert.Inproj.wide (zc x0 x1 x2 a) (cosR i x4 a) (sinR i x4 a) 2432 j.val * Ideal.ofBits .f32 0x3DB504F3#32 := by
  refine View.canon_apply_of_pieces (Val := Elt Ideal) (fun y : S256x512.Idx => (Cert.Inproj.wide (zc x0 x1 x2 (y 0)) (cosR i x4 (y 0)) (sinR i x4 (y 0)) 2432 (y 1).val * Ideal.ofBits .f32 0x3DB504F3#32 : EReal)) _ ?_ (ix2 a j) (cover0_15 _ _ _ _ _)
  intro p hp x
  simp only [List.mem_cons, List.not_mem_nil, or_false] at hp
  obtain rfl | rfl | rfl | rfl := hp
  · obtain ⟨b, l, rfl⟩ : ∃ (b : Fin 256) (l : Fin 128), x = ix2 b l := cell x
    rw [at23]
    exact (scaled_apply _ _ b l).trans (congrArg (fun u : EReal => u * Ideal.ofBits .f32 0x3DB504F3#32) (wide_piece i x0 x1 x2 x3 x4 896 2432 slices_S256x1024_o0_896_S256x128 (by decide) (384 + l.val) b l (by omega) (by omega)))
  · obtain ⟨b, l, rfl⟩ : ∃ (b : Fin 256) (l : Fin 128), x = ix2 b l := cell x
    rw [at22]
    exact (scaled_apply _ _ b l).trans (congrArg (fun u : EReal => u * Ideal.ofBits .f32 0x3DB504F3#32) (wide_piece i x0 x1 x2 x3 x4 768 2432 slices_S256x1024_o0_768_S256x128 (by decide) (256 + l.val) b l (by omega) (by omega)))
  · obtain ⟨b, l, rfl⟩ : ∃ (b : Fin 256) (l : Fin 128), x = ix2 b l := cell x
    rw [at21]
    exact (scaled_apply _ _ b l).trans (congrArg (fun u : EReal => u * Ideal.ofBits .f32 0x3DB504F3#32) (wide_piece i x0 x1 x2 x3 x4 640 2432 slices_S256x1024_o0_640_S256x128 (by decide) (128 + l.val) b l (by omega) (by omega)))
  · obtain ⟨b, l, rfl⟩ : ∃ (b : Fin 256) (l : Fin 128), x = ix2 b l := cell x
    rw [at20]
    exact (scaled_apply _ _ b l).trans (congrArg (fun u : EReal => u * Ideal.ofBits .f32 0x3DB504F3#32) (wide_piece i x0 x1 x2 x3 x4 512 2432 slices_S256x1024_o0_512_S256x128 (by decide) (0 + l.val) b l (by omega) (by omega)))

/-! ## The plain column blocks -/

theorem mm3 (h : Vec Ideal S256x1024 .bf16) (w : Vec Ideal S1024x512 .bf16) (a : Fin 256) (j : Fin 512) : k0_pay61 h w (ix2 a j) = Cert.Inproj.silu (∑ d, h (ix2 a d) * w (ix2 d j)) := by
  unfold k0_pay61 Cert.Inproj.silu
  pointwise

theorem mm4 (h : Vec Ideal S256x1024 .bf16) (w : Vec Ideal S1024x1024 .bf16) (a : Fin 256) (j : Fin 1024) : k0_pay71 h w (ix2 a j) = ∑ d, h (ix2 a d) * w (ix2 d j) := by
  unfold k0_pay71
  pointwise

theorem mm5 (h : Vec Ideal S256x1024 .bf16) (w : Vec Ideal S1024x1024 .bf16) (a : Fin 256) (j : Fin 1024) : k0_pay1 (k0_pay72 h w) (ix2 a j) = Cert.Inproj.silu (∑ d, h (ix2 a d) * w (ix2 d j)) := by
  unfold k0_pay1 k0_pay72 Cert.Inproj.silu
  pointwise

theorem mm6 (h : Vec Ideal S256x1024 .bf16) (w : Vec Ideal S1024x1024 .bf16) (a : Fin 256) (j : Fin 1024) : k0_pay2 h w (ix2 a j) = Ideal.logistic (∑ d, h (ix2 a d) * w (ix2 d j)) := by
  unfold k0_pay2
  pointwise

theorem mm7 (h : Vec Ideal S256x1024 .bf16) (w : Vec Ideal S1024x1024 .bf16) (a : Fin 256) (j : Fin 1024) : k0_pay3 h w (ix2 a j) = Ideal.logistic (∑ d, h (ix2 a d) * w (ix2 d j)) := by
  unfold k0_pay3
  pointwise

theorem out13 (a : Fin 256) (j : Fin 512) : out0_13 i x0 x1 x2 x3 x4 (ix2 a j) = Cert.Inproj.silu (zc x0 x1 x2 a (1408 + j.val)) := by
  have hz : (![0, 0] : Fin 2 → ℕ) = fun _ => 0 := by decide
  unfold out0_13
  rw [View.canon_unit_zero hz]
  exact (mm3 _ _ a j).trans (congrArg Cert.Inproj.silu (sum_cols i x0 x1 x2 x3 x4 512 1408 _ (by decide) a j))

theorem out16 (a : Fin 256) (j : Fin 1024) : out0_16 i x0 x1 x2 x3 x4 (ix2 a j) = zc x0 x1 x2 a (2944 + j.val) := by
  have hz : (![0, 0] : Fin 2 → ℕ) = fun _ => 0 := by decide
  unfold out0_16
  rw [View.canon_unit_zero hz]
  exact (mm4 _ _ a j).trans (sum_cols i x0 x1 x2 x3 x4 1024 2944 _ (by decide) a j)

theorem out17 (a : Fin 256) (j : Fin 1024) : out0_17 i x0 x1 x2 x3 x4 (ix2 a j) = Cert.Inproj.silu (zc x0 x1 x2 a (3968 + j.val)) := by
  have hz : (![0, 0] : Fin 2 → ℕ) = fun _ => 0 := by decide
  unfold out0_17
  rw [View.canon_unit_zero hz]
  exact (mm5 _ _ a j).trans (congrArg Cert.Inproj.silu (sum_cols i x0 x1 x2 x3 x4 1024 3968 _ (by decide) a j))

theorem out18 (a : Fin 256) (j : Fin 1024) : out0_18 i x0 x1 x2 x3 x4 (ix2 a j) = Ideal.logistic (zc x0 x1 x2 a (4992 + j.val)) := by
  have hz : (![0, 0] : Fin 2 → ℕ) = fun _ => 0 := by decide
  unfold out0_18
  rw [View.canon_unit_zero hz]
  exact (mm6 _ _ a j).trans (congrArg Ideal.logistic (sum_cols i x0 x1 x2 x3 x4 1024 4992 _ (by decide) a j))

theorem out19 (a : Fin 256) (j : Fin 1024) : out0_19 i x0 x1 x2 x3 x4 (ix2 a j) = Ideal.logistic (zc x0 x1 x2 a (6016 + j.val)) := by
  have hz : (![0, 0] : Fin 2 → ℕ) = fun _ => 0 := by decide
  unfold out0_19
  rw [View.canon_unit_zero hz]
  exact (mm7 _ _ a j).trans (congrArg Ideal.logistic (sum_cols i x0 x1 x2 x3 x4 1024 6016 _ (by decide) a j))

end Cert.Kernel3Ideal.Inproj

end
-- ==== Proof.InprojRef.lean ====
/- The reference of the input projection: its operations, and each read at an index. -/
module

public import proofs.«01_k».proof.Proof.Gen.Reference3Ideal.Run
public import proofs.«01_k».proof.Proof.InprojSpec
public import Idealize.ShloMosaic.Lib.Pointwise
public import Idealize.ShloMosaic.Lib.Routing.Words

@[expose] public section

set_option maxRecDepth 16384

noncomputable section

namespace Cert.Reference3Ideal.Inproj

open Idealize.ShloMosaic Idealize.ShloMosaic.TcCoe Idealize.ShloMosaic.Tactic
open Idealize.SL.Sem
open Cert.Reference3Ideal Cert.Reference3Ideal.Gen

variable {F : FTy → Type} [FloatOps F]

/-- The norm and the projection. -/
def projV (x : Vec F S1x16384x1024 .f32) (g : Vec F S1024 .f32) (w : Vec F S1024x6936 .f32) : Vec F S16384x6936 .f32 :=
  shapeCast _ (Host.dotGeneral dot_S1x16384x1024_S1024x6936_S1x16384x6936_2_0_01_1_n_n none (mulf (mulf x (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 g))) w) shapeCasts_S1x16384x6936_S16384x6936

theorem projV_apply (x : Vec Ideal S1x16384x1024 .f32) (g : Vec Ideal S1024 .f32) (w : Vec Ideal S1024x6936 .f32) (n : Fin 16384) (j : Fin 6936) :
    projV x g w (ix2 n j) = ∑ d, Cert.Inproj.hid (fun k => x (ix3 0 n k)) (fun k => g (ix1 k)) d * w (ix2 d j) := by
  unfold projV Cert.Inproj.hid
  pointwise

/-- The frequencies of the attention's rotation. -/
def nsaInv : Vec F S8 .f32 := (Host.divf (broadcastInDim S8 ![] bcast_S_S8 (constant S_ .f32 0x3F800000#32)) (Host.powf (broadcastInDim S8 ![] bcast_S_S8 (constant S_ .f32 0x48F42400#32)) (Host.divf (addf (broadcastInDim S8 ![] bcast_S_S8 (constant S_ .f32 0x00000000#32)) (mulf (broadcastInDim S8 ![] bcast_S_S8 (constant S_ .f32 0x40000000#32)) (sitofp .f32 (iotaInDim S8 32 0)))) (broadcastInDim S8 ![] bcast_S_S8 (constant S_ .f32 0x41800000#32)))))

/-- The frequencies of the retention's rotation. -/
def retInv : Vec F S64 .f32 :=
  (Host.divf (broadcastInDim S64 ![] bcast_S_S64 (constant S_ .f32 0x3F800000#32)) (Host.powf (broadcastInDim S64 ![] bcast_S_S64 (constant S_ .f32 0x461C4000#32)) (concatenate S64 0 [⟨S63, (addf (mulf (broadcastInDim S63 ![0] bcast_S1_S63_0 (shapeCast _ (id (constant S_ .f32 0x00000000#32) : Vec F S_ .f32) shapeCasts_S_S1)) (subf (broadcastInDim S63 ![] bcast_S_S63 (constant S_ .f32 0x3F800000#32)) (Host.divf (sitofp .f32 (iotaInDim S63 32 0)) (broadcastInDim S63 ![] bcast_S_S63 (constant S_ .f32 0x427C0000#32))))) (mulf (broadcastInDim S63 ![0] bcast_S1_S63_0 (shapeCast _ (id (constant S_ .f32 0x3F800000#32) : Vec F S_ .f32) shapeCasts_S_S1)) (Host.divf (sitofp .f32 (iotaInDim S63 32 0)) (broadcastInDim S63 ![] bcast_S_S63 (constant S_ .f32 0x427C0000#32)))))⟩, ⟨S1, (broadcastInDim S1 ![] bcast_S_S1 (id (constant S_ .f32 0x3F800000#32)))⟩] concatenates_S63_S1_S64_d0)))

/-- The angles of a rotation with frequencies `q`. -/
def nsaAng (q : Vec F S8 .f32) : Vec F S16384x8 .f32 :=
  mulf (broadcastInDim S16384x8 ![0, 1] bcast_S16384x1_S16384x8_0_1 (broadcastInDim S16384x1 ![0] bcast_S16384_S16384x1_0 (sitofp .f32 (iotaInDim S16384 32 0)))) (broadcastInDim S16384x8 ![0, 1] bcast_S1x8_S16384x8_0_1 (broadcastInDim S1x8 ![1] bcast_S8_S1x8_1 q))

def retAng (q : Vec F S64 .f32) : Vec F S16384x64 .f32 :=
  mulf (broadcastInDim S16384x64 ![0, 1] bcast_S16384x1_S16384x64_0_1 (broadcastInDim S16384x1 ![0] bcast_S16384_S16384x1_0 (sitofp .f32 (iotaInDim S16384 32 0)))) (broadcastInDim S16384x64 ![0, 1] bcast_S1x64_S16384x64_0_1 (broadcastInDim S1x64 ![1] bcast_S64_S1x64_1 q))

theorem nsaAng_apply (q : Vec Ideal S8 .f32) (n : Fin 16384) (f : Fin 8) : nsaAng q (ix2 n f) = Cert.Inproj.pos n * q (ix1 f) := by
  unfold nsaAng Cert.Inproj.pos
  pointwise
  rfl

theorem retAng_apply (q : Vec Ideal S64 .f32) (n : Fin 16384) (f : Fin 64) : retAng q (ix2 n f) = Cert.Inproj.pos n * q (ix1 f) := by
  unfold retAng Cert.Inproj.pos
  pointwise
  rfl

/-- The rotation of eight heads' first sixteen components. -/
def rot8 (u : Vec F S16384x8x64 .f32) (A : Vec F S16384x8 .f32) : Vec F S16384x8x64 .f32 :=
  concatenate S16384x8x64 2 [⟨S16384x8x8, subf (mulf (extractStridedSlice S16384x8x8 ![0, 0, 0] u slices_S16384x8x64_S16384x8x8_0_0_0) (broadcastInDim S16384x8x8 ![0, 1, 2] bcast_S16384x1x8_S16384x8x8_0_1_2 (broadcastInDim S16384x1x8 ![0, 2] bcast_S16384x8_S16384x1x8_0_2 (Host.cos A)))) (mulf (extractStridedSlice S16384x8x8 ![0, 0, 8] u slices_S16384x8x64_S16384x8x8_0_0_8) (broadcastInDim S16384x8x8 ![0, 1, 2] bcast_S16384x1x8_S16384x8x8_0_1_2 (broadcastInDim S16384x1x8 ![0, 2] bcast_S16384x8_S16384x1x8_0_2 (Host.sin A))))⟩,
    ⟨S16384x8x8, addf (mulf (extractStridedSlice S16384x8x8 ![0, 0, 8] u slices_S16384x8x64_S16384x8x8_0_0_8) (broadcastInDim S16384x8x8 ![0, 1, 2] bcast_S16384x1x8_S16384x8x8_0_1_2 (broadcastInDim S16384x1x8 ![0, 2] bcast_S16384x8_S16384x1x8_0_2 (Host.cos A)))) (mulf (extractStridedSlice S16384x8x8 ![0, 0, 0] u slices_S16384x8x64_S16384x8x8_0_0_0) (broadcastInDim S16384x8x8 ![0, 1, 2] bcast_S16384x1x8_S16384x8x8_0_1_2 (broadcastInDim S16384x1x8 ![0, 2] bcast_S16384x8_S16384x1x8_0_2 (Host.sin A))))⟩,
    ⟨S16384x8x48, extractStridedSlice S16384x8x48 ![0, 0, 16] u slices_S16384x8x64_S16384x8x48_0_0_16⟩] concatenates_S16384x8x8_S16384x8x8_S16384x8x48_S16384x8x64_d2

theorem rot8_apply (u : Vec Ideal S16384x8x64 .f32) (A : Vec Ideal S16384x8 .f32) (n : Fin 16384) (h : Fin 8) (e : Fin 64) :
    rot8 u A (ix3 n h e) = Cert.Inproj.rotN (fun k => u (ix3 n h k)) (fun f => Ideal.cos (A (ix2 n f))) (fun f => Ideal.sin (A (ix2 n f))) e := by
  unfold rot8 Cert.Inproj.rotN
  pointwise
  by_cases h1 : e.val < 8
  · simp only [dif_pos h1]
  · simp only [dif_neg h1]
    by_cases h2 : e.val - 8 < 8
    · simp only [dif_pos h2]
      rw [show (⟨8 + (e.val - 8), by omega⟩ : Fin 64) = e from Fin.ext (by show 8 + (e.val - 8) = e.val; omega)]
    · simp only [dif_neg h2]
      exact congrArg (fun k => u (ix3 n h k)) (Fin.ext (by show 16 + (e.val - 8 - 8) = e.val; omega))

/-- The rotation of two groups' first sixteen components. -/
def rot2 (u : Vec F S16384x2x64 .f32) (A : Vec F S16384x8 .f32) : Vec F S16384x2x64 .f32 :=
  concatenate S16384x2x64 2 [⟨S16384x2x8, subf (mulf (extractStridedSlice S16384x2x8 ![0, 0, 0] u slices_S16384x2x64_S16384x2x8_0_0_0) (broadcastInDim S16384x2x8 ![0, 1, 2] bcast_S16384x1x8_S16384x2x8_0_1_2 (broadcastInDim S16384x1x8 ![0, 2] bcast_S16384x8_S16384x1x8_0_2 (Host.cos A)))) (mulf (extractStridedSlice S16384x2x8 ![0, 0, 8] u slices_S16384x2x64_S16384x2x8_0_0_8) (broadcastInDim S16384x2x8 ![0, 1, 2] bcast_S16384x1x8_S16384x2x8_0_1_2 (broadcastInDim S16384x1x8 ![0, 2] bcast_S16384x8_S16384x1x8_0_2 (Host.sin A))))⟩,
    ⟨S16384x2x8, addf (mulf (extractStridedSlice S16384x2x8 ![0, 0, 8] u slices_S16384x2x64_S16384x2x8_0_0_8) (broadcastInDim S16384x2x8 ![0, 1, 2] bcast_S16384x1x8_S16384x2x8_0_1_2 (broadcastInDim S16384x1x8 ![0, 2] bcast_S16384x8_S16384x1x8_0_2 (Host.cos A)))) (mulf (extractStridedSlice S16384x2x8 ![0, 0, 0] u slices_S16384x2x64_S16384x2x8_0_0_0) (broadcastInDim S16384x2x8 ![0, 1, 2] bcast_S16384x1x8_S16384x2x8_0_1_2 (broadcastInDim S16384x1x8 ![0, 2] bcast_S16384x8_S16384x1x8_0_2 (Host.sin A))))⟩,
    ⟨S16384x2x48, extractStridedSlice S16384x2x48 ![0, 0, 16] u slices_S16384x2x64_S16384x2x48_0_0_16⟩] concatenates_S16384x2x8_S16384x2x8_S16384x2x48_S16384x2x64_d2

theorem rot2_apply (u : Vec Ideal S16384x2x64 .f32) (A : Vec Ideal S16384x8 .f32) (n : Fin 16384) (h : Fin 2) (e : Fin 64) :
    rot2 u A (ix3 n h e) = Cert.Inproj.rotN (fun k => u (ix3 n h k)) (fun f => Ideal.cos (A (ix2 n f))) (fun f => Ideal.sin (A (ix2 n f))) e := by
  unfold rot2 Cert.Inproj.rotN
  pointwise
  by_cases h1 : e.val < 8
  · simp only [dif_pos h1]
  · simp only [dif_neg h1]
    by_cases h2 : e.val - 8 < 8
    · simp only [dif_pos h2]
      rw [show (⟨8 + (e.val - 8), by omega⟩ : Fin 64) = e from Fin.ext (by show 8 + (e.val - 8) = e.val; omega)]
    · simp only [dif_neg h2]
      exact congrArg (fun k => u (ix3 n h k)) (Fin.ext (by show 16 + (e.val - 8 - 8) = e.val; omega))

/-- The rotation of four heads. -/
def rot4 (u : Vec F S16384x4x128 .f32) (A : Vec F S16384x64 .f32) : Vec F S16384x4x128 .f32 :=
  concatenate S16384x4x128 2 [⟨S16384x4x64, subf (mulf (extractStridedSlice S16384x4x64 ![0, 0, 0] u slices_S16384x4x128_S16384x4x64_0_0_0) (broadcastInDim S16384x4x64 ![0, 1, 2] bcast_S16384x1x64_S16384x4x64_0_1_2 (broadcastInDim S16384x1x64 ![0, 2] bcast_S16384x64_S16384x1x64_0_2 (Host.cos A)))) (mulf (extractStridedSlice S16384x4x64 ![0, 0, 64] u slices_S16384x4x128_S16384x4x64_0_0_64) (broadcastInDim S16384x4x64 ![0, 1, 2] bcast_S16384x1x64_S16384x4x64_0_1_2 (broadcastInDim S16384x1x64 ![0, 2] bcast_S16384x64_S16384x1x64_0_2 (Host.sin A))))⟩,
    ⟨S16384x4x64, addf (mulf (extractStridedSlice S16384x4x64 ![0, 0, 64] u slices_S16384x4x128_S16384x4x64_0_0_64) (broadcastInDim S16384x4x64 ![0, 1, 2] bcast_S16384x1x64_S16384x4x64_0_1_2 (broadcastInDim S16384x1x64 ![0, 2] bcast_S16384x64_S16384x1x64_0_2 (Host.cos A)))) (mulf (extractStridedSlice S16384x4x64 ![0, 0, 0] u slices_S16384x4x128_S16384x4x64_0_0_0) (broadcastInDim S16384x4x64 ![0, 1, 2] bcast_S16384x1x64_S16384x4x64_0_1_2 (broadcastInDim S16384x1x64 ![0, 2] bcast_S16384x64_S16384x1x64_0_2 (Host.sin A))))⟩,
    ⟨S16384x4x0, extractStridedSlice S16384x4x0 ![0, 0, 128] u slices_S16384x4x128_S16384x4x0_0_0_128⟩] concatenates_S16384x4x64_S16384x4x64_S16384x4x0_S16384x4x128_d2

theorem rot4_apply (u : Vec Ideal S16384x4x128 .f32) (A : Vec Ideal S16384x64 .f32) (n : Fin 16384) (h : Fin 4) (e : Fin 128) :
    rot4 u A (ix3 n h e) = Cert.Inproj.rotR (fun k => u (ix3 n h k)) (fun f => Ideal.cos (A (ix2 n f))) (fun f => Ideal.sin (A (ix2 n f))) e := by
  unfold rot4 Cert.Inproj.rotR
  pointwise
  by_cases h1 : e.val < 64
  · simp only [dif_pos h1]
  · simp only [dif_neg h1]
    rw [dif_pos (by omega)]
    rw [show (⟨64 + (e.val - 64), by omega⟩ : Fin 128) = e from Fin.ext (by show 64 + (e.val - 64) = e.val; omega)]

/-- Column `k` of row `n`. -/
def col (Y : Vec Ideal S16384x6936 .f32) (n : Fin 16384) (k : ℕ) : EReal := if h : k < 6936 then Y (ix2 n ⟨k, h⟩) else 0

theorem col_eq (Y : Vec Ideal S16384x6936 .f32) (n : Fin 16384) (k : ℕ) (h : k < 6936) : Y (ix2 n ⟨k, h⟩) = col Y n k := by
  unfold col
  rw [dif_pos h]

/-! The fifteen results, of the projection `Y` and the angles `A`. -/

abbrev Ang (A : Vec Ideal S16384x8 .f32) (n : Fin 16384) (f : Fin 8) : EReal := Ideal.cos (A (ix2 n f))
abbrev Bng (A : Vec Ideal S16384x8 .f32) (n : Fin 16384) (f : Fin 8) : EReal := Ideal.sin (A (ix2 n f))

def q (Y : Vec F S16384x6936 .f32) (A : Vec F S16384x8 .f32) : Vec F S512x16384 .f32 :=
  transpose S512x16384 [1, 0] (shapeCast _ (mulf (rot8 (shapeCast _ (extractStridedSlice S16384x512 ![0, 0] Y slices_S16384x6936_S16384x512_0_0) shapeCasts_S16384x512_S16384x8x64) A) (broadcastInDim S16384x8x64 ![] bcast_S_S16384x8x64 (constant S_ .f32 0x3E000000#32))) shapeCasts_S16384x8x64_S16384x512) transposes_S16384x512_S512x16384_1_0

theorem q_apply (Y : Vec Ideal S16384x6936 .f32) (A : Vec Ideal S16384x8 .f32) (n : Fin 16384) (j : Fin 512) :
    q Y A (ix2 j n) = Cert.Inproj.heads (col Y n) (Ang A n) (Bng A n) 0 j.val * Ideal.ofBits .f32 0x3E000000#32 := by
  unfold q Cert.Inproj.heads
  pointwise [rot8_apply]
  simp only [col_eq, Nat.zero_add]

/-- Two groups of 64 columns. -/
def two (v : Vec F S16384x128 .f32) : Vec F S16384x2x64 .f32 := shapeCast _ v shapeCasts_S16384x128_S16384x2x64

theorem two_apply (v : Vec Ideal S16384x128 .f32) (n : Fin 16384) (g : Fin 2) (k : Fin 64) : two v (ix3 n g k) = v (ix2 n ⟨g.val * 64 + k.val, by omega⟩) := by
  unfold two
  pointwise

def kc (v : Vec F S16384x128 .f32) (A : Vec F S16384x8 .f32) : Vec F S16384x128 .f32 :=
  shapeCast _ (rot2 (two v) A) shapeCasts_S16384x2x64_S16384x128

theorem kc_apply (v : Vec Ideal S16384x128 .f32) (A : Vec Ideal S16384x8 .f32) (y : ℕ → EReal) (o : ℕ) (n : Fin 16384)
    (hv : ∀ j : Fin 128, v (ix2 n j) = y (o + j.val)) (j : Fin 128) : kc v A (ix2 n j) = Cert.Inproj.heads y (Ang A n) (Bng A n) o j.val := by
  unfold kc Cert.Inproj.heads
  pointwise [rot2_apply, two_apply]
  simp only [hv]

def keys (v : Vec F S16384x128 .f32) (A : Vec F S16384x8 .f32) (f : Vec F S16384x64 .f32) : Vec F S2x16384x128 .bf16 :=
  truncf .bf16 (transpose S2x16384x128 [1, 0, 2] (concatenate S16384x2x128 2 [⟨S16384x2x64, rot2 (two v) A⟩, ⟨S16384x2x64, (broadcastInDim S16384x2x64 ![0, 1, 2] bcast_S16384x1x64_S16384x2x64_0_1_2 (broadcastInDim S16384x1x64 ![0, 2] bcast_S16384x64_S16384x1x64_0_2 f))⟩] concatenates_S16384x2x64_S16384x2x64_S16384x2x128_d2) transposes_S16384x2x128_S2x16384x128_1_0_2) bitsLt_bf16_f32

theorem keys_apply (v : Vec Ideal S16384x128 .f32) (A : Vec Ideal S16384x8 .f32) (f : Vec Ideal S16384x64 .f32) (y : ℕ → EReal) (b : ℕ → EReal) (o : ℕ) (n : Fin 16384)
    (hv : ∀ j : Fin 128, v (ix2 n j) = y (o + j.val)) (hf : ∀ l : Fin 64, f (ix2 n l) = b l.val) (g : Fin 2) (l : Fin 128) :
    keys v A f (ix3 g n l) = Cert.Inproj.key y (Ang A n) (Bng A n) o g.val l.val b := by
  unfold keys Cert.Inproj.key Cert.Inproj.heads
  pointwise [rot2_apply, two_apply]
  simp only [hv, hf]
  by_cases h : l.val < 64
  · simp only [dif_pos h, if_pos h]
    have e1 : (64 * g.val + l.val) / 64 = g.val := by omega
    have e2 : (64 * g.val + l.val) % 64 = l.val := by omega
    simp only [e1, e2]
  · simp only [dif_neg h, if_neg h]

/-- A one over zeros. -/
def ones : Vec F S2x16x16384 .f32 :=
  mulf (broadcastInDim S2x16x16384 ![0, 1, 2] bcast_S1x16x1_S2x16x16384_0_1_2 (broadcastInDim S1x16x1 ![1, 2] bcast_S16x1_S1x16x1_1_2 (uitofp .f32 (cmpi .eq (broadcastInDim S16x1 ![0] bcast_S16_S16x1_0 (iotaInDim S16 32 0)) (broadcastInDim S16x1 ![] bcast_S_S16x1 (constantI S_ 32 0#32)))))) (broadcastInDim S2x16x16384 ![] bcast_S_S2x16x16384 (constant S_ .f32 0x3F800000#32))

/-- A comparison of words as a number. -/
theorem uitofp_eq (a b : ℕ) (ha : a < 2 ^ 32) (hb : b < 2 ^ 32) :
    (FloatOps.uitofp .f32 (IntOp.cmpi .eq (BitVec.ofNat 32 a) (BitVec.ofNat 32 b)) : Ideal .f32) = (if a = b then 1 else 0 : EReal) := by
  rw [WordCmp.cmpi_eq_ofNat (w := 32) ha hb]
  by_cases h : a = b
  · rw [if_pos h]; simp only [h, decide_true]; show ((((BitVec.ofBool true).toNat : ℝ)) : EReal) = 1; norm_num; rfl
  · rw [if_neg h]; simp only [h, decide_false]; show ((((BitVec.ofBool false).toNat : ℝ)) : EReal) = 0; norm_num

theorem ones_apply (g : Fin 2) (r : Fin 16) (n : Fin 16384) : (ones : Vec Ideal S2x16x16384 .f32) (ix3 g r n) = if r.val = 0 then 1 else 0 := by
  unfold ones
  pointwise
  rw [show (0#32 : BitVec 32) = BitVec.ofNat 32 0 from rfl, uitofp_eq _ _ (by omega) (by decide)]

def vals (v : Vec F S16384x128 .f32) : Vec F S2x80x16384 .bf16 :=
  truncf .bf16 (concatenate S2x80x16384 1 [⟨S2x64x16384, (transpose S2x64x16384 [1, 2, 0] (two v) transposes_S16384x2x64_S2x64x16384_1_2_0)⟩, ⟨S2x16x16384, ones⟩] concatenates_S2x64x16384_S2x16x16384_S2x80x16384_d1) bitsLt_bf16_f32

theorem vals_apply (v : Vec Ideal S16384x128 .f32) (y : ℕ → EReal) (o : ℕ) (n : Fin 16384) (hv : ∀ j : Fin 128, v (ix2 n j) = y (o + j.val)) (g : Fin 2) (r : Fin 80) :
    vals v (ix3 g r n) = Cert.Inproj.value y o g.val r.val := by
  unfold vals Cert.Inproj.value
  pointwise [two_apply, ones_apply]
  simp only [hv]
  by_cases h : r.val < 64
  · simp only [dif_pos h, if_pos h, Nat.mul_comm 64]
  · simp only [dif_neg h, if_neg h]
    by_cases h0 : r.val = 64
    · rw [if_pos h0, if_pos (by omega)]
    · rw [if_neg h0, if_neg (by omega)]

def gates (Y : Vec F S16384x6936 .f32) (b : Vec F S24 .f32) : Vec F S2x16x16384 .f32 :=
  transpose S2x16x16384 [1, 2, 0] (Host.divf (broadcastInDim S16384x2x16 ![] bcast_S_S16384x2x16 (constant S_ .f32 0x3F800000#32)) (addf (broadcastInDim S16384x2x16 ![] bcast_S_S16384x2x16 (constant S_ .f32 0x3F800000#32)) (Host.exp (Host.negf (pad S16384x2x16 ![0, 0, 0] ![0, 0, 4] ![0, 0, 0] (shapeCast _ (shapeCast _ (addf (extractStridedSlice S16384x24 ![0, 1280] Y slices_S16384x6936_S16384x24_0_1280) (broadcastInDim S16384x24 ![0, 1] bcast_S1x24_S16384x24_0_1 (broadcastInDim S1x24 ![1] bcast_S24_S1x24_1 b))) shapeCasts_S16384x24_S16384x8x3) shapeCasts_S16384x8x3_S16384x2x12) (sitofp .f32 (constantI S_ 32 0#32)) pads_S16384x2x12_S16384x2x16_000_000_040 h_S_))))) transposes_S16384x2x16_S2x16x16384_1_2_0

/-- The gates' biases, and zeros after them. -/
def bcol (b : Vec Ideal S24 .f32) (k : ℕ) : EReal := if h : k < 24 then b (ix1 ⟨k, h⟩) else 0

theorem bcol_eq (b : Vec Ideal S24 .f32) (k : ℕ) (h : k < 24) : b (ix1 ⟨k, h⟩) = bcol b k := by
  unfold bcol
  rw [dif_pos h]

theorem gates_apply (Y : Vec Ideal S16384x6936 .f32) (b : Vec Ideal S24 .f32) (g : Fin 2) (r : Fin 16) (n : Fin 16384) :
    gates Y b (ix3 g r n) = Cert.Inproj.gate (col Y n) (bcol b) g.val r.val := by
  unfold gates Cert.Inproj.gate Ideal.logistic
  pointwise
  simp only [col_eq, bcol_eq]
  by_cases h : r.val < 12
  · simp only [dif_pos h, if_pos h, Nat.mul_comm 12]
  · simp only [dif_neg h, if_neg h]
    rw [show (FloatOps.sitofp .f32 (0#32) : Ideal .f32) = (0 : EReal) from by show ((((0#32 : BitVec 32).toInt : ℝ)) : EReal) = 0; norm_num]

/-- A half of the retention's columns as four heads. -/
def four (v : Vec F S16384x512 .f32) : Vec F S16384x4x128 .f32 := shapeCast _ v shapeCasts_S16384x512_S16384x4x128

def qr (v : Vec F S16384x512 .f32) (A : Vec F S16384x64 .f32) : Vec F S16384x512 .bf16 :=
  truncf .bf16 (shapeCast _ (rot4 (four v) A) shapeCasts_S16384x4x128_S16384x512) bitsLt_bf16_f32

def kr (v : Vec F S16384x512 .f32) (A : Vec F S16384x64 .f32) : Vec F S16384x512 .bf16 :=
  truncf .bf16 (shapeCast _ (mulf (rot4 (four v) A) (broadcastInDim S16384x4x128 ![] bcast_S_S16384x4x128 (constant S_ .f32 0x3DB504F3#32))) shapeCasts_S16384x4x128_S16384x512) bitsLt_bf16_f32

theorem qr_apply (v : Vec Ideal S16384x512 .f32) (A : Vec Ideal S16384x64 .f32) (y : ℕ → EReal) (o : ℕ) (n : Fin 16384)
    (hv : ∀ j : Fin 512, v (ix2 n j) = y (o + j.val)) (j : Fin 512) :
    qr v A (ix2 n j) = Cert.Inproj.wide y (fun f => Ideal.cos (A (ix2 n f))) (fun f => Ideal.sin (A (ix2 n f))) o j.val := by
  unfold qr four Cert.Inproj.wide
  pointwise [rot4_apply]
  simp only [hv]

theorem kr_apply (v : Vec Ideal S16384x512 .f32) (A : Vec Ideal S16384x64 .f32) (y : ℕ → EReal) (o : ℕ) (n : Fin 16384)
    (hv : ∀ j : Fin 512, v (ix2 n j) = y (o + j.val)) (j : Fin 512) :
    kr v A (ix2 n j) = Cert.Inproj.wide y (fun f => Ideal.cos (A (ix2 n f))) (fun f => Ideal.sin (A (ix2 n f))) o j.val * Ideal.ofBits .f32 0x3DB504F3#32 := by
  unfold kr four Cert.Inproj.wide
  pointwise [rot4_apply]
  simp only [hv]

def silu (v : Vec F S16384x512 .f32) : Vec F S16384x512 .bf16 :=
  truncf .bf16 (mulf v (Host.divf (broadcastInDim S16384x512 ![] bcast_S_S16384x512 (constant S_ .f32 0x3F800000#32)) (addf (broadcastInDim S16384x512 ![] bcast_S_S16384x512 (constant S_ .f32 0x3F800000#32)) (Host.exp (Host.negf v))))) bitsLt_bf16_f32

def sgm (v : Vec F S16384x1024 .f32) : Vec F S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf v)))

def low (v : Vec F S16384x1024 .f32) : Vec F S16384x1024 .bf16 := truncf .bf16 v bitsLt_bf16_f32

theorem silu_apply (v : Vec Ideal S16384x512 .f32) (n : Fin 16384) (j : Fin 512) : silu v (ix2 n j) = Cert.Inproj.silu (v (ix2 n j)) := by
  unfold silu Cert.Inproj.silu Ideal.logistic
  pointwise

theorem sgm_apply (v : Vec Ideal S16384x1024 .f32) (n : Fin 16384) (j : Fin 1024) : sgm v (ix2 n j) = Ideal.logistic (v (ix2 n j)) := by
  unfold sgm Ideal.logistic
  pointwise

/-- Which block of 64 within 512 rows each row is in. -/
def hot : Vec F S16384x64 .f32 :=
  uitofp .f32 (cmpi .eq (broadcastInDim S16384x64 ![0, 1] bcast_S16384x1_S16384x64_0_1 (Routing.pyRem bcast_S_S16384x1 (Routing.pyDiv bcast_S_S16384x1 (broadcastInDim S16384x1 ![0] bcast_S16384_S16384x1_0 (iotaInDim S16384 32 0)) (id (constantI S_ 32 64#32))) (id (constantI S_ 32 8#32)))) (broadcastInDim S16384x64 ![0, 1] bcast_S1x64_S16384x64_0_1 (broadcastInDim S1x64 ![1] bcast_S64_S1x64_1 (iotaInDim S64 32 0))))

def none64 : Vec F S16384x64 .f32 := broadcastInDim S16384x64 ![] bcast_S_S16384x64 (constant S_ .f32 0x00000000#32)

theorem none64_apply (n : Fin 16384) (l : Fin 64) : (none64 : Vec Ideal S16384x64 .f32) (ix2 n l) = 0 := by
  unfold none64
  pointwise

theorem hot_apply (n : Fin 16384) (l : Fin 64) : (hot : Vec Ideal S16384x64 .f32) (ix2 n l) = Cert.Inproj.block n.val l.val := by
  unfold hot Cert.Inproj.block
  pointwise
  rw [Routing.pyRem_ap bcast_S_S16384x1 _ _ _ (a := n.val / 64) (b := 8) ?_ rfl (by omega) (by decide) (by decide)]
  · exact uitofp_eq _ _ (by omega) (by omega)
  · rw [Routing.pyDiv_ap bcast_S_S16384x1 _ _ _ (a := n.val) (b := 64) ?_ rfl (by omega) (by decide) (by decide)]
    pointwise

/-! The results of the run are these. -/

variable (m : (ℓ : Loc nD τ sig) → Buf (Elt Ideal) ℓ) (c : Dev nD)

abbrev A0 : Vec Ideal S1x16384x1024 .f32 := m ((c.tc : Thread nD τ).loc main_arg0)
abbrev A1 : Vec Ideal S1024 .f32 := m ((c.tc : Thread nD τ).loc main_arg1)
abbrev A2 : Vec Ideal S1024x6936 .f32 := m ((c.tc : Thread nD τ).loc main_arg2)
abbrev A3 : Vec Ideal S24 .f32 := m ((c.tc : Thread nD τ).loc main_arg3)
abbrev Y : Vec Ideal S16384x6936 .f32 := projV (A0 m c) (A1 m c) (A2 m c)
abbrev QA : Vec Ideal S16384x8 .f32 := nsaAng nsaInv
abbrev RA : Vec Ideal S16384x64 .f32 := retAng retInv
abbrev cut128 (o : ℕ) (h : S16384x6936.Slices ![0, o] S16384x128) : Vec Ideal S16384x128 .f32 := extractStridedSlice S16384x128 ![0, o] (Y m c) h
abbrev cut512 (o : ℕ) (h : S16384x6936.Slices ![0, o] S16384x512) : Vec Ideal S16384x512 .f32 := extractStridedSlice S16384x512 ![0, o] (Y m c) h
abbrev cut1024 (o : ℕ) (h : S16384x6936.Slices ![0, o] S16384x1024) : Vec Ideal S16384x1024 .f32 := extractStridedSlice S16384x1024 ![0, o] (Y m c) h

/-- Every run leaves them. -/
theorem run (ρ : Dev nD → PrngReg) :
    θ_run defs (onTc (τ := τ) (main (F := Ideal))) ⟨m, fun _ => 0, ρ⟩ fun r => ∀ c : Dev nD,
      r.2.mem ((c.tc : Thread nD τ).loc main_v208) = q (Y m c) QA
      ∧ r.2.mem ((c.tc : Thread nD τ).loc main_v209) = kc (cut128 m c 512 slices_S16384x6936_S16384x128_0_512) QA
      ∧ r.2.mem ((c.tc : Thread nD τ).loc main_v44) = (cut128 m c 640 slices_S16384x6936_S16384x128_0_640)
      ∧ r.2.mem ((c.tc : Thread nD τ).loc main_v214) = keys (cut128 m c 768 slices_S16384x6936_S16384x128_0_768) QA hot
      ∧ r.2.mem ((c.tc : Thread nD τ).loc main_v218) = vals (cut128 m c 896 slices_S16384x6936_S16384x128_0_896)
      ∧ r.2.mem ((c.tc : Thread nD τ).loc main_v224) = keys (cut128 m c 1024 slices_S16384x6936_S16384x128_0_1024) QA none64
      ∧ r.2.mem ((c.tc : Thread nD τ).loc main_v228) = vals (cut128 m c 1152 slices_S16384x6936_S16384x128_0_1152)
      ∧ r.2.mem ((c.tc : Thread nD τ).loc main_v206) = gates (Y m c) (A3 m c)
      ∧ r.2.mem ((c.tc : Thread nD τ).loc main_v230) = silu (cut512 m c 1304 slices_S16384x6936_S16384x512_0_1304)
      ∧ r.2.mem ((c.tc : Thread nD τ).loc main_v232) = qr (cut512 m c 1816 slices_S16384x6936_S16384x512_0_1816) RA
      ∧ r.2.mem ((c.tc : Thread nD τ).loc main_v234) = kr (cut512 m c 2328 slices_S16384x6936_S16384x512_0_2328) RA
      ∧ r.2.mem ((c.tc : Thread nD τ).loc main_v235) = low (cut1024 m c 2840 slices_S16384x6936_S16384x1024_0_2840)
      ∧ r.2.mem ((c.tc : Thread nD τ).loc main_v237) = low (mulf (cut1024 m c 3864 slices_S16384x6936_S16384x1024_0_3864) (sgm (cut1024 m c 3864 slices_S16384x6936_S16384x1024_0_3864)))
      ∧ r.2.mem ((c.tc : Thread nD τ).loc main_v244) = low (sgm (cut1024 m c 4888 slices_S16384x6936_S16384x1024_0_4888))
      ∧ r.2.mem ((c.tc : Thread nD τ).loc main_v251) = low (sgm (cut1024 m c 5912 slices_S16384x6936_S16384x1024_0_5912))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference3Ideal.Value.run m ρ

end Cert.Reference3Ideal.Inproj
end
-- ==== Proof.InprojHost.lean ====
/- What the host makes of the arguments before the projection's call, at an index. -/
module

public import proofs.«01_k».proof.Proof.Gen.Kernel3Ideal.Value
public import proofs.«01_k».proof.Proof.InprojRef
public import Idealize.ShloMosaic.Lib.Pointwise
public import Idealize.ShloMosaic.Lib.StableHlo.ReadAt

@[expose] public section

set_option maxRecDepth 16384

noncomputable section

namespace Cert.Kernel3Ideal.Inproj

open Idealize.ShloMosaic Idealize.ShloMosaic.TcCoe Idealize.ShloMosaic.Tactic Idealize.SL.Sem
open Idealize.ShloMosaic.StableHlo
open Cert.Kernel3Ideal Cert.Kernel3Ideal.Gen

/-- The zero that pads. -/
def zeroPad : FVec Ideal S_ .f32 := sitofp .f32 (constantI S_ 32 0#32)

theorem zeroPad_apply (x : S_.Idx) : zeroPad x = 0 := by
  show (((0#32 : BitVec 32).toInt : ℝ) : EReal) = 0
  simp

/-- The gates' columns: twelve of each group and four of zeros, then zeros up to 128. -/
def gcols (w : Vec Ideal S1024x6936 .f32) : Vec Ideal S1024x128 .f32 :=
  pad S1024x128 ![0, 0] ![0, 96] ![0, 0] (shapeCast S1024x32 (pad S1024x2x16 ![0, 0, 0] ![0, 0, 4] ![0, 0, 0] (shapeCast S1024x2x12 (extractStridedSlice S1024x24 ![0, 1280] w slices_S1024x6936_S1024x24_0_1280) shapeCasts_S1024x24_S1024x2x12 : Vec Ideal S1024x2x12 .f32) zeroPad pads_S1024x2x12_S1024x2x16_000_000_040 h_S_ : Vec Ideal S1024x2x16 .f32) shapeCasts_S1024x2x16_S1024x32 : Vec Ideal S1024x32 .f32) zeroPad pads_S1024x32_S1024x128_000_0960 h_S_

/-- The weight as the call reads it. -/
def wide7040 (w : Vec Ideal S1024x6936 .f32) (v : Vec Ideal S1024x128 .f32) : Vec Ideal S1024x7040 .bf16 :=
  truncf .bf16 (concatenate S1024x7040 1 [⟨S1024x1280, extractStridedSlice S1024x1280 ![0, 0] w slices_S1024x6936_S1024x1280_0_0⟩, ⟨S1024x128, v⟩, ⟨S1024x5632, extractStridedSlice S1024x5632 ![0, 1304] w slices_S1024x6936_S1024x5632_0_1304⟩] concatenates_S1024x1280_S1024x128_S1024x5632_S1024x7040_d1 : FVec Ideal S1024x7040 .f32) bitsLt_bf16_f32

/-- The gates' bias as the call reads it. -/
def grow (b : Vec Ideal S24 .f32) : Vec Ideal S1x128 .f32 :=
  shapeCast S1x128 (pad S128 ![0] ![96] ![0] (shapeCast S32 (pad S2x16 ![0, 0] ![0, 4] ![0, 0] (shapeCast S2x12 b shapeCasts_S24_S2x12 : Vec Ideal S2x12 .f32) zeroPad pads_S2x12_S2x16_000_040 h_S_ : Vec Ideal S2x16 .f32) shapeCasts_S2x16_S32 : Vec Ideal S32 .f32) zeroPad pads_S32_S128_0960 h_S_ : Vec Ideal S128 .f32) shapeCasts_S128_S1x128

/-- The frequencies of the two rotations as the call reads them: the retention's, the attention's, zeros. -/
def freqs (q : Vec Ideal S8 .f32) (r : Vec Ideal S64 .f32) : Vec Ideal S8x128 .f32 :=
  pad S8x128 ![0, 0] ![7, 0] ![0, 0] (broadcastInDim S1x128 ![1] bcast_S128_S1x128_1 (concatenate S128 0 [⟨S64, r⟩, ⟨S8, q⟩, ⟨S56, (broadcastInDim S56 ![] bcast_S_S56 (constant (F := Ideal) S_ .f32 0x00000000#32) : FVec Ideal S56 .f32)⟩] concatenates_S64_S8_S56_S128_d0 : Vec Ideal S128 .f32) : Vec Ideal S1x128 .f32) zeroPad pads_S1x128_S8x128_070_000 h_S_

theorem gcols_apply (w : Vec Ideal S1024x6936 .f32) (d : Fin 1024) (g : Fin 2) (r : Fin 16) :
    gcols w (ix2 d ⟨16 * g.val + r.val, by omega⟩) = if h : r.val < 12 then w (ix2 d ⟨1280 + (12 * g.val + r.val), by omega⟩) else 0 := by
  unfold gcols
  pointwise
  rw [dif_pos (by omega), zeroPad_apply]
  by_cases h : r.val < 12
  · rw [dif_pos h, dif_pos h]; exact congrArg (fun k => w (ix2 d k)) (Fin.ext (by show 1280 + (g.val * 12 + r.val) = 1280 + (12 * g.val + r.val); omega))
  · rw [dif_neg h, dif_neg h]

theorem grow_apply (b : Vec Ideal S24 .f32) (g : Fin 2) (r : Fin 16) :
    grow b (ix2 0 ⟨16 * g.val + r.val, by omega⟩) = if h : r.val < 12 then b (ix1 ⟨12 * g.val + r.val, by omega⟩) else 0 := by
  unfold grow
  pointwise
  rw [dif_pos (by omega), zeroPad_apply]
  by_cases h : r.val < 12
  · rw [dif_pos h, dif_pos h]; exact congrArg (fun k => b (ix1 k)) (Fin.ext (by show g.val * 12 + r.val = 12 * g.val + r.val; omega))
  · rw [dif_neg h, dif_neg h]

theorem wide_low (w : Vec Ideal S1024x6936 .f32) (v : Vec Ideal S1024x128 .f32) (d : Fin 1024) (k : ℕ) (h : k < 1280) : wide7040 w v (ix2 d ⟨k, by omega⟩) = w (ix2 d ⟨k, by omega⟩) := by
  unfold wide7040
  pointwise
  rw [dif_pos h]

theorem wide_mid (w : Vec Ideal S1024x6936 .f32) (v : Vec Ideal S1024x128 .f32) (d : Fin 1024) (k : ℕ) (h : k < 128) : wide7040 w v (ix2 d ⟨1280 + k, by omega⟩) = v (ix2 d ⟨k, by omega⟩) := by
  unfold wide7040
  pointwise
  rw [dif_pos h]

theorem wide_high (w : Vec Ideal S1024x6936 .f32) (v : Vec Ideal S1024x128 .f32) (d : Fin 1024) (k : ℕ) (h : k < 5632) : wide7040 w v (ix2 d ⟨1408 + k, by omega⟩) = w (ix2 d ⟨1304 + k, by omega⟩) := by
  unfold wide7040
  pointwise
  rw [dif_neg (by omega), dif_neg (by omega)]
  exact congrArg (fun k => w (ix2 d k)) (Fin.ext (by show 1304 + (1408 + k - 1280 - 128) = 1304 + k; omega))

theorem freqs_wide (q : Vec Ideal S8 .f32) (r : Vec Ideal S64 .f32) (f : Fin 64) : freqs q r (ix2 0 ⟨f.val, by omega⟩) = r (ix1 f) := by
  unfold freqs
  pointwise
  rw [dif_pos (by omega)]

theorem freqs_narrow (q : Vec Ideal S8 .f32) (r : Vec Ideal S64 .f32) (f : Fin 8) : freqs q r (ix2 0 ⟨64 + f.val, by omega⟩) = q (ix1 f) := by
  unfold freqs
  pointwise
  rw [dif_pos (by omega)]

variable (m : (ℓ : Loc nD τ sig) → Buf (Elt Ideal) ℓ) (c : Dev nD)

theorem V_x : (V m c main_v0 : S16384x1024.Idx → EReal) = shapeCast S16384x1024 (m ((c : Thread nD τ).loc main_arg0) : Vec Ideal S1x16384x1024 .f32) shapeCasts_S1x16384x1024_S16384x1024 := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_reads_simp; rfl

theorem V_g : (V m c main_v15 : S1x1024.Idx → EReal) = shapeCast S1x1024 (m ((c : Thread nD τ).loc main_arg1) : Vec Ideal S1024 .f32) shapeCasts_S1024_S1x1024 := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_reads_simp; rfl

theorem V_b : (V m c main_v14 : S1x128.Idx → EReal) = grow (m ((c : Thread nD τ).loc main_arg3)) := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_reads_simp; rfl

theorem V_w : (V m c main_v9 : S1024x7040.Idx → EReal) = wide7040 (m ((c : Thread nD τ).loc main_arg2)) (gcols (m ((c : Thread nD τ).loc main_arg2))) := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_reads_simp
  generalize hW : upto _ _ _ = W
  have e0 : W (Proc.devRef .tc main_v6) = (extractStridedSlice S1024x1280 ![0, 0] (m ((c : Thread nD τ).loc main_arg2)) slices_S1024x6936_S1024x1280_0_0 : Vec Ideal S1024x1280 .f32) := by
    rw [← hW]; after_reads_simp
  have e1 : W (Proc.devRef .tc main_v5) = gcols (m ((c : Thread nD τ).loc main_arg2)) := by
    rw [← hW]; after_reads_simp; rfl
  have e2 : W (Proc.devRef .tc main_v7) = (extractStridedSlice S1024x5632 ![0, 1304] (m ((c : Thread nD τ).loc main_arg2)) slices_S1024x6936_S1024x5632_0_1304 : Vec Ideal S1024x5632 .f32) := by
    rw [← hW]; after_reads_simp
  unfold wide7040
  rw [← e0, ← e1, ← e2]
  rfl

set_option maxHeartbeats 4000000 in
theorem V_f : (V m c main_v35 : S8x128.Idx → EReal) = freqs Cert.Reference3Ideal.Inproj.nsaInv Cert.Reference3Ideal.Inproj.retInv := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_reads_simp
  generalize hW : upto _ _ _ = W
  have e0 : W (Proc.devRef .tc main_v31) = (Cert.Reference3Ideal.Inproj.retInv : Vec Ideal S64 .f32) := by
    rw [← hW]; after_reads_simp; rfl
  have e1 : W (Proc.devRef .tc main_v26) = (Cert.Reference3Ideal.Inproj.nsaInv : Vec Ideal S8 .f32) := by
    rw [← hW]; after_reads_simp; rfl
  have e2 : W (Proc.devRef .tc main_v32) = (broadcastInDim S56 ![] bcast_S_S56 (constant (F := Ideal) S_ .f32 0x00000000#32) : FVec Ideal S56 .f32) := by
    rw [← hW]; after_reads_simp
  unfold freqs
  rw [← e0, ← e1, ← e2]
  rfl

end Cert.Kernel3Ideal.Inproj

end
-- ==== Proof.InprojKernel.lean ====
/- The projection's call: each result at a row and column, as the formulas of Proof/InprojSpec.lean of the arguments. -/
module

public import proofs.«01_k».proof.Proof.InprojOut
public import proofs.«01_k».proof.Proof.InprojHost

@[expose] public section

set_option maxRecDepth 16384

noncomputable section

namespace Cert.Kernel3Ideal.Inproj

open Idealize.ShloMosaic Idealize.ShloMosaic.TcCoe Idealize.ShloMosaic.Tactic Idealize.SL.Sem
open Idealize.ShloMosaic.StableHlo
open Cert.Kernel3Ideal Cert.Kernel3Ideal.Gen Cert.Kernel3Ideal.Value
open Cert.Index
open Cert.Reference3Ideal.Inproj (projV projV_apply nsaInv retInv nsaAng retAng nsaAng_apply retAng_apply col col_eq bcol bcol_eq)

/-! ## The columns of the padded weight -/

section Columns

variable (x0 : Vec Ideal S256x1024 .f32) (x1 : Vec Ideal S1x1024 .f32) (a : Fin 256)
variable (x : Vec Ideal S1x16384x1024 .f32) (g : Vec Ideal S1024 .f32) (w : Vec Ideal S1024x6936 .f32) (n : Fin 16384)

theorem hrow_eq (h0 : ∀ k, x0 (ix2 a k) = x (ix3 0 n k)) (h1 : ∀ k, x1 (ix2 0 k) = g (ix1 k)) (d : Fin 1024) :
    hrow x0 x1 a d = Cert.Inproj.hid (fun k => x (ix3 0 n k)) (fun k => g (ix1 k)) d := by
  unfold hrow
  rw [funext h0, funext h1]

theorem col_apply (k : ℕ) (h : k < 6936) : col (projV x g w) n k = ∑ d, Cert.Inproj.hid (fun k => x (ix3 0 n k)) (fun k => g (ix1 k)) d * w (ix2 d ⟨k, h⟩) :=
  (col_eq _ n k h).symm.trans (projV_apply x g w n ⟨k, h⟩)

/-- A column of the padded weight that is column `k` of the weight gives that column of the product. -/
theorem zc_col (h0 : ∀ k, x0 (ix2 a k) = x (ix3 0 n k)) (h1 : ∀ k, x1 (ix2 0 k) = g (ix1 k)) (z k : ℕ) (hz : z < 7040) (hk : k < 6936)
    (e : ∀ d, wide7040 w (gcols w) (ix2 d ⟨z, hz⟩) = w (ix2 d ⟨k, hk⟩)) :
    zc x0 x1 (wide7040 w (gcols w)) a z = col (projV x g w) n k := by
  unfold zc
  rw [dif_pos hz, col_apply x g w n k hk]
  exact Finset.sum_congr rfl fun d _ => by rw [hrow_eq x0 x1 a x g n h0 h1, e]

theorem zc_low (h0 : ∀ k, x0 (ix2 a k) = x (ix3 0 n k)) (h1 : ∀ k, x1 (ix2 0 k) = g (ix1 k)) (k : ℕ) (h : k < 1280) :
    zc x0 x1 (wide7040 w (gcols w)) a k = col (projV x g w) n k :=
  zc_col x0 x1 a x g w n h0 h1 k k (by omega) (by omega) (fun d => wide_low w _ d k h)

theorem zc_high (h0 : ∀ k, x0 (ix2 a k) = x (ix3 0 n k)) (h1 : ∀ k, x1 (ix2 0 k) = g (ix1 k)) (z k : ℕ) (h : z = k + 104) (hk : 1304 ≤ k) (hk' : k < 6936) :
    zc x0 x1 (wide7040 w (gcols w)) a z = col (projV x g w) n k := by
  obtain ⟨j, rfl⟩ : ∃ j, k = 1304 + j := ⟨k - 1304, by omega⟩
  obtain rfl : z = 1408 + j := by omega
  exact zc_col x0 x1 a x g w n h0 h1 _ _ (by omega) hk' (fun d => wide_high w _ d j (by omega))

/-- A gate's logit: zero at the four rows under a group's twelve. -/
theorem zc_gate (h0 : ∀ k, x0 (ix2 a k) = x (ix3 0 n k)) (h1 : ∀ k, x1 (ix2 0 k) = g (ix1 k)) (b : Vec Ideal S24 .f32) (p : Fin 2) (r : Fin 16) :
    zc x0 x1 (wide7040 w (gcols w)) a (1280 + (16 * p.val + r.val)) + grow b (ix2 0 ⟨16 * p.val + r.val, by omega⟩)
      = if r.val < 12 then col (projV x g w) n (1280 + (12 * p.val + r.val)) + bcol b (12 * p.val + r.val) else 0 := by
  rw [grow_apply]
  by_cases h : r.val < 12
  · rw [if_pos h, dif_pos h, bcol_eq b (12 * p.val + r.val) (by omega)]
    congr 1
    refine zc_col x0 x1 a x g w n h0 h1 _ _ (by omega) (by omega) fun d => ?_
    rw [wide_mid w (gcols w) d (16 * p.val + r.val) (by omega), gcols_apply, dif_pos h]
  · rw [if_neg h, dif_neg h, add_zero]
    unfold zc
    rw [dif_pos (by omega)]
    refine Finset.sum_eq_zero fun d _ => ?_
    rw [wide_mid w (gcols w) d (16 * p.val + r.val) (by omega), gcols_apply, dif_neg h, mul_zero]

end Columns

/-- The formulas depend on the columns they read. -/
theorem heads_congr (z y : ℕ → EReal) (c s : Fin 8 → EReal) (o o' j w : ℕ) (hj : j < w) (hw : w % 64 = 0) (h : ∀ k, k < w → z (o + k) = y (o' + k)) :
    Cert.Inproj.heads z c s o j = Cert.Inproj.heads y c s o' j := by
  unfold Cert.Inproj.heads
  rw [funext fun k : Fin 64 => h (j / 64 * 64 + k.val) (by omega)]

theorem wide_congr (z y : ℕ → EReal) (c s : Fin 64 → EReal) (o o' j w : ℕ) (hj : j < w) (hw : w % 128 = 0) (h : ∀ k, k < w → z (o + k) = y (o' + k)) :
    Cert.Inproj.wide z c s o j = Cert.Inproj.wide y c s o' j := by
  unfold Cert.Inproj.wide
  rw [funext fun k : Fin 128 => h (j / 128 * 128 + k.val) (by omega)]

/-! ## The blocks -/

variable (m : (ℓ : Loc nD τ sig) → Buf (Elt Ideal) ℓ) (c : Dev nD)

/-- The row of the arrays that is row `a` of point `t`'s blocks. -/
def row (t : Fin cfg0.N) (a : Fin 256) : Fin 16384 := ⟨256 * t.val + a.val, by
  have := lt_of_lt_of_eq t.isLt (show cfg0.N = 64 from N_0); have := a.isLt; omega⟩

theorem coord : ∀ t : Fin cfg0.N, (grid0.coords t 0).val = t.val :=
  (by decide +kernel : ∀ t : Fin grid0.N, (grid0.coords t 0).val = t.val)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = t.val :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 3) = 0 ∧ win0_8.index t (1 : Fin 3) = t.val ∧ win0_8.index t (2 : Fin 3) = 0 :=
  (by decide +kernel : ∀ t : Fin grid0.N, _)
theorem idx9 : ∀ t : Fin cfg0.N, win0_9.index t (0 : Fin 3) = 0 ∧ win0_9.index t (1 : Fin 3) = 0 ∧ win0_9.index t (2 : Fin 3) = t.val :=
  (by decide +kernel : ∀ t : Fin grid0.N, _)
theorem idx10 : ∀ t : Fin cfg0.N, win0_10.index t (0 : Fin 3) = 0 ∧ win0_10.index t (1 : Fin 3) = t.val ∧ win0_10.index t (2 : Fin 3) = 0 :=
  (by decide +kernel : ∀ t : Fin grid0.N, _)
theorem idx11 : ∀ t : Fin cfg0.N, win0_11.index t (0 : Fin 3) = 0 ∧ win0_11.index t (1 : Fin 3) = 0 ∧ win0_11.index t (2 : Fin 3) = t.val :=
  (by decide +kernel : ∀ t : Fin grid0.N, _)
theorem idx12 : ∀ t : Fin cfg0.N, win0_12.index t (0 : Fin 3) = 0 ∧ win0_12.index t (1 : Fin 3) = 0 ∧ win0_12.index t (2 : Fin 3) = t.val :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)
theorem idx17 : ∀ t : Fin cfg0.N, win0_17.index t (0 : Fin 2) = t.val ∧ win0_17.index t (1 : Fin 2) = 0 :=
  (by decide +kernel : ∀ t : Fin grid0.N, _)
theorem idx18 : ∀ t : Fin cfg0.N, win0_18.index t (0 : Fin 2) = t.val ∧ win0_18.index t (1 : Fin 2) = 0 :=
  (by decide +kernel : ∀ t : Fin grid0.N, _)
theorem idx19 : ∀ t : Fin cfg0.N, win0_19.index t (0 : Fin 2) = t.val ∧ win0_19.index t (1 : Fin 2) = 0 :=
  (by decide +kernel : ∀ t : Fin grid0.N, _)

theorem blk0 (t : Fin cfg0.N) (a : Fin 256) (j : Fin 1024) : (iblk m c 0 t : Vec Ideal S256x1024 _) (ix2 a j) = V m c main_v0 (ix2 (row t a) j) := by
  obtain ⟨e0, e1⟩ := idx0 t
  unfold iblk
  rw [View.read_apply]
  exact congrArg (V m c main_v0) (ext2 _ _ (by show win0_0.index t (0 : Fin 2) * 256 + 1 * a.val = 256 * t.val + a.val; rw [e0]; omega) (by show win0_0.index t (1 : Fin 2) * 1024 + 1 * j.val = j.val; rw [e1]; omega))

theorem blk1 (t : Fin cfg0.N) (a : Fin 1) (j : Fin 1024) : (iblk m c 1 t : Vec Ideal S1x1024 _) (ix2 a j) = V m c main_v15 (ix2 a j) := by
  obtain ⟨e0, e1⟩ := idx1 t
  unfold iblk
  rw [View.read_apply]
  exact congrArg (V m c main_v15) (ext2 _ _ (by show win0_1.index t (0 : Fin 2) * 1 + 1 * a.val = a.val; rw [e0]; omega) (by show win0_1.index t (1 : Fin 2) * 1024 + 1 * j.val = j.val; rw [e1]; omega))

theorem blk2 (t : Fin cfg0.N) (a : Fin 1024) (j : Fin 7040) : (iblk m c 2 t : Vec Ideal S1024x7040 _) (ix2 a j) = V m c main_v9 (ix2 a j) := by
  obtain ⟨e0, e1⟩ := idx2 t
  unfold iblk
  rw [View.read_apply]
  exact congrArg (V m c main_v9) (ext2 _ _ (by show win0_2.index t (0 : Fin 2) * 1024 + 1 * a.val = a.val; rw [e0]; omega) (by show win0_2.index t (1 : Fin 2) * 7040 + 1 * j.val = j.val; rw [e1]; omega))

theorem blk3 (t : Fin cfg0.N) (a : Fin 1) (j : Fin 128) : (iblk m c 3 t : Vec Ideal S1x128 _) (ix2 a j) = V m c main_v14 (ix2 a j) := by
  obtain ⟨e0, e1⟩ := idx3 t
  unfold iblk
  rw [View.read_apply]
  exact congrArg (V m c main_v14) (ext2 _ _ (by show win0_3.index t (0 : Fin 2) * 1 + 1 * a.val = a.val; rw [e0]; omega) (by show win0_3.index t (1 : Fin 2) * 128 + 1 * j.val = j.val; rw [e1]; omega))

theorem blk4 (t : Fin cfg0.N) (a : Fin 8) (j : Fin 128) : (iblk m c 4 t : Vec Ideal S8x128 _) (ix2 a j) = V m c main_v35 (ix2 a j) := by
  obtain ⟨e0, e1⟩ := idx4 t
  unfold iblk
  rw [View.read_apply]
  exact congrArg (V m c main_v35) (ext2 _ _ (by show win0_4.index t (0 : Fin 2) * 8 + 1 * a.val = a.val; rw [e0]; omega) (by show win0_4.index t (1 : Fin 2) * 128 + 1 * j.val = j.val; rw [e1]; omega))

theorem emb5 (t : Fin cfg0.N) (j : Fin 512) (a : Fin 256) : ((cfg0.win 5).blk t).view.emb (ix2 j a : S512x256.Idx) = (ix2 j (row t a) : S512x16384.Idx) := by
  obtain ⟨e0, e1⟩ := idx5 t
  exact ext2 _ _ (by show win0_5.index t (0 : Fin 2) * 512 + 1 * j.val = j.val; rw [e0]; omega) (by show win0_5.index t (1 : Fin 2) * 256 + 1 * a.val = 256 * t.val + a.val; rw [e1]; omega)

theorem emb6 (t : Fin cfg0.N) (a : Fin 256) (j : Fin 128) : ((cfg0.win 6).blk t).view.emb (ix2 a j : S256x128.Idx) = (ix2 (row t a) j : S16384x128.Idx) := by
  obtain ⟨e0, e1⟩ := idx6 t
  exact ext2 _ _ (by show win0_6.index t (0 : Fin 2) * 256 + 1 * a.val = 256 * t.val + a.val; rw [e0]; omega) (by show win0_6.index t (1 : Fin 2) * 128 + 1 * j.val = j.val; rw [e1]; omega)

theorem emb7 (t : Fin cfg0.N) (a : Fin 256) (j : Fin 128) : ((cfg0.win 7).blk t).view.emb (ix2 a j : S256x128.Idx) = (ix2 (row t a) j : S16384x128.Idx) := by
  obtain ⟨e0, e1⟩ := idx7 t
  exact ext2 _ _ (by show win0_7.index t (0 : Fin 2) * 256 + 1 * a.val = 256 * t.val + a.val; rw [e0]; omega) (by show win0_7.index t (1 : Fin 2) * 128 + 1 * j.val = j.val; rw [e1]; omega)

theorem emb8 (t : Fin cfg0.N) (p : Fin 2) (a : Fin 256) (l : Fin 128) : ((cfg0.win 8).blk t).view.emb (ix3 p a l : S2x256x128.Idx) = (ix3 p (row t a) l : S2x16384x128.Idx) := by
  obtain ⟨e0, e1, e2⟩ := idx8 t
  exact ext3 _ _ (by show win0_8.index t (0 : Fin 3) * 2 + 1 * p.val = p.val; rw [e0]; omega) (by show win0_8.index t (1 : Fin 3) * 256 + 1 * a.val = 256 * t.val + a.val; rw [e1]; omega)
    (by show win0_8.index t (2 : Fin 3) * 128 + 1 * l.val = l.val; rw [e2]; omega)

theorem emb9 (t : Fin cfg0.N) (p : Fin 2) (r : Fin 80) (a : Fin 256) : ((cfg0.win 9).blk t).view.emb (ix3 p r a : S2x80x256.Idx) = (ix3 p r (row t a) : S2x80x16384.Idx) := by
  obtain ⟨e0, e1, e2⟩ := idx9 t
  exact ext3 _ _ (by show win0_9.index t (0 : Fin 3) * 2 + 1 * p.val = p.val; rw [e0]; omega) (by show win0_9.index t (1 : Fin 3) * 80 + 1 * r.val = r.val; rw [e1]; omega)
    (by show win0_9.index t (2 : Fin 3) * 256 + 1 * a.val = 256 * t.val + a.val; rw [e2]; omega)

theorem emb10 (t : Fin cfg0.N) (p : Fin 2) (a : Fin 256) (l : Fin 128) : ((cfg0.win 10).blk t).view.emb (ix3 p a l : S2x256x128.Idx) = (ix3 p (row t a) l : S2x16384x128.Idx) := by
  obtain ⟨e0, e1, e2⟩ := idx10 t
  exact ext3 _ _ (by show win0_10.index t (0 : Fin 3) * 2 + 1 * p.val = p.val; rw [e0]; omega) (by show win0_10.index t (1 : Fin 3) * 256 + 1 * a.val = 256 * t.val + a.val; rw [e1]; omega)
    (by show win0_10.index t (2 : Fin 3) * 128 + 1 * l.val = l.val; rw [e2]; omega)

theorem emb11 (t : Fin cfg0.N) (p : Fin 2) (r : Fin 80) (a : Fin 256) : ((cfg0.win 11).blk t).view.emb (ix3 p r a : S2x80x256.Idx) = (ix3 p r (row t a) : S2x80x16384.Idx) := by
  obtain ⟨e0, e1, e2⟩ := idx11 t
  exact ext3 _ _ (by show win0_11.index t (0 : Fin 3) * 2 + 1 * p.val = p.val; rw [e0]; omega) (by show win0_11.index t (1 : Fin 3) * 80 + 1 * r.val = r.val; rw [e1]; omega)
    (by show win0_11.index t (2 : Fin 3) * 256 + 1 * a.val = 256 * t.val + a.val; rw [e2]; omega)

theorem emb12 (t : Fin cfg0.N) (p : Fin 2) (r : Fin 16) (a : Fin 256) : ((cfg0.win 12).blk t).view.emb (ix3 p r a : S2x16x256.Idx) = (ix3 p r (row t a) : S2x16x16384.Idx) := by
  obtain ⟨e0, e1, e2⟩ := idx12 t
  exact ext3 _ _ (by show win0_12.index t (0 : Fin 3) * 2 + 1 * p.val = p.val; rw [e0]; omega) (by show win0_12.index t (1 : Fin 3) * 16 + 1 * r.val = r.val; rw [e1]; omega)
    (by show win0_12.index t (2 : Fin 3) * 256 + 1 * a.val = 256 * t.val + a.val; rw [e2]; omega)

theorem emb13 (t : Fin cfg0.N) (a : Fin 256) (j : Fin 512) : ((cfg0.win 13).blk t).view.emb (ix2 a j : S256x512.Idx) = (ix2 (row t a) j : S16384x512.Idx) := by
  obtain ⟨e0, e1⟩ := idx13 t
  exact ext2 _ _ (by show win0_13.index t (0 : Fin 2) * 256 + 1 * a.val = 256 * t.val + a.val; rw [e0]; omega) (by show win0_13.index t (1 : Fin 2) * 512 + 1 * j.val = j.val; rw [e1]; omega)

theorem emb14 (t : Fin cfg0.N) (a : Fin 256) (j : Fin 512) : ((cfg0.win 14).blk t).view.emb (ix2 a j : S256x512.Idx) = (ix2 (row t a) j : S16384x512.Idx) := by
  obtain ⟨e0, e1⟩ := idx14 t
  exact ext2 _ _ (by show win0_14.index t (0 : Fin 2) * 256 + 1 * a.val = 256 * t.val + a.val; rw [e0]; omega) (by show win0_14.index t (1 : Fin 2) * 512 + 1 * j.val = j.val; rw [e1]; omega)

theorem emb15 (t : Fin cfg0.N) (a : Fin 256) (j : Fin 512) : ((cfg0.win 15).blk t).view.emb (ix2 a j : S256x512.Idx) = (ix2 (row t a) j : S16384x512.Idx) := by
  obtain ⟨e0, e1⟩ := idx15 t
  exact ext2 _ _ (by show win0_15.index t (0 : Fin 2) * 256 + 1 * a.val = 256 * t.val + a.val; rw [e0]; omega) (by show win0_15.index t (1 : Fin 2) * 512 + 1 * j.val = j.val; rw [e1]; omega)

theorem emb16 (t : Fin cfg0.N) (a : Fin 256) (j : Fin 1024) : ((cfg0.win 16).blk t).view.emb (ix2 a j : S256x1024.Idx) = (ix2 (row t a) j : S16384x1024.Idx) := by
  obtain ⟨e0, e1⟩ := idx16 t
  exact ext2 _ _ (by show win0_16.index t (0 : Fin 2) * 256 + 1 * a.val = 256 * t.val + a.val; rw [e0]; omega) (by show win0_16.index t (1 : Fin 2) * 1024 + 1 * j.val = j.val; rw [e1]; omega)

theorem emb17 (t : Fin cfg0.N) (a : Fin 256) (j : Fin 1024) : ((cfg0.win 17).blk t).view.emb (ix2 a j : S256x1024.Idx) = (ix2 (row t a) j : S16384x1024.Idx) := by
  obtain ⟨e0, e1⟩ := idx17 t
  exact ext2 _ _ (by show win0_17.index t (0 : Fin 2) * 256 + 1 * a.val = 256 * t.val + a.val; rw [e0]; omega) (by show win0_17.index t (1 : Fin 2) * 1024 + 1 * j.val = j.val; rw [e1]; omega)

theorem emb18 (t : Fin cfg0.N) (a : Fin 256) (j : Fin 1024) : ((cfg0.win 18).blk t).view.emb (ix2 a j : S256x1024.Idx) = (ix2 (row t a) j : S16384x1024.Idx) := by
  obtain ⟨e0, e1⟩ := idx18 t
  exact ext2 _ _ (by show win0_18.index t (0 : Fin 2) * 256 + 1 * a.val = 256 * t.val + a.val; rw [e0]; omega) (by show win0_18.index t (1 : Fin 2) * 1024 + 1 * j.val = j.val; rw [e1]; omega)

theorem emb19 (t : Fin cfg0.N) (a : Fin 256) (j : Fin 1024) : ((cfg0.win 19).blk t).view.emb (ix2 a j : S256x1024.Idx) = (ix2 (row t a) j : S16384x1024.Idx) := by
  obtain ⟨e0, e1⟩ := idx19 t
  exact ext2 _ _ (by show win0_19.index t (0 : Fin 2) * 256 + 1 * a.val = 256 * t.val + a.val; rw [e0]; omega) (by show win0_19.index t (1 : Fin 2) * 1024 + 1 * j.val = j.val; rw [e1]; omega)

/-! ## The results -/

abbrev A0 : S1x16384x1024.Idx → EReal := m ((c : Thread nD τ).loc main_arg0)
abbrev A1 : S1024.Idx → EReal := m ((c : Thread nD τ).loc main_arg1)
abbrev A2 : S1024x6936.Idx → EReal := m ((c : Thread nD τ).loc main_arg2)
abbrev A3 : S24.Idx → EReal := m ((c : Thread nD τ).loc main_arg3)

/-- The product, and the angles of the two rotations. -/
abbrev Yk : Vec Ideal Cert.Reference3Ideal.S16384x6936 .f32 := projV (A0 m c) (A1 m c) (A2 m c)
abbrev cN (n : Fin 16384) (f : Fin 8) : EReal := Ideal.cos (nsaAng (nsaInv : Vec Ideal S8 .f32) (ix2 n f))
abbrev sN (n : Fin 16384) (f : Fin 8) : EReal := Ideal.sin (nsaAng (nsaInv : Vec Ideal S8 .f32) (ix2 n f))
abbrev cR (n : Fin 16384) (f : Fin 64) : EReal := Ideal.cos (retAng (retInv : Vec Ideal S64 .f32) (ix2 n f))
abbrev sR (n : Fin 16384) (f : Fin 64) : EReal := Ideal.sin (retAng (retInv : Vec Ideal S64 .f32) (ix2 n f))

theorem cast_x (x : Vec Ideal S1x16384x1024 .f32) (n : Fin 16384) (j : Fin 1024) : shapeCast S16384x1024 x shapeCasts_S1x16384x1024_S16384x1024 (ix2 n j) = x (ix3 0 n j) := by
  pointwise

theorem cast_g (x : Vec Ideal S1024 .f32) (j : Fin 1024) : shapeCast S1x1024 x shapeCasts_S1024_S1x1024 (ix2 0 j) = x (ix1 j) := by
  pointwise

theorem in0 (t : Fin cfg0.N) (a : Fin 256) (k : Fin 1024) : (iblk m c 0 t : Vec Ideal S256x1024 _) (ix2 a k) = A0 m c (ix3 0 (row t a) k) :=
  (blk0 m c t a k).trans ((congrFun (V_x m c) _).trans (cast_x _ _ k))

theorem in1 (t : Fin cfg0.N) (k : Fin 1024) : (iblk m c 1 t : Vec Ideal S1x1024 _) (ix2 0 k) = A1 m c (ix1 k) :=
  (blk1 m c t 0 k).trans ((congrFun (V_g m c) _).trans (cast_g _ k))

theorem in2 (t : Fin cfg0.N) : (iblk m c 2 t : Vec Ideal S1024x7040 .bf16) = wide7040 (A2 m c) (gcols (A2 m c)) := by
  funext y
  obtain ⟨a, j, rfl⟩ : ∃ (a : Fin 1024) (j : Fin 7040), y = ix2 a j := cell y
  exact (blk2 m c t a j).trans (congrFun (V_w m c) _)

theorem in3 (t : Fin cfg0.N) : (iblk m c 3 t : Vec Ideal S1x128 .f32) = grow (A3 m c) := by
  funext y
  obtain ⟨a, j, rfl⟩ : ∃ (a : Fin 1) (j : Fin 128), y = ix2 a j := cell y
  exact (blk3 m c t a j).trans (congrFun (V_b m c) _)

theorem in4 (t : Fin cfg0.N) : (iblk m c 4 t : Vec Ideal S8x128 .f32) = freqs nsaInv retInv := by
  funext y
  obtain ⟨a, j, rfl⟩ : ∃ (a : Fin 8) (j : Fin 128), y = ix2 a j := cell y
  exact (blk4 m c t a j).trans (congrFun (V_f m c) _)

theorem num_row (t : Fin cfg0.N) (a : Fin 256) : num (grid0.coords t) a = (row t a).val := by
  unfold num
  rw [coord]
  rfl

theorem cosN_eq (t : Fin cfg0.N) (a : Fin 256) : cosN (grid0.coords t) (freqs nsaInv retInv) a = cN (row t a) := by
  funext f
  unfold cosN cosl
  rw [num_row, freqs_narrow]
  exact congrArg Ideal.cos (nsaAng_apply _ _ f).symm

theorem sinN_eq (t : Fin cfg0.N) (a : Fin 256) : sinN (grid0.coords t) (freqs nsaInv retInv) a = sN (row t a) := by
  funext f
  unfold sinN sinl
  rw [num_row, freqs_narrow]
  exact congrArg Ideal.sin (nsaAng_apply _ _ f).symm

theorem cosR_eq (t : Fin cfg0.N) (a : Fin 256) : cosR (grid0.coords t) (freqs nsaInv retInv) a = cR (row t a) := by
  funext f
  unfold cosR cosl
  rw [num_row, freqs_wide]
  exact congrArg Ideal.cos (retAng_apply _ _ f).symm

theorem sinR_eq (t : Fin cfg0.N) (a : Fin 256) : sinR (grid0.coords t) (freqs nsaInv retInv) a = sR (row t a) := by
  funext f
  unfold sinR sinl
  rw [num_row, freqs_wide]
  exact congrArg Ideal.sin (retAng_apply _ _ f).symm

/-- Column `k` of the point's row `a` is the product's, for a column before the gates' and for one after them. -/
theorem low_col (t : Fin cfg0.N) (a : Fin 256) (k : ℕ) (h : k < 1280) : zc (iblk m c 0 t) (iblk m c 1 t) (wide7040 (A2 m c) (gcols (A2 m c))) a k = col (Yk m c) (row t a) k :=
  zc_low _ _ a _ _ _ _ (in0 m c t a) (in1 m c t) k h

theorem high_col (t : Fin cfg0.N) (a : Fin 256) (z k : ℕ) (h : z = k + 104) (hk : 1304 ≤ k) (hk' : k < 6936) : zc (iblk m c 0 t) (iblk m c 1 t) (wide7040 (A2 m c) (gcols (A2 m c))) a z = col (Yk m c) (row t a) k :=
  zc_high _ _ a _ _ _ _ (in0 m c t a) (in1 m c t) z k h hk hk'

theorem split_row (n : Fin 16384) : ∃ t a, n = row t a :=
  ⟨⟨n.val / 256, lt_of_lt_of_eq (by have := n.isLt; omega) N_0.symm⟩, ⟨n.val % 256, Nat.mod_lt _ (by decide)⟩, Fin.ext (by show n.val = 256 * (n.val / 256) + n.val % 256; omega)⟩

theorem result5 (n : Fin 16384) (j : Fin 512) : (dats m 0 c).arrAt 5 cfg0.N (ix2 j n) = Cert.Inproj.heads (col (Yk m c) n) (cN n) (sN n) 0 j.val * Ideal.ofBits .f32 0x3E000000#32 := by
  obtain ⟨t, a, rfl⟩ := split_row n
  have b := congrFun (blocks5 m c t (flush0_5 t)) (ix2 j a : S512x256.Idx)
  rw [flushed5] at b
  have b' : (dats m 0 c).arrAt 5 cfg0.N (((cfg0.win 5).blk t).view.emb (ix2 j a : S512x256.Idx)) = out0_5 (grid0.coords t) (iblk m c 0 t) (iblk m c 1 t) (iblk m c 2 t) (iblk m c 3 t) (iblk m c 4 t) (ix2 j a) := b
  rw [emb5, out5, in2, in4, cosN_eq, sinN_eq] at b'
  exact b'.trans (congrArg (fun u : EReal => u * Ideal.ofBits .f32 0x3E000000#32) (heads_congr _ _ _ _ 0 0 j.val 512 j.isLt (by decide) fun k hk => low_col m c t a _ (by omega)))

theorem result6 (n : Fin 16384) (j : Fin 128) : (dats m 0 c).arrAt 6 cfg0.N (ix2 n j) = Cert.Inproj.heads (col (Yk m c) n) (cN n) (sN n) 512 j.val := by
  obtain ⟨t, a, rfl⟩ := split_row n
  have b := congrFun (blocks6 m c t (flush0_6 t)) (ix2 a j : S256x128.Idx)
  rw [flushed6] at b
  have b' : (dats m 0 c).arrAt 6 cfg0.N (((cfg0.win 6).blk t).view.emb (ix2 a j : S256x128.Idx)) = out0_6 (grid0.coords t) (iblk m c 0 t) (iblk m c 1 t) (iblk m c 2 t) (iblk m c 3 t) (iblk m c 4 t) (ix2 a j) := b
  rw [emb6, out6, in2, in4, cosN_eq, sinN_eq] at b'
  exact b'.trans (heads_congr _ _ _ _ 512 512 j.val 128 j.isLt (by decide) fun k hk => low_col m c t a _ (by omega))

theorem result7 (n : Fin 16384) (j : Fin 128) : (dats m 0 c).arrAt 7 cfg0.N (ix2 n j) = col (Yk m c) n (640 + j.val) := by
  obtain ⟨t, a, rfl⟩ := split_row n
  have b := congrFun (blocks7 m c t (flush0_7 t)) (ix2 a j : S256x128.Idx)
  rw [flushed7] at b
  have b' : (dats m 0 c).arrAt 7 cfg0.N (((cfg0.win 7).blk t).view.emb (ix2 a j : S256x128.Idx)) = out0_7 (grid0.coords t) (iblk m c 0 t) (iblk m c 1 t) (iblk m c 2 t) (iblk m c 3 t) (iblk m c 4 t) (ix2 a j) := b
  rw [emb7, out7, in2] at b'
  exact b'.trans (low_col m c t a _ (by omega))

theorem key_congr (z y : ℕ → EReal) (c s : Fin 8 → EReal) (o : ℕ) (p : Fin 2) (l : Fin 128) (f : ℕ → EReal) (h : ∀ k, k < 128 → z (o + k) = y (o + k)) :
    Cert.Inproj.key z c s o p.val l.val f = Cert.Inproj.key y c s o p.val l.val f := by
  unfold Cert.Inproj.key
  by_cases e : l.val < 64
  · rw [if_pos e, if_pos e, heads_congr z y c s o o _ 128 (by omega) (by decide) h]
  · rw [if_neg e, if_neg e]

theorem value_congr (z y : ℕ → EReal) (o : ℕ) (p : Fin 2) (r : Fin 80) (h : ∀ k, k < 128 → z (o + k) = y (o + k)) :
    Cert.Inproj.value z o p.val r.val = Cert.Inproj.value y o p.val r.val := by
  unfold Cert.Inproj.value
  by_cases e : r.val < 64
  · rw [if_pos e, if_pos e, h _ (by omega)]
  · rw [if_neg e, if_neg e]

theorem result8 (p : Fin 2) (n : Fin 16384) (l : Fin 128) : (dats m 0 c).arrAt 8 cfg0.N (ix3 p n l) = Cert.Inproj.key (col (Yk m c) n) (cN n) (sN n) 768 p.val l.val (Cert.Inproj.block n.val) := by
  obtain ⟨t, a, rfl⟩ := split_row n
  have b := congrFun (blocks8 m c t (flush0_8 t)) (ix3 p a l : S2x256x128.Idx)
  rw [flushed8] at b
  have b' : (dats m 0 c).arrAt 8 cfg0.N (((cfg0.win 8).blk t).view.emb (ix3 p a l : S2x256x128.Idx)) = out0_8 (grid0.coords t) (iblk m c 0 t) (iblk m c 1 t) (iblk m c 2 t) (iblk m c 3 t) (iblk m c 4 t) (ix3 p a l) := b
  rw [emb8, out8, in2, in4, cosN_eq, sinN_eq, num_row] at b'
  exact b'.trans (key_congr _ _ _ _ 768 p l _ fun k hk => low_col m c t a _ (by omega))

theorem result9 (p : Fin 2) (r : Fin 80) (n : Fin 16384) : (dats m 0 c).arrAt 9 cfg0.N (ix3 p r n) = Cert.Inproj.value (col (Yk m c) n) 896 p.val r.val := by
  obtain ⟨t, a, rfl⟩ := split_row n
  have b := congrFun (blocks9 m c t (flush0_9 t)) (ix3 p r a : S2x80x256.Idx)
  rw [flushed9] at b
  have b' : (dats m 0 c).arrAt 9 cfg0.N (((cfg0.win 9).blk t).view.emb (ix3 p r a : S2x80x256.Idx)) = out0_9 (grid0.coords t) (iblk m c 0 t) (iblk m c 1 t) (iblk m c 2 t) (iblk m c 3 t) (iblk m c 4 t) (ix3 p r a) := b
  rw [emb9, out9, in2] at b'
  exact b'.trans (value_congr _ _ 896 p r fun k hk => low_col m c t a _ (by omega))

theorem result10 (p : Fin 2) (n : Fin 16384) (l : Fin 128) : (dats m 0 c).arrAt 10 cfg0.N (ix3 p n l) = Cert.Inproj.key (col (Yk m c) n) (cN n) (sN n) 1024 p.val l.val (fun _ => 0) := by
  obtain ⟨t, a, rfl⟩ := split_row n
  have b := congrFun (blocks10 m c t (flush0_10 t)) (ix3 p a l : S2x256x128.Idx)
  rw [flushed10] at b
  have b' : (dats m 0 c).arrAt 10 cfg0.N (((cfg0.win 10).blk t).view.emb (ix3 p a l : S2x256x128.Idx)) = out0_10 (grid0.coords t) (iblk m c 0 t) (iblk m c 1 t) (iblk m c 2 t) (iblk m c 3 t) (iblk m c 4 t) (ix3 p a l) := b
  rw [emb10, out10, in2, in4, cosN_eq, sinN_eq] at b'
  exact b'.trans (key_congr _ _ _ _ 1024 p l _ fun k hk => low_col m c t a _ (by omega))

theorem result11 (p : Fin 2) (r : Fin 80) (n : Fin 16384) : (dats m 0 c).arrAt 11 cfg0.N (ix3 p r n) = Cert.Inproj.value (col (Yk m c) n) 1152 p.val r.val := by
  obtain ⟨t, a, rfl⟩ := split_row n
  have b := congrFun (blocks11 m c t (flush0_11 t)) (ix3 p r a : S2x80x256.Idx)
  rw [flushed11] at b
  have b' : (dats m 0 c).arrAt 11 cfg0.N (((cfg0.win 11).blk t).view.emb (ix3 p r a : S2x80x256.Idx)) = out0_11 (grid0.coords t) (iblk m c 0 t) (iblk m c 1 t) (iblk m c 2 t) (iblk m c 3 t) (iblk m c 4 t) (ix3 p r a) := b
  rw [emb11, out11, in2] at b'
  exact b'.trans (value_congr _ _ 1152 p r fun k hk => low_col m c t a _ (by omega))

theorem result12 (p : Fin 2) (r : Fin 16) (n : Fin 16384) : (dats m 0 c).arrAt 12 cfg0.N (ix3 p r n) = Cert.Inproj.gate (col (Yk m c) n) (bcol (A3 m c)) p.val r.val := by
  obtain ⟨t, a, rfl⟩ := split_row n
  have b := congrFun (blocks12 m c t (flush0_12 t)) (ix3 p r a : S2x16x256.Idx)
  rw [flushed12] at b
  have b' : (dats m 0 c).arrAt 12 cfg0.N (((cfg0.win 12).blk t).view.emb (ix3 p r a : S2x16x256.Idx)) = out0_12 (grid0.coords t) (iblk m c 0 t) (iblk m c 1 t) (iblk m c 2 t) (iblk m c 3 t) (iblk m c 4 t) (ix3 p r a) := b
  rw [emb12, out12, in2, in3] at b'
  exact b'.trans (congrArg Ideal.logistic (zc_gate _ _ a _ _ _ _ (in0 m c t a) (in1 m c t) (A3 m c) p r))

theorem result13 (n : Fin 16384) (j : Fin 512) : (dats m 0 c).arrAt 13 cfg0.N (ix2 n j) = Cert.Inproj.silu (col (Yk m c) n (1304 + j.val)) := by
  obtain ⟨t, a, rfl⟩ := split_row n
  have b := congrFun (blocks13 m c t (flush0_13 t)) (ix2 a j : S256x512.Idx)
  rw [flushed13] at b
  have b' : (dats m 0 c).arrAt 13 cfg0.N (((cfg0.win 13).blk t).view.emb (ix2 a j : S256x512.Idx)) = out0_13 (grid0.coords t) (iblk m c 0 t) (iblk m c 1 t) (iblk m c 2 t) (iblk m c 3 t) (iblk m c 4 t) (ix2 a j) := b
  rw [emb13, out13, in2] at b'
  exact b'.trans (congrArg Cert.Inproj.silu (high_col m c t a _ _ (by omega) (by omega) (by omega)))

theorem result14 (n : Fin 16384) (j : Fin 512) : (dats m 0 c).arrAt 14 cfg0.N (ix2 n j) = Cert.Inproj.wide (col (Yk m c) n) (cR n) (sR n) 1816 j.val := by
  obtain ⟨t, a, rfl⟩ := split_row n
  have b := congrFun (blocks14 m c t (flush0_14 t)) (ix2 a j : S256x512.Idx)
  rw [flushed14] at b
  have b' : (dats m 0 c).arrAt 14 cfg0.N (((cfg0.win 14).blk t).view.emb (ix2 a j : S256x512.Idx)) = out0_14 (grid0.coords t) (iblk m c 0 t) (iblk m c 1 t) (iblk m c 2 t) (iblk m c 3 t) (iblk m c 4 t) (ix2 a j) := b
  rw [emb14, out14, in2, in4, cosR_eq, sinR_eq] at b'
  exact b'.trans (wide_congr _ _ _ _ 1920 1816 j.val 512 j.isLt (by decide) fun k hk => high_col m c t a _ _ (by omega) (by omega) (by omega))

theorem result15 (n : Fin 16384) (j : Fin 512) : (dats m 0 c).arrAt 15 cfg0.N (ix2 n j) = Cert.Inproj.wide (col (Yk m c) n) (cR n) (sR n) 2328 j.val * Ideal.ofBits .f32 0x3DB504F3#32 := by
  obtain ⟨t, a, rfl⟩ := split_row n
  have b := congrFun (blocks15 m c t (flush0_15 t)) (ix2 a j : S256x512.Idx)
  rw [flushed15] at b
  have b' : (dats m 0 c).arrAt 15 cfg0.N (((cfg0.win 15).blk t).view.emb (ix2 a j : S256x512.Idx)) = out0_15 (grid0.coords t) (iblk m c 0 t) (iblk m c 1 t) (iblk m c 2 t) (iblk m c 3 t) (iblk m c 4 t) (ix2 a j) := b
  rw [emb15, out15, in2, in4, cosR_eq, sinR_eq] at b'
  exact b'.trans (congrArg (fun u : EReal => u * Ideal.ofBits .f32 0x3DB504F3#32) (wide_congr _ _ _ _ 2432 2328 j.val 512 j.isLt (by decide) fun k hk => high_col m c t a _ _ (by omega) (by omega) (by omega)))

theorem result16 (n : Fin 16384) (j : Fin 1024) : (dats m 0 c).arrAt 16 cfg0.N (ix2 n j) = col (Yk m c) n (2840 + j.val) := by
  obtain ⟨t, a, rfl⟩ := split_row n
  have b := congrFun (blocks16 m c t (flush0_16 t)) (ix2 a j : S256x1024.Idx)
  rw [flushed16] at b
  have b' : (dats m 0 c).arrAt 16 cfg0.N (((cfg0.win 16).blk t).view.emb (ix2 a j : S256x1024.Idx)) = out0_16 (grid0.coords t) (iblk m c 0 t) (iblk m c 1 t) (iblk m c 2 t) (iblk m c 3 t) (iblk m c 4 t) (ix2 a j) := b
  rw [emb16, out16, in2] at b'
  exact b'.trans (high_col m c t a _ _ (by omega) (by omega) (by omega))

theorem result17 (n : Fin 16384) (j : Fin 1024) : (dats m 0 c).arrAt 17 cfg0.N (ix2 n j) = Cert.Inproj.silu (col (Yk m c) n (3864 + j.val)) := by
  obtain ⟨t, a, rfl⟩ := split_row n
  have b := congrFun (blocks17 m c t (flush0_17 t)) (ix2 a j : S256x1024.Idx)
  rw [flushed17] at b
  have b' : (dats m 0 c).arrAt 17 cfg0.N (((cfg0.win 17).blk t).view.emb (ix2 a j : S256x1024.Idx)) = out0_17 (grid0.coords t) (iblk m c 0 t) (iblk m c 1 t) (iblk m c 2 t) (iblk m c 3 t) (iblk m c 4 t) (ix2 a j) := b
  rw [emb17, out17, in2] at b'
  exact b'.trans (congrArg Cert.Inproj.silu (high_col m c t a _ _ (by omega) (by omega) (by omega)))

theorem result18 (n : Fin 16384) (j : Fin 1024) : (dats m 0 c).arrAt 18 cfg0.N (ix2 n j) = Ideal.logistic (col (Yk m c) n (4888 + j.val)) := by
  obtain ⟨t, a, rfl⟩ := split_row n
  have b := congrFun (blocks18 m c t (flush0_18 t)) (ix2 a j : S256x1024.Idx)
  rw [flushed18] at b
  have b' : (dats m 0 c).arrAt 18 cfg0.N (((cfg0.win 18).blk t).view.emb (ix2 a j : S256x1024.Idx)) = out0_18 (grid0.coords t) (iblk m c 0 t) (iblk m c 1 t) (iblk m c 2 t) (iblk m c 3 t) (iblk m c 4 t) (ix2 a j) := b
  rw [emb18, out18, in2] at b'
  exact b'.trans (congrArg Ideal.logistic (high_col m c t a _ _ (by omega) (by omega) (by omega)))

theorem result19 (n : Fin 16384) (j : Fin 1024) : (dats m 0 c).arrAt 19 cfg0.N (ix2 n j) = Ideal.logistic (col (Yk m c) n (5912 + j.val)) := by
  obtain ⟨t, a, rfl⟩ := split_row n
  have b := congrFun (blocks19 m c t (flush0_19 t)) (ix2 a j : S256x1024.Idx)
  rw [flushed19] at b
  have b' : (dats m 0 c).arrAt 19 cfg0.N (((cfg0.win 19).blk t).view.emb (ix2 a j : S256x1024.Idx)) = out0_19 (grid0.coords t) (iblk m c 0 t) (iblk m c 1 t) (iblk m c 2 t) (iblk m c 3 t) (iblk m c 4 t) (ix2 a j) := b
  rw [emb19, out19, in2] at b'
  exact b'.trans (congrArg Ideal.logistic (high_col m c t a _ _ (by omega) (by omega) (by omega)))

end Cert.Kernel3Ideal.Inproj

end
-- ==== Proof.InprojFrames.lean ====
/- The input projection's runs leave its arguments as they were and its semaphores at zero. -/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import Idealize.ShloMosaic.Lib.Quiescent

@[expose] public section

set_option maxRecDepth 16384

noncomputable section

namespace Cert.Inproj

open Idealize.ShloMosaic Idealize.ShloMosaic.TcCoe Idealize.ShloMosaic.Tactic Idealize.SL.Sem

theorem frame_kernel : Cert.quiescent_Kernel3 (hKernel3 := Cert.Kernel3.Gen.facts) := fun m g _ => Cert.Kernel3.Gen.frame m g
theorem frame_kernelIdeal : Cert.quiescent_Kernel3Ideal (hKernel3Ideal := Cert.Kernel3Ideal.Gen.facts) := fun m g _ => Cert.Kernel3Ideal.Gen.frame m g
theorem frame_reference : Cert.quiescent_Reference3Ideal (hReference3Ideal := Cert.Reference3Ideal.Gen.facts) := fun m g _ =>
  (θ_run _ _ _).mono (fun r h => ⟨fun c => (h c).2.2.2.2.2.2.2.2.2.2.2.2.2.2.2, sem_eq_zero_of_no_sems (by decide) r.2⟩) (Cert.Reference3Ideal.Value.run m g)

end Cert.Inproj

end
-- ==== Proof.InprojClaims.lean ====
/- The claim that the in-projection's call computes the reference's fifteen results. -/
module

public import proofs.«01_k».proof.Defs
public import proofs.«01_k».proof.Proof.InprojKernel
public import proofs.«01_k».proof.Proof.InprojFrames

@[expose] public section

set_option maxRecDepth 16384

noncomputable section

namespace Cert.Inproj

open Idealize.ShloMosaic Idealize.ShloMosaic.TcCoe Idealize.ShloMosaic.Tactic Idealize.SL.Sem
open Cert.Index
open Cert.Kernel3Ideal.Inproj (Yk A3 result5 result6 result7 result8 result9 result10 result11 result12 result13 result14 result15 result16 result17 result18 result19)
open Cert.Reference3Ideal.Inproj (q kc keys vals gates qr kr low sgm hot none64 QA RA col col_eq q_apply kc_apply keys_apply vals_apply gates_apply qr_apply kr_apply silu_apply sgm_apply hot_apply none64_apply)
open Cert.Reference3Ideal (S16384x6936 S16384x128 S16384x512 S16384x1024)

/-- Columns taken out of the product, from column `o` on. -/
abbrev cut (w o : ℕ) (h : S16384x6936.Slices ![0, o] ⟨2, ![16384, w]⟩) (Y : Vec Ideal S16384x6936 .f32) : Vec Ideal ⟨2, ![16384, w]⟩ .f32 :=
  extractStridedSlice ⟨2, ![16384, w]⟩ ![0, o] Y h

theorem cut_col (w o : ℕ) (h : S16384x6936.Slices ![0, o] ⟨2, ![16384, w]⟩) (ho : o + w ≤ 6936) (Y : Vec Ideal S16384x6936 .f32) (n : Fin 16384) (j : Fin w) :
    cut w o h Y (ix2 n j) = col Y n (o + j.val) := by
  refine Eq.trans ?_ (col_eq Y n (o + j.val) (by omega))
  exact congrArg Y (ext2 _ _ (Nat.zero_add _) rfl)

/-- Two arrays agreeing at every row and column are one. -/
theorem same2 {n k : ℕ} {α : Type} (x y : (⟨2, ![n, k]⟩ : Shape).Idx → α) (h : ∀ (a : Fin n) (b : Fin k), x (ix2 a b) = y (ix2 a b)) : x = y := by
  funext i
  have hi : i = ix2 (i 0) (i 1) := ext2 _ _ rfl rfl
  rw [hi]
  exact h (i 0) (i 1)

theorem same3 {n k l : ℕ} {α : Type} (x y : (⟨3, ![n, k, l]⟩ : Shape).Idx → α) (h : ∀ (a : Fin n) (b : Fin k) (d : Fin l), x (ix3 a b d) = y (ix3 a b d)) : x = y := by
  funext i
  have hi : i = ix3 (i 0) (i 1) (i 2) := ext3 _ _ rfl rfl rfl
  rw [hi]
  exact h (i 0) (i 1) (i 2)

section Results

variable (m : (ℓ : Loc Cert.Kernel3Ideal.nD Cert.Kernel3Ideal.τ Cert.Kernel3Ideal.sig) → Buf (Elt Ideal) ℓ) (c : Dev Cert.Kernel3Ideal.nD)

/-- A result of the call, window `w`'s array after the last step. -/
abbrev final (w : Fin 20) := (Cert.Kernel3Ideal.Gen.dats m 0 c).arrAt w Cert.Kernel3Ideal.cfg0.N

theorem swish (v : Vec Ideal S16384x1024 .f32) (n : Fin 16384) (j : Fin 1024) : low (mulf v (sgm v)) (ix2 n j) = silu (v (ix2 n j)) :=
  congrArg (v (ix2 n j) * ·) (sgm_apply v n j)

theorem eq5 : q (Yk m c) QA = final m c 5 :=
  same2 _ _ fun j n => (q_apply _ _ n j).trans (result5 m c n j).symm

theorem eq6 (h : S16384x6936.Slices ![0, 512] ⟨2, ![16384, 128]⟩) : kc (cut 128 512 h (Yk m c)) QA = final m c 6 :=
  same2 _ _ fun n j => (kc_apply _ _ _ 512 n (cut_col 128 512 h (by decide) (Yk m c) n) j).trans (result6 m c n j).symm

theorem eq7 (h : S16384x6936.Slices ![0, 640] ⟨2, ![16384, 128]⟩) : (cut 128 640 h (Yk m c)) = final m c 7 :=
  same2 _ _ fun n j => ((cut_col 128 640 h (by decide) (Yk m c) n) j).trans (result7 m c n j).symm

theorem eq8 (h : S16384x6936.Slices ![0, 768] ⟨2, ![16384, 128]⟩) : keys (cut 128 768 h (Yk m c)) QA hot = final m c 8 :=
  same3 _ _ fun p n l => (keys_apply _ _ _ _ (block n.val) 768 n (cut_col 128 768 h (by decide) (Yk m c) n) (hot_apply n) p l).trans (result8 m c p n l).symm

theorem eq9 (h : S16384x6936.Slices ![0, 896] ⟨2, ![16384, 128]⟩) : vals (cut 128 896 h (Yk m c)) = final m c 9 :=
  same3 _ _ fun p r n => (vals_apply _ _ 896 n (cut_col 128 896 h (by decide) (Yk m c) n) p r).trans (result9 m c p r n).symm

theorem eq10 (h : S16384x6936.Slices ![0, 1024] ⟨2, ![16384, 128]⟩) : keys (cut 128 1024 h (Yk m c)) QA none64 = final m c 10 :=
  same3 _ _ fun p n l => (keys_apply _ _ _ _ (fun _ => 0) 1024 n (cut_col 128 1024 h (by decide) (Yk m c) n) (none64_apply n) p l).trans (result10 m c p n l).symm

theorem eq11 (h : S16384x6936.Slices ![0, 1152] ⟨2, ![16384, 128]⟩) : vals (cut 128 1152 h (Yk m c)) = final m c 11 :=
  same3 _ _ fun p r n => (vals_apply _ _ 1152 n (cut_col 128 1152 h (by decide) (Yk m c) n) p r).trans (result11 m c p r n).symm

theorem eq12 : gates (Yk m c) (A3 m c) = final m c 12 :=
  same3 _ _ fun p r n => (gates_apply _ _ p r n).trans (result12 m c p r n).symm

theorem eq13 (h : S16384x6936.Slices ![0, 1304] ⟨2, ![16384, 512]⟩) : Cert.Reference3Ideal.Inproj.silu (cut 512 1304 h (Yk m c)) = final m c 13 :=
  same2 _ _ fun n j => ((silu_apply _ n j).trans (congrArg silu ((cut_col 512 1304 h (by decide) (Yk m c) n) j))).trans (result13 m c n j).symm

theorem eq14 (h : S16384x6936.Slices ![0, 1816] ⟨2, ![16384, 512]⟩) : qr (cut 512 1816 h (Yk m c)) RA = final m c 14 :=
  same2 _ _ fun n j => (qr_apply _ _ _ 1816 n (cut_col 512 1816 h (by decide) (Yk m c) n) j).trans (result14 m c n j).symm

theorem eq15 (h : S16384x6936.Slices ![0, 2328] ⟨2, ![16384, 512]⟩) : kr (cut 512 2328 h (Yk m c)) RA = final m c 15 :=
  same2 _ _ fun n j => (kr_apply _ _ _ 2328 n (cut_col 512 2328 h (by decide) (Yk m c) n) j).trans (result15 m c n j).symm

theorem eq16 (h : S16384x6936.Slices ![0, 2840] ⟨2, ![16384, 1024]⟩) : low (cut 1024 2840 h (Yk m c)) = final m c 16 :=
  same2 _ _ fun n j => ((cut_col 1024 2840 h (by decide) (Yk m c) n) j).trans (result16 m c n j).symm

theorem eq17 (h : S16384x6936.Slices ![0, 3864] ⟨2, ![16384, 1024]⟩) : low (mulf (cut 1024 3864 h (Yk m c)) (sgm (cut 1024 3864 h (Yk m c)))) = final m c 17 :=
  same2 _ _ fun n j => ((swish _ n j).trans (congrArg silu ((cut_col 1024 3864 h (by decide) (Yk m c) n) j))).trans (result17 m c n j).symm

theorem eq18 (h : S16384x6936.Slices ![0, 4888] ⟨2, ![16384, 1024]⟩) : low (sgm (cut 1024 4888 h (Yk m c))) = final m c 18 :=
  same2 _ _ fun n j => ((sgm_apply _ n j).trans (congrArg Ideal.logistic ((cut_col 1024 4888 h (by decide) (Yk m c) n) j))).trans (result18 m c n j).symm

theorem eq19 (h : S16384x6936.Slices ![0, 5912] ⟨2, ![16384, 1024]⟩) : low (sgm (cut 1024 5912 h (Yk m c))) = final m c 19 :=
  same2 _ _ fun n j => ((sgm_apply _ n j).trans (congrArg Ideal.logistic ((cut_col 1024 5912 h (by decide) (Yk m c) n) j))).trans (result19 m c n j).symm

end Results

set_option maxHeartbeats 4000000 in
theorem equal : Cert.algebraic_Kernel3Ideal_Reference3Ideal (hKernel3Ideal := Cert.Kernel3Ideal.Gen.facts) (hReference3Ideal := Cert.Reference3Ideal.Gen.facts) := by
  intro m g m' g' _ hargs
  refine ⟨fun c => final m c 5, fun c => final m c 6, fun c => final m c 7, fun c => final m c 8, fun c => final m c 9, fun c => final m c 10, fun c => final m c 11, fun c => final m c 12, fun c => final m c 13, fun c => final m c 14, fun c => final m c 15, fun c => final m c 16, fun c => final m c 17, fun c => final m c 18, fun c => final m c 19,
    Cert.Kernel3Ideal.Value.run_blocks m g, ?_⟩
  refine (θ_run _ _ _).mono (fun r h c => ?_) (Cert.Reference3Ideal.Inproj.run m' g')
  obtain ⟨e0, e1, e2, e3⟩ := hargs c
  have hy : Cert.Reference3Ideal.Inproj.Y m' c = Yk m c := by
    unfold Cert.Reference3Ideal.Inproj.Y Cert.Reference3Ideal.Inproj.A0 Cert.Reference3Ideal.Inproj.A1 Cert.Reference3Ideal.Inproj.A2
    rw [e0, e1, e2]
  obtain ⟨h5, h6, h7, h8, h9, h10, h11, h12, h13, h14, h15, h16, h17, h18, h19, hrest⟩ := h c
  refine ⟨h5.trans ((congrArg (fun Y : Vec Ideal S16384x6936 .f32 => q Y QA) hy).trans (eq5 m c)),
    h6.trans ((congrArg (fun Y : Vec Ideal S16384x6936 .f32 => kc (cut 128 512 Cert.Reference3Ideal.Gen.slices_S16384x6936_S16384x128_0_512 Y) QA) hy).trans (eq6 m c _)),
    h7.trans ((congrArg (fun Y : Vec Ideal S16384x6936 .f32 => (cut 128 640 Cert.Reference3Ideal.Gen.slices_S16384x6936_S16384x128_0_640 Y)) hy).trans (eq7 m c _)),
    h8.trans ((congrArg (fun Y : Vec Ideal S16384x6936 .f32 => keys (cut 128 768 Cert.Reference3Ideal.Gen.slices_S16384x6936_S16384x128_0_768 Y) QA hot) hy).trans (eq8 m c _)),
    h9.trans ((congrArg (fun Y : Vec Ideal S16384x6936 .f32 => vals (cut 128 896 Cert.Reference3Ideal.Gen.slices_S16384x6936_S16384x128_0_896 Y)) hy).trans (eq9 m c _)),
    h10.trans ((congrArg (fun Y : Vec Ideal S16384x6936 .f32 => keys (cut 128 1024 Cert.Reference3Ideal.Gen.slices_S16384x6936_S16384x128_0_1024 Y) QA none64) hy).trans (eq10 m c _)),
    h11.trans ((congrArg (fun Y : Vec Ideal S16384x6936 .f32 => vals (cut 128 1152 Cert.Reference3Ideal.Gen.slices_S16384x6936_S16384x128_0_1152 Y)) hy).trans (eq11 m c _)),
    h12.trans ((congrArg₂ gates hy e3).trans (eq12 m c)),
    h13.trans ((congrArg (fun Y : Vec Ideal S16384x6936 .f32 => Cert.Reference3Ideal.Inproj.silu (cut 512 1304 Cert.Reference3Ideal.Gen.slices_S16384x6936_S16384x512_0_1304 Y)) hy).trans (eq13 m c _)),
    h14.trans ((congrArg (fun Y : Vec Ideal S16384x6936 .f32 => qr (cut 512 1816 Cert.Reference3Ideal.Gen.slices_S16384x6936_S16384x512_0_1816 Y) RA) hy).trans (eq14 m c _)),
    h15.trans ((congrArg (fun Y : Vec Ideal S16384x6936 .f32 => kr (cut 512 2328 Cert.Reference3Ideal.Gen.slices_S16384x6936_S16384x512_0_2328 Y) RA) hy).trans (eq15 m c _)),
    h16.trans ((congrArg (fun Y : Vec Ideal S16384x6936 .f32 => low (cut 1024 2840 Cert.Reference3Ideal.Gen.slices_S16384x6936_S16384x1024_0_2840 Y)) hy).trans (eq16 m c _)),
    h17.trans ((congrArg (fun Y : Vec Ideal S16384x6936 .f32 => low (mulf (cut 1024 3864 Cert.Reference3Ideal.Gen.slices_S16384x6936_S16384x1024_0_3864 Y) (sgm (cut 1024 3864 Cert.Reference3Ideal.Gen.slices_S16384x6936_S16384x1024_0_3864 Y)))) hy).trans (eq17 m c _)),
    h18.trans ((congrArg (fun Y : Vec Ideal S16384x6936 .f32 => low (sgm (cut 1024 4888 Cert.Reference3Ideal.Gen.slices_S16384x6936_S16384x1024_0_4888 Y))) hy).trans (eq18 m c _)),
    h19.trans ((congrArg (fun Y : Vec Ideal S16384x6936 .f32 => low (sgm (cut 1024 5912 Cert.Reference3Ideal.Gen.slices_S16384x6936_S16384x1024_0_5912 Y))) hy).trans (eq19 m c _)),
    hrest⟩

end Cert.Inproj

end
-- ==== Proof.CmpBody.lean ====
/- What the compression's body leaves at one grid point, as one formula of the four blocks it reads. -/
module

public import proofs.«01_k».proof.Proof.Gen.Kernel4Ideal.Value
public import Idealize.ShloMosaic.Lib.Pipeline.ReadBack
public import Idealize.ShloMosaic.Lib.Pointwise

@[expose] public section

set_option maxRecDepth 16384

noncomputable section

namespace Cert.Kernel4Ideal.Cmp

open Idealize.ShloMosaic Idealize.ShloMosaic.TcCoe Idealize.ShloMosaic.Tactic Idealize.SL.Sem
open Cert.Kernel4Ideal Cert.Kernel4Ideal.Gen

section
variable {F : FTy → Type} [FloatOps F]

/-- The load through a box with steps, of a buffer read as `X`. -/
abbrev lds {S : Shape} {e : EltTy} (X : S.Idx → Elt F e) (r : LoadRect S) : r.shape.Idx → Elt F e := fun x => X (r.idx x)

theorem readAt_eq_lds {sig : RefSig} {κ : Kind} {sp : Space} {s : Shape} {e : EltTy} (v : View sig κ sp s e) (f : v.ty.Contents (Elt F)) (r : LoadRect s) :
    v.readAt (Elt F) r f = lds (v.read (Elt F) f) r := rfl

theorem inb_tok (u : Fin 16) : ∀ a : Fin 2, S1024x128.size a = 0 ∨ (![u.val, 0] : Fin 2 → ℕ) a + (![16, 1] : Fin 2 → ℕ) a * (S1024x128.size a - 1) < S16384x128.size a := by
  have := u.isLt
  intro a
  match a with
  | ⟨0, _⟩ => right; show u.val + 16 * (1024 - 1) < 16384; omega
  | ⟨1, _⟩ => right; show 0 + 1 * (128 - 1) < 128; omega

/-- Every sixteenth row from row `u` on. -/
abbrev rT (u : Fin 16) : LoadRect S16384x128 := ⟨![u.val, 0], S1024x128.size, ![16, 1], inb_tok u⟩

/-- The group's half of the rows `a` beside its half of the rows `b`. -/
def pair (g : BitVec 32) (x0 : Vec F S16384x128 .f32) (u w : Fin 16) : Vec F S1024x128 .f32 := k0_pay6 g k0_pay2 (lds x0 (rT u)) (lds x0 (rT w))

/-- A row for each stretch of sixteen: the group's halves of its sixteen rows side by side. -/
def xg (g : BitVec 32) (x0 : Vec F S16384x128 .f32) : FVec F S1024x1024 .f32 :=
  concatenate S1024x1024 1 [⟨S1024x128, pair g x0 0 1⟩, ⟨S1024x128, pair g x0 2 3⟩, ⟨S1024x128, pair g x0 4 5⟩, ⟨S1024x128, pair g x0 6 7⟩,
    ⟨S1024x128, pair g x0 8 9⟩, ⟨S1024x128, pair g x0 10 11⟩, ⟨S1024x128, pair g x0 12 13⟩, ⟨S1024x128, pair g x0 14 15⟩]
    concatenates_S1024x128_S1024x128_S1024x128_S1024x128_S1024x128_S1024x128_S1024x128_S1024x128_S1024x1024_d1

/-- The product in three parts: of the rounded factors, and of each factor's rest with the other rounded. -/
def prod1 (a : FVec F S1024x1024 .f32) (b : Vec F S1024x256 .f32) : FVec F S1024x256 .f32 :=
  addf (addf (matmul dot_S1024x1024_S1024x256_S1024x256_1_0_0_1_n_n none (truncf .bf16 a bitsLt_bf16_f32) (truncf .bf16 b bitsLt_bf16_f32) (constant S1024x256 .f32 0x00000000#32))
    (matmul dot_S1024x1024_S1024x256_S1024x256_1_0_0_1_n_n none (truncf .bf16 (subf a (extf .f32 (truncf .bf16 a bitsLt_bf16_f32) bitsLt_bf16_f32)) bitsLt_bf16_f32)
      (truncf .bf16 b bitsLt_bf16_f32) (constant S1024x256 .f32 0x00000000#32)))
    (matmul dot_S1024x1024_S1024x256_S1024x256_1_0_0_1_n_n none (truncf .bf16 a bitsLt_bf16_f32)
      (truncf .bf16 (subf b (extf .f32 (truncf .bf16 b bitsLt_bf16_f32) bitsLt_bf16_f32)) bitsLt_bf16_f32) (constant S1024x256 .f32 0x00000000#32))

abbrev rTop : Rect S2048x256 := Rect.unit ![0, 0] S1024x256.size inb_S2048x256_S1024x256_0_0
abbrev rBot : Rect S2048x256 := Rect.unit ![1024, 0] S1024x256.size inb_S2048x256_S1024x256_1024_0
abbrev rAll : Rect S2048x256 := Rect.unit ![0, 0] S2048x256.size inb_S2048x256_S2048x256_0_0
abbrev rPos : Rect S8x2048 := Rect.unit ![0, 0] S8x2048.size inb_S8x2048_S8x2048_0_0
abbrev rLast : Rect S256x64 := Rect.unit ![0, 0] S256x64.size inb_S256x64_S256x64_0_0

/-- The hidden layer's activations. -/
def act (g : BitVec 32) (x0 : Vec F S16384x128 .f32) (x1 : Vec F S8x2048 .f32) (x2 : Vec F S2048x256 .f32) : FVec F S1024x256 .f32 :=
  k0_pay14 (prod1 (xg g x0) (View.ld x2 rTop)) (prod1 (xg g x0) (View.ld x2 rBot)) (View.ld x1 rPos) (View.ld x2 rAll)

/-- The last product, transposed, and under it a row of ones and fifteen of zeros. -/
def tail (a : FVec F S1024x256 .f32) (b : Vec F S256x64 .f32) : FVec F S1x80x1024 .bf16 :=
  k0_pay1 (truncf .bf16 a bitsLt_bf16_f32) (truncf .bf16 (subf a (extf .f32 (truncf .bf16 a bitsLt_bf16_f32) bitsLt_bf16_f32)) bitsLt_bf16_f32)
    (truncf .bf16 b bitsLt_bf16_f32) (truncf .bf16 (subf b (extf .f32 (truncf .bf16 b bitsLt_bf16_f32) bitsLt_bf16_f32)) bitsLt_bf16_f32)
    (matmul dot_S1024x256_S256x64_S1024x64_1_0_0_1_n_n none (truncf .bf16 a bitsLt_bf16_f32) (truncf .bf16 b bitsLt_bf16_f32) (constant S1024x64 .f32 0x00000000#32))
    (constant S1024x64 .f32 0x00000000#32)

set_option maxHeartbeats 4000000 in
theorem out_A (c : Dev nD) (i : grid0.Coords) (arg1 : Memref sig .tc .vmem S16384x128 .f32) (harg1 : arg1.IsWhole) (arg2 : Memref sig .tc .vmem S8x2048 .f32) (harg2 : arg2.IsWhole) (arg3 : Memref sig .tc .vmem S2048x256 .f32) (harg3 : arg3.IsWhole) (arg4 : Memref sig .tc .vmem S256x64 .f32) (harg4 : arg4.IsWhole) (arg5 : Memref sig .tc .vmem S1x80x1024 .bf16) (harg5 : arg5.IsWhole)
    (x0 : Vec F S16384x128 .f32) (x1 : Vec F S8x2048 .f32) (x2 : Vec F S2048x256 .f32) (x3 : Vec F S256x64 .f32) :
    View.ld (out0_A_4 c i arg1 harg1 arg2 harg2 arg3 harg3 arg4 harg4 arg5 harg5 x0 x1 x2 x3) (Rect.unit ![0, 0, 0] S1x80x1024.size inb_S1x80x1024_S1x80x1024_0_0_0)
      = tail (act (BitVec.ofNat 32 (i 0).val) x0 x1 x2) (View.ld x3 rLast) := by
  show VO0_4.readCov (kernelRun0_A c i arg1 harg1 arg2 harg2 arg3 harg3 arg4 harg4 arg5 harg5 x0 x1 x2 x3).1 (Rect.unit ![0, 0, 0] S1x80x1024.size inb_S1x80x1024_S1x80x1024_0_0_0).toLoadRect = _
  unfold kernelRun0_A
  dsimp only
  sl_unfold_words
  refine (View.readCov_cons_toLoadRect _ _ _ _).trans ?_
  simp only [readAt_eq_lds, harg1.read_unread, harg2.read_unread, harg3.read_unread, harg4.read_unread]
  rfl

end

end Cert.Kernel4Ideal.Cmp

end
-- ==== Proof.CmpSpec.lean ====
/- The compression the layer states, for one group, block and component: the block's 32 rows plus their positions, through a
   hidden layer with the tanh form of the gelu, and the product with the last weights. For real arrays the hidden layer is also
   the sum of the two halves of the rows and of the positions, each with its own weights. -/
module

public import Idealize.ShloMosaic.PureOps
public import Idealize.ShloMosaic.PureOps.Ideal
public import Idealize.ShloMosaic.Lib.Pointwise

@[expose] public section

set_option maxRecDepth 16384

noncomputable section

namespace Cert.Cmp

open Idealize.ShloMosaic Idealize.ShloMosaic.Tactic

abbrev XS : Shape := ⟨2, ![16384, 128]⟩
abbrev PS : Shape := ⟨2, ![32, 64]⟩
abbrev W1S : Shape := ⟨2, ![2048, 256]⟩
abbrev W2S : Shape := ⟨2, ![256, 64]⟩

/-- A real number among the extended reals. -/
def IsR (z : EReal) : Prop := ∃ r : ℝ, z = (r : EReal)

theorem IsR.add {a b : EReal} (ha : IsR a) (hb : IsR b) : IsR (a + b) := by
  obtain ⟨r, rfl⟩ := ha; obtain ⟨s, rfl⟩ := hb; exact ⟨r + s, (EReal.coe_add r s).symm⟩
theorem IsR.mul {a b : EReal} (ha : IsR a) (hb : IsR b) : IsR (a * b) := by
  obtain ⟨r, rfl⟩ := ha; obtain ⟨s, rfl⟩ := hb; exact ⟨r * s, (EReal.coe_mul r s).symm⟩
theorem IsR.sum {ι : Type} (s : Finset ι) (f : ι → EReal) (h : ∀ i, IsR (f i)) : IsR (∑ i ∈ s, f i) :=
  Finset.sum_induction f IsR (fun _ _ => IsR.add) ⟨0, rfl⟩ (fun i _ => h i)
theorem IsR.tanh {a : EReal} (ha : IsR a) : IsR (Ideal.tanh a) := by
  obtain ⟨r, rfl⟩ := ha; exact ⟨Real.tanh r, rfl⟩
theorem IsR.sub_self {a : EReal} (ha : IsR a) : a - a = 0 := by
  obtain ⟨r, rfl⟩ := ha; rw [← EReal.coe_sub, _root_.sub_self]; rfl
theorem IsR.add_mul {a b c : EReal} (ha : IsR a) (hb : IsR b) (hc : IsR c) : (a + b) * c = a * c + b * c := by
  obtain ⟨r, rfl⟩ := ha; obtain ⟨s, rfl⟩ := hb; obtain ⟨t, rfl⟩ := hc
  rw [← EReal.coe_add, ← EReal.coe_mul, ← EReal.coe_mul, ← EReal.coe_mul, ← EReal.coe_add, _root_.add_mul]

/-- A word whose exponent is not all ones is a real number. -/
theorem isR_word (w : BitVec 32) (h : (Ideal.ofBits .f32 w).toReal = (Ideal.ofBits .f32 w)) : IsR (Ideal.ofBits .f32 w) := ⟨_, h.symm⟩

/-- A product in three parts, each factor split into a part and a rest: the rests of real numbers are zero. -/
theorem three {ι : Type} [Fintype ι] (a b : ι → EReal) (ha : ∀ k, IsR (a k)) (hb : ∀ k, IsR (b k)) :
    (∑ k, a k * b k) + (∑ k, (a k - a k) * b k) + (∑ k, a k * (b k - b k)) = ∑ k, a k * b k := by
  have e1 : ∀ k, (a k - a k) * b k = 0 := fun k => by rw [(ha k).sub_self, zero_mul]
  have e2 : ∀ k, a k * (b k - b k) = 0 := fun k => by rw [(hb k).sub_self, mul_zero]
  simp only [e1, e2, Finset.sum_const_zero, add_zero]

/-- The tanh form of the gelu. -/
def gelu (z : EReal) : EReal :=
  z * (Ideal.ofBits .f32 0x3F000000#32 * (1 + Ideal.tanh (Ideal.ofBits .f32 0x3F4C422A#32 * (z + Ideal.ofBits .f32 0x3D372713#32 * (z * z * z)))))

theorem word_half : IsR (Ideal.ofBits .f32 0x3F000000#32) := isR_word _ (by simp [Ideal.ofBits, Ideal.ieee, -EReal.coe_mul])
theorem word_c : IsR (Ideal.ofBits .f32 0x3F4C422A#32) := isR_word _ (by simp [Ideal.ofBits, Ideal.ieee, -EReal.coe_mul])
theorem word_d : IsR (Ideal.ofBits .f32 0x3D372713#32) := isR_word _ (by simp [Ideal.ofBits, Ideal.ieee, -EReal.coe_mul])

theorem IsR.gelu {z : EReal} (h : IsR z) : IsR (gelu z) :=
  h.mul (word_half.mul (IsR.add ⟨1, rfl⟩ (word_c.mul (h.add (word_d.mul ((h.mul h).mul h)))).tanh))

variable (x : XS.Idx → EReal) (p : PS.Idx → EReal) (w1 : W1S.Idx → EReal) (w2 : W2S.Idx → EReal)

/-- Entry `k` of block `n` of the group's rows: the rows one after another, the sequence taken as a circle. -/
def kv (g : Fin 2) (n k : ℕ) : EReal :=
  x (ix2 (⟨(16 * n + k / 64) % 16384, Nat.mod_lt _ (by norm_num)⟩ : Fin 16384)
    (⟨64 * g.val + k % 64, by have := g.isLt; have := Nat.mod_lt k (show 0 < 64 by norm_num); omega⟩ : Fin 128))

/-- Entry `k` of the positions, their rows one after another. -/
def pos (k : Fin 2048) : EReal :=
  p (ix2 (⟨k.val / 64, by have := k.isLt; omega⟩ : Fin 32) (⟨k.val % 64, Nat.mod_lt _ (by norm_num)⟩ : Fin 64))

/-- The hidden layer before the gelu. -/
def hid (g : Fin 2) (n : ℕ) (f : Fin 256) : EReal := ∑ k : Fin 2048, (kv x g n k.val + pos p k) * w1 (ix2 k f)

/-- The result's entry. -/
def outAt (g : Fin 2) (r : Fin 80) (n : ℕ) : EReal :=
  if h : r.val < 64 then ∑ f : Fin 256, gelu (hid x p w1 g n f) * w2 (ix2 f (⟨r.val, h⟩ : Fin 64)) else if r.val = 64 then 1 else 0

/-- The first half's part of the hidden layer, of block `n`'s first 16 rows. -/
def half1 (g : Fin 2) (n : ℕ) (f : Fin 256) : EReal :=
  ∑ k : Fin 1024, kv x g n k.val * w1 (ix2 (⟨k.val, by have := k.isLt; omega⟩ : Fin 2048) f)

/-- The second half's part, of the first 16 rows of block `n`. -/
def half2 (g : Fin 2) (n : ℕ) (f : Fin 256) : EReal :=
  ∑ k : Fin 1024, kv x g n k.val * w1 (ix2 (⟨1024 + k.val, by have := k.isLt; omega⟩ : Fin 2048) f)

/-- The positions' part. -/
def posSum (f : Fin 256) : EReal := ∑ k : Fin 2048, pos p k * w1 (ix2 k f)

/-- The next block's first rows are this block's last, the sequence taken as a circle. -/
theorem kv_next (g : Fin 2) (n k : ℕ) : kv x g ((n + 1) % 1024) k = kv x g n (1024 + k) := by
  unfold kv
  congr 1
  have e1 : (1024 + k) / 64 = 16 + k / 64 := by omega
  have e2 : (1024 + k) % 64 = k % 64 := by omega
  have e3 : (16 * ((n + 1) % 1024) + k / 64) % 16384 = (16 * n + (1024 + k) / 64) % 16384 := by omega
  simp only [e2, e3]

variable (hx : ∀ i, IsR (x i)) (hp : ∀ i, IsR (p i)) (h1 : ∀ i, IsR (w1 i))
include hx hp h1

theorem isR_hid (g : Fin 2) (n : ℕ) (f : Fin 256) : IsR (hid x p w1 g n f) :=
  IsR.sum _ _ fun k => ((hx _).add (hp _)).mul (h1 _)

theorem hid_eq (g : Fin 2) (n : ℕ) (f : Fin 256) :
    half1 x w1 g n f + half2 x w1 g ((n + 1) % 1024) f + posSum p w1 f = hid x p w1 g n f := by
  unfold hid
  have e : ∀ k : Fin 2048, (kv x g n k.val + pos p k) * w1 (ix2 k f) = kv x g n k.val * w1 (ix2 k f) + pos p k * w1 (ix2 k f) :=
    fun k => IsR.add_mul (hx _) (hp _) (h1 _)
  rw [Finset.sum_congr rfl (fun k _ => e k), Finset.sum_add_distrib]
  unfold posSum
  congr 1
  refine Eq.trans ?_ (Fin.sum_univ_add (a := 1024) (b := 1024) (fun k : Fin 2048 => kv x g n k.val * w1 (ix2 k f))).symm
  unfold half1 half2
  congr 1
  refine Finset.sum_congr rfl fun k _ => ?_
  rw [kv_next]
  rfl

end Cert.Cmp

end
-- ==== Proof.CmpKernel.lean ====
/- The compression kernel's result over the extended reals, for real arrays, is the layer's formula. -/
module

public import proofs.«01_k».proof.Proof.CmpBody
public import proofs.«01_k».proof.Proof.CmpSpec
public import proofs.«01_k».proof.Proof.Index
public import Idealize.ShloMosaic.Lib.Pointwise
public import Idealize.ShloMosaic.Lib.Pipeline.ValueKit.Tiles
public import Idealize.ShloMosaic.Lib.StableHlo.ReadAt

@[expose] public section

set_option maxRecDepth 16384

noncomputable section

namespace Cert.Kernel4Ideal.Cmp

open Idealize.ShloMosaic Idealize.ShloMosaic.TcCoe Idealize.ShloMosaic.Tactic Idealize.SL.Sem
open Cert.Kernel4Ideal Cert.Kernel4Ideal.Gen Cert.Kernel4Ideal.Value
open Cert.Cmp Cert.Index
open Idealize.ShloMosaic.StableHlo

/-! ## The body's terms at an index -/

theorem lds_row (x0 : Vec Ideal S16384x128 .f32) (u : Fin 16) (n : Fin 1024) (l : Fin 128) :
    lds x0 (rT u) (ix2 n l) = x0 (ix2 (⟨16 * n.val + u.val, by have := n.isLt; have := u.isLt; omega⟩ : Fin 16384) l) :=
  congrArg x0 (ext2 _ _ (by show u.val + 16 * n.val = 16 * n.val + u.val; omega) (by show 0 + 1 * l.val = l.val; omega))

theorem mask_eq (l : Fin 128) : IntOp.cmpi CmpIPredicate.slt (BitVec.ofNat 32 l.val) 64#32 = if l.val < 64 then 1#1 else 0#1 := by
  revert l; decide

theorem pair_apply (g : Fin 2) (x0 : Vec Ideal S16384x128 .f32) (u w : Fin 16) (n : Fin 1024) (l : Fin 128) :
    pair (BitVec.ofNat 32 g.val) x0 u w (ix2 n l)
      = x0 (ix2 (⟨16 * n.val + (if l.val < 64 then u.val else w.val), by have := n.isLt; have := u.isLt; have := w.isLt; split <;> omega⟩ : Fin 16384)
        (⟨64 * g.val + l.val % 64, by have := g.isLt; omega⟩ : Fin 128)) := by
  have hl := l.isLt
  unfold pair k0_pay6 k0_pay2
  pointwise
  rw [mask_eq]
  by_cases h : l.val < 64
  · simp only [h, if_true]
    fin_cases g
    · refine (lds_row x0 u n l).trans (congrArg x0 (ext2 _ _ rfl ?_))
      show l.val = 64 * 0 + l.val % 64; omega
    · refine (lds_row x0 u n _).trans (congrArg x0 (ext2 _ _ rfl ?_))
      show (l.val + 128 - 64) % 128 = 64 * 1 + l.val % 64; omega
  · simp only [h, if_false]
    fin_cases g
    · refine (lds_row x0 w n _).trans (congrArg x0 (ext2 _ _ rfl ?_))
      show (l.val + 128 - 64) % 128 = 64 * 0 + l.val % 64; omega
    · refine (lds_row x0 w n l).trans (congrArg x0 (ext2 _ _ rfl ?_))
      show l.val = 64 * 1 + l.val % 64; omega

theorem pair_entry (g : Fin 2) (x0 : Vec Ideal S16384x128 .f32) (u w : Fin 16) (n : Fin 1024) (l : Fin 128) (k q : ℕ)
    (hu : u.val = 2 * q) (hw : w.val = 2 * q + 1) (hk : k = 128 * q + l.val) :
    pair (BitVec.ofNat 32 g.val) x0 u w (ix2 n l) = kv x0 g n.val k := by
  have := n.isLt; have := l.isLt; have := w.isLt
  rw [pair_apply]
  refine congrArg x0 (ext2 _ _ ?_ ?_)
  · show 16 * n.val + (if l.val < 64 then u.val else w.val) = (16 * n.val + k / 64) % 16384
    split_ifs <;> omega
  · show 64 * g.val + l.val % 64 = 64 * g.val + k % 64
    omega

theorem xg_apply (g : Fin 2) (x0 : Vec Ideal S16384x128 .f32) (n : Fin 1024) (k : Fin 1024) :
    xg (BitVec.ofNat 32 g.val) x0 (ix2 n k) = kv x0 g n.val k.val := by
  have hk := k.isLt
  unfold xg
  pointwise
  split_ifs
  all_goals first
    | exact absurd rfl ‹¬(1 : Fin 2).val = (1 : Fin 2).val›
    | exact pair_entry g x0 _ _ n _ _ 0 rfl rfl (by dsimp only; omega)
    | exact pair_entry g x0 _ _ n _ _ 1 rfl rfl (by dsimp only; omega)
    | exact pair_entry g x0 _ _ n _ _ 2 rfl rfl (by dsimp only; omega)
    | exact pair_entry g x0 _ _ n _ _ 3 rfl rfl (by dsimp only; omega)
    | exact pair_entry g x0 _ _ n _ _ 4 rfl rfl (by dsimp only; omega)
    | exact pair_entry g x0 _ _ n _ _ 5 rfl rfl (by dsimp only; omega)
    | exact pair_entry g x0 _ _ n _ _ 6 rfl rfl (by dsimp only; omega)
    | exact pair_entry g x0 _ _ n _ _ 7 rfl rfl (by dsimp only; omega)

theorem prod1_apply (a : FVec Ideal S1024x1024 .f32) (b : Vec Ideal S1024x256 .f32) (ha : ∀ i, IsR (a i)) (hb : ∀ i, IsR (b i)) (n : Fin 1024) (f : Fin 256) :
    prod1 a b (ix2 n f) = ∑ k : Fin 1024, a (ix2 n k) * b (ix2 k f) := by
  rw [← three (fun k : Fin 1024 => a (ix2 n k)) (fun k => b (ix2 k f)) (fun k => ha _) (fun k => hb _)]
  unfold prod1
  pointwise

theorem act_apply (u v : FVec Ideal S1024x256 .f32) (q : Vec Ideal S8x2048 .f32) (w : Vec Ideal S2048x256 .f32)
    (hq : ∀ k, IsR (q (ix2 0 k))) (hw : ∀ i, IsR (w i)) (n : Fin 1024) (f : Fin 256) :
    k0_pay14 u v q w (ix2 n f) = gelu (u (ix2 n f) + v (ix2 (⟨(n.val + 1) % 1024, Nat.mod_lt _ (by norm_num)⟩ : Fin 1024) f) + ∑ k : Fin 2048, q (ix2 0 k) * w (ix2 k f)) := by
  have e := three (fun k : Fin 2048 => q (ix2 0 k)) (fun k => w (ix2 k f)) hq (fun k => hw _)
  have hn : (n.val + 1024 - 1023) % 1024 = (n.val + 1) % 1024 := by omega
  rw [← e]
  unfold k0_pay14 gelu
  pointwise
  simp only [hn]

theorem tail_apply (a : FVec Ideal S1024x256 .f32) (b : Vec Ideal S256x64 .f32) (ha : ∀ i, IsR (a i)) (hb : ∀ i, IsR (b i)) (r : Fin 80) (n : Fin 1024) :
    tail a b (ix3 0 r n) = if h : r.val < 64 then ∑ f : Fin 256, a (ix2 n f) * b (ix2 f (⟨r.val, h⟩ : Fin 64)) else if r.val = 64 then 1 else 0 := by
  unfold tail k0_pay1
  pointwise
  by_cases h : r.val < 64
  · rw [dif_pos h, dif_pos h]
    exact three (fun k : Fin 256 => a (ix2 n k)) (fun k => b (ix2 k (⟨r.val, h⟩ : Fin 64))) (fun k => ha _) (fun k => hb _)
  · rw [dif_neg h, dif_neg h]
    have : ∀ r : Fin 80, ¬ r.val < 64 → IntOp.cmpi CmpIPredicate.eq (BitVec.ofNat 32 (r.val - 64)) 0#32 = if r.val = 64 then 1#1 else 0#1 := by decide
    rw [this r h]
    split_ifs <;> rfl

/-! ## The blocks -/

variable (m : (ℓ : Loc nD τ sig) → Buf (Elt Ideal) ℓ) (c : Dev nD)

/-- The four arrays, as launched. -/
abbrev X0 : XS.Idx → EReal := m ((c : Thread nD τ).loc main_arg0)
abbrev X1 : PS.Idx → EReal := m ((c : Thread nD τ).loc main_arg1)
abbrev X2 : W1S.Idx → EReal := m ((c : Thread nD τ).loc main_arg2)
abbrev X3 : W2S.Idx → EReal := m ((c : Thread nD τ).loc main_arg3)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem coord : ∀ t : Fin cfg0.N, (grid0.coords t 0).val = t.val :=
  (by decide +kernel : ∀ t : Fin grid0.N, _)
theorem flush4 : ∀ t : Fin cfg0.N, (cfg0.win 4).flush t = true :=
  (by decide +kernel : ∀ t : Fin grid0.N, _)

theorem V_pos : (V m c main_v1 : S8x2048.Idx → EReal) = pad S8x2048 ![0, 0] ![7, 0] ![0, 0]
    (shapeCast S1x2048 (m ((c : Thread nD τ).loc main_arg1) : Vec Ideal S32x64 .f32) shapeCasts_S32x64_S1x2048) (sitofp .f32 (constantI S_ 32 0#32) : FVec Ideal S_ .f32) pads_S1x2048_S8x2048_070_000 h_S_ := by
  simp only [V, hostOps0, hostOps0_1, List.flatten_cons, List.flatten_nil, List.append_nil, List.cons_append, List.nil_append]
  after_reads_simp; rfl

theorem pad_apply (y : Vec Ideal S32x64 .f32) (z : Vec Ideal S_ .f32) (k : Fin 2048) :
    pad S8x2048 ![0, 0] ![7, 0] ![0, 0] (shapeCast S1x2048 y shapeCasts_S32x64_S1x2048) z pads_S1x2048_S8x2048_070_000 h_S_ (ix2 0 k) = pos y k := by
  unfold pos
  pointwise

theorem in0 (t : Fin cfg0.N) : (iblk m c 0 t : Vec Ideal S16384x128 .f32) = X0 m c := by
  obtain ⟨e0, e1⟩ := idx0 t
  funext i
  unfold iblk
  rw [View.read_apply]
  refine (congrFun (V_main_arg0 m c) _).trans (congrArg (m ((c : Thread nD τ).loc main_arg0)) (ext2 _ _ ?_ ?_))
  · show win0_0.index t (0 : Fin 2) * 16384 + 1 * (i 0).val = (i 0).val; rw [e0]; omega
  · show win0_0.index t (1 : Fin 2) * 128 + 1 * (i 1).val = (i 1).val; rw [e1]; omega

theorem in1 (t : Fin cfg0.N) (k : Fin 2048) : View.ld (iblk m c 1 t : Vec Ideal S8x2048 .f32) rPos (ix2 0 k) = pos (X1 m c) k := by
  obtain ⟨e0, e1⟩ := idx1 t
  rw [View.ld_apply]
  unfold iblk
  rw [View.read_apply]
  refine Eq.trans (congrArg (V m c main_v1) (ext2 _ (ix2 (0 : Fin 8) k) ?_ ?_)) ((congrFun (V_pos m c) _).trans (pad_apply _ _ k))
  · show win0_1.index t (0 : Fin 2) * 8 + 1 * (0 + 1 * 0) = 0; rw [e0]
  · show win0_1.index t (1 : Fin 2) * 2048 + 1 * (0 + 1 * k.val) = k.val; rw [e1]; omega

theorem in2 (t : Fin cfg0.N) : (iblk m c 2 t : Vec Ideal S2048x256 .f32) = X2 m c := by
  obtain ⟨e0, e1⟩ := idx2 t
  funext i
  unfold iblk
  rw [View.read_apply]
  refine (congrFun (V_main_arg2 m c) _).trans (congrArg (m ((c : Thread nD τ).loc main_arg2)) (ext2 _ _ ?_ ?_))
  · show win0_2.index t (0 : Fin 2) * 2048 + 1 * (i 0).val = (i 0).val; rw [e0]; omega
  · show win0_2.index t (1 : Fin 2) * 256 + 1 * (i 1).val = (i 1).val; rw [e1]; omega

theorem in3 (t : Fin cfg0.N) : (iblk m c 3 t : Vec Ideal S256x64 .f32) = X3 m c := by
  obtain ⟨e0, e1⟩ := idx3 t
  funext i
  unfold iblk
  rw [View.read_apply]
  refine (congrFun (V_main_arg3 m c) _).trans (congrArg (m ((c : Thread nD τ).loc main_arg3)) (ext2 _ _ ?_ ?_))
  · show win0_3.index t (0 : Fin 2) * 256 + 1 * (i 0).val = (i 0).val; rw [e0]; omega
  · show win0_3.index t (1 : Fin 2) * 64 + 1 * (i 1).val = (i 1).val; rw [e1]; omega

theorem ld_top (w : Vec Ideal S2048x256 .f32) (k : Fin 1024) (f : Fin 256) : View.ld w rTop (ix2 k f) = w (ix2 (⟨k.val, by have := k.isLt; omega⟩ : Fin 2048) f) := by
  pointwise
theorem ld_bot (w : Vec Ideal S2048x256 .f32) (k : Fin 1024) (f : Fin 256) : View.ld w rBot (ix2 k f) = w (ix2 (⟨1024 + k.val, by have := k.isLt; omega⟩ : Fin 2048) f) := by
  pointwise
theorem ld_all (w : Vec Ideal S2048x256 .f32) (k : Fin 2048) (f : Fin 256) : View.ld w rAll (ix2 k f) = w (ix2 k f) := by
  pointwise
theorem ld_last (w : Vec Ideal S256x64 .f32) (k : Fin 256) (r : Fin 64) : View.ld w rLast (ix2 k r) = w (ix2 k r) := by
  pointwise

theorem last (a : FVec Ideal S1024x256 .f32) (b : Vec Ideal S256x64 .f32) (ha : ∀ i, IsR (a i)) (hb : ∀ i, IsR (b i)) (r : Fin 80) (n : Fin 1024) :
    tail a (View.ld b rLast) (ix3 0 r n) = if h : r.val < 64 then ∑ f : Fin 256, a (ix2 n f) * b (ix2 f (⟨r.val, h⟩ : Fin 64)) else if r.val = 64 then 1 else 0 := by
  refine (tail_apply a (View.ld b rLast) ha (fun i => hb _) r n).trans ?_
  split_ifs
  · exact Finset.sum_congr rfl fun f _ => congrArg (a (ix2 n f) * ·) (ld_last _ _ _)
  · rfl
  · rfl

section
variable (h0 : ∀ i, IsR (X0 m c i)) (h1 : ∀ i, IsR (X1 m c i)) (h2 : ∀ i, IsR (X2 m c i))
include h0 h1 h2

theorem act_eq (g : Fin 2) (t : Fin cfg0.N) (n : Fin 1024) (f : Fin 256) :
    act (BitVec.ofNat 32 g.val) (X0 m c) (iblk m c 1 t) (X2 m c) (ix2 n f) = gelu (hid (X0 m c) (X1 m c) (X2 m c) g n.val f) := by
  have hx : ∀ i, IsR (xg (F := Ideal) (BitVec.ofNat 32 g.val) (X0 m c) i) :=
    all2 (fun i => IsR (xg (F := Ideal) (BitVec.ofNat 32 g.val) (X0 m c) i)) fun a b => by rw [xg_apply]; exact h0 _
  have hq : ∀ k, IsR (View.ld (iblk m c 1 t : Vec Ideal S8x2048 .f32) rPos (ix2 0 k)) := fun k => by rw [in1]; exact h1 _
  unfold act
  refine (act_apply _ _ _ _ hq (fun i => h2 _) n f).trans (congrArg gelu ?_)
  rw [← hid_eq _ _ _ h0 h1 h2]
  refine congrArg₂ (· + ·) (congrArg₂ (· + ·) ?_ ?_) ?_
  · refine (prod1_apply _ _ hx (fun i => h2 _) n f).trans (Finset.sum_congr rfl fun k _ => ?_)
    exact congrArg₂ (· * ·) (xg_apply _ _ _ _) (ld_top _ _ _)
  · refine (prod1_apply _ _ hx (fun i => h2 _) _ f).trans (Finset.sum_congr rfl fun k _ => ?_)
    exact congrArg₂ (· * ·) (xg_apply _ _ _ _) (ld_bot _ _ _)
  · refine Finset.sum_congr rfl fun k _ => ?_
    exact congrArg₂ (· * ·) (in1 m c t k) (ld_all _ _ _)

theorem out_eq (h3 : ∀ i, IsR (X3 m c i)) (g : Fin 2) (t : Fin cfg0.N) (r : Fin 80) (n : Fin 1024) :
    tail (act (BitVec.ofNat 32 g.val) (X0 m c) (iblk m c 1 t) (X2 m c)) (View.ld (X3 m c) rLast) (ix3 0 r n) = outAt (X0 m c) (X1 m c) (X2 m c) (X3 m c) g r n.val := by
  have ha : ∀ i, IsR (act (F := Ideal) (BitVec.ofNat 32 g.val) (X0 m c) (iblk m c 1 t) (X2 m c) i) :=
    all2 (fun i => IsR (act (F := Ideal) (BitVec.ofNat 32 g.val) (X0 m c) (iblk m c 1 t) (X2 m c) i)) fun a b => by
      rw [act_eq m c h0 h1 h2]
      exact (isR_hid _ _ _ h0 h1 h2 _ _ _).gelu
  refine (last _ _ ha h3 r n).trans ?_
  unfold outAt
  split_ifs
  · exact Finset.sum_congr rfl fun f _ => by rw [act_eq m c h0 h1 h2]
  · rfl
  · rfl

theorem result (h3 : ∀ i, IsR (X3 m c i)) (g : Fin 2) (r : Fin 80) (n : Fin 1024) :
    (dats m 0 c).arrAt 4 cfg0.N (ix3 g r n) = outAt (X0 m c) (X1 m c) (X2 m c) (X3 m c) g r n.val := by
  obtain ⟨t, ht⟩ : ∃ t : Fin cfg0.N, t.val = g.val := ⟨⟨g.val, lt_of_lt_of_eq g.isLt N_0.symm⟩, rfl⟩
  obtain ⟨e0, e1, e2⟩ := idx4 t
  have hc : (grid0.coords t 0).val = g.val := (coord t).trans ht
  have hb := congrFun ((blocks4 m c t (flush4 t)).trans (flushed4_A m c t)) (ix3 (0 : Fin 1) r n)
  rw [View.read_apply] at hb
  have he : ((cfg0.win 4).blk t).view.emb (ix3 (0 : Fin 1) r n : S1x80x1024.Idx) = (ix3 g r n : S2x80x1024.Idx) :=
    ext3 _ _ (by show win0_4.index t (0 : Fin 3) * 1 + 1 * 0 = g.val; rw [e0, ht]; omega)
      (by show win0_4.index t (1 : Fin 3) * 80 + 1 * r.val = r.val; rw [e1]; omega)
      (by show win0_4.index t (2 : Fin 3) * 1024 + 1 * n.val = n.val; rw [e2]; omega)
  rw [he] at hb
  refine hb.trans ?_
  have ho := congrFun (out_A c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t)) (ix3 (0 : Fin 1) r n)
  refine Eq.trans ?_ (ho.trans ?_)
  · exact congrArg (out0_A_4 c (grid0.coords t) (ms0_0 t) (hs0_0 t) (ms0_1 t) (hs0_1 t) (ms0_2 t) (hs0_2 t) (ms0_3 t) (hs0_3 t) (ms0_4 t) (hs0_4 t) _ _ _ _)
      (ext3 _ _ rfl (by show r.val = 0 + 1 * r.val; omega) (by show n.val = 0 + 1 * n.val; omega))
  · rw [hc, in0, in2, in3]
    exact out_eq m c h0 h1 h2 h3 g t r n

end

end Cert.Kernel4Ideal.Cmp

end
-- ==== Proof.CmpRef.lean ====
/- The reference's result of the fourth call over the extended reals is the layer's compression, entry by entry
   (`Cert.Cmp.outAt`), for all arrays: a gathered block's row `i` is row `16 n + i` of the sequence taken as a circle. -/
module

public import proofs.«01_k».proof.Proof.Gen.Reference4Ideal.Run
public import proofs.«01_k».proof.Proof.CmpSpec
public import proofs.«01_k».proof.Proof.Index
public import Idealize.ShloMosaic.Lib.Pointwise
public import Idealize.ShloMosaic.Lib.WordArith
public import Idealize.ShloMosaic.Lib.StableHlo.ReadAt

@[expose] public section

set_option maxRecDepth 16384

noncomputable section

namespace Cert.Reference4Ideal.Cmp

open Idealize.ShloMosaic Idealize.ShloMosaic.TcCoe Idealize.ShloMosaic.Tactic Idealize.SL.Sem
open Idealize.ShloMosaic.StableHlo
open Cert.Reference4Ideal Cert.Reference4Ideal.Gen Cert.Reference4Ideal.Value
open Cert.Cmp Cert.Index

/-! ## The terms -/

/-- The row each entry of a block reads. -/
def firsts : IVec S1024x32 32 := addi (broadcastInDim S1024x32 ![0, 1] bcast_S1024x1_S1024x32_0_1 (muli (broadcastInDim S1024x1 ![0] bcast_S1024_S1024x1_0 (iotaInDim S1024 32 0)) (broadcastInDim S1024x1 ![] bcast_S_S1024x1 (constantI S_ 32 16#32)))) (broadcastInDim S1024x32 ![0, 1] bcast_S1x32_S1024x32_0_1 (broadcastInDim S1x32 ![1] bcast_S32_S1x32_1 (iotaInDim S32 32 0)))
/-- The same rows, a negative one counted from the end, as the gather takes them. -/
def starts : IVec S1024x32x1 32 := broadcastInDim S1024x32x1 ![0, 1] bcast_S1024x32_S1024x32x1_0_1 (select (cmpi .slt (firsts) (broadcastInDim S1024x32 ![] bcast_S_S1024x32 (constantI S_ 32 0#32))) (addi (firsts) (broadcastInDim S1024x32 ![] bcast_S_S1024x32 (constantI S_ 32 16400#32))) (firsts))

section
variable {F : FTy → Type} [FloatOps F]

/-- The rows by groups, the first sixteen repeated at the end. -/
def circle (x : Vec F S16384x128 .f32) : Vec F S16400x2x64 .f32 := concatenate S16400x2x64 0 [⟨S16384x2x64, (shapeCast _ x shapeCasts_S16384x128_S16384x2x64)⟩, ⟨S16x2x64, (extractStridedSlice S16x2x64 ![0, 0, 0] (shapeCast _ x shapeCasts_S16384x128_S16384x2x64) slices_S16384x2x64_S16x2x64_0_0_0)⟩] concatenates_S16384x2x64_S16x2x64_S16400x2x64_d0
/-- The blocks' rows plus the positions, side by side. -/
def rows (x : Vec F S16384x128 .f32) (p : Vec F S32x64 .f32) : Vec F S1024x2x2048 .f32 := shapeCast _ (transpose S1024x2x32x64 [0, 2, 1, 3] (addf (Host.gather gather_S16400x2x64_S1024x32x1_S1024x32x2x64_23_0_n_n_0_2_1264 (circle x) starts) (broadcastInDim S1024x32x2x64 ![0, 1, 2, 3] bcast_S1x32x1x64_S1024x32x2x64_0_1_2_3 (broadcastInDim S1x32x1x64 ![1, 3] bcast_S32x64_S1x32x1x64_1_3 p))) transposes_S1024x32x2x64_S1024x2x32x64_0_2_1_3) shapeCasts_S1024x2x32x64_S1024x2x2048
/-- The hidden layer before the gelu. -/
def hidR (x : Vec F S16384x128 .f32) (p : Vec F S32x64 .f32) (w1 : Vec F S2048x256 .f32) : Vec F S1024x2x256 .f32 := Host.dotGeneral dot_S1024x2x2048_S2048x256_S1024x2x256_2_0_01_1_n_n none (rows x p) w1
/-- The gelu. -/
def geluR (z : Vec F S1024x2x256 .f32) : Vec F S1024x2x256 .f32 := mulf z (mulf (broadcastInDim S1024x2x256 ![] bcast_S_S1024x2x256 (constant S_ .f32 0x3F000000#32)) (addf (broadcastInDim S1024x2x256 ![] bcast_S_S1024x2x256 (constant S_ .f32 0x3F800000#32)) (Host.tanh (mulf (broadcastInDim S1024x2x256 ![] bcast_S_S1024x2x256 (constant S_ .f32 0x3F4C422A#32)) (addf z (mulf (broadcastInDim S1024x2x256 ![] bcast_S_S1024x2x256 (constant S_ .f32 0x3D372713#32)) (mulf (mulf z z) z)))))))
/-- The rows under the values: one of ones, the others of zeros. -/
def under : Vec F S2x16x1024 .f32 := mulf (broadcastInDim S2x16x1024 ![0, 1, 2] bcast_S1x16x1_S2x16x1024_0_1_2 (broadcastInDim S1x16x1 ![1, 2] bcast_S16x1_S1x16x1_1_2 (uitofp .f32 (cmpi .eq (broadcastInDim S16x1 ![0] bcast_S16_S16x1_0 (iotaInDim S16 32 0)) (broadcastInDim S16x1 ![] bcast_S_S16x1 (constantI S_ 32 0#32)))))) (broadcastInDim S2x16x1024 ![] bcast_S_S2x16x1024 (constant S_ .f32 0x3F800000#32))

/-- The result. -/
def whole (x : Vec F S16384x128 .f32) (p : Vec F S32x64 .f32) (w1 : Vec F S2048x256 .f32) (w2 : Vec F S256x64 .f32) : Vec F S2x80x1024 .bf16 :=
  truncf .bf16 (concatenate S2x80x1024 1 [⟨S2x64x1024, (transpose S2x64x1024 [1, 2, 0] (Host.dotGeneral dot_S1024x2x256_S256x64_S1024x2x64_2_0_01_1_n_n none
    (geluR (hidR x p w1)) w2) transposes_S1024x2x64_S2x64x1024_1_2_0)⟩, ⟨S2x16x1024, under⟩] concatenates_S2x64x1024_S2x16x1024_S2x80x1024_d1) bitsLt_bf16_f32

theorem res_eq (m : (ℓ : Loc nD τ sig) → Buf (Elt F) ℓ) (c : Dev nD) :
    res_main_v50 m c = whole (m ((c.tc : Thread nD τ).loc main_arg0)) (m ((c.tc : Thread nD τ).loc main_arg1)) (m ((c.tc : Thread nD τ).loc main_arg2)) (m ((c.tc : Thread nD τ).loc main_arg3)) := rfl

end

/-! ## The gather at an index -/

theorem firsts_apply (n : Fin 1024) (i : Fin 32) : firsts (ix2 n i) = BitVec.ofNat 32 (16 * n.val + i.val) := by
  unfold firsts
  pointwise
  show BitVec.ofNat 32 n.val * BitVec.ofNat 32 16 + BitVec.ofNat 32 i.val = _
  rw [← BitVec.ofNat_mul, ← BitVec.ofNat_add, Nat.mul_comm]

theorem starts_apply (n : Fin 1024) (i : Fin 32) : starts (ix3 n i 0) = BitVec.ofNat 32 (16 * n.val + i.val) := by
  have hn := n.isLt
  have hi := i.isLt
  unfold starts
  pointwise
  rw [firsts_apply]
  have h : IntOp.cmpi .slt (BitVec.ofNat 32 (16 * n.val + i.val)) 0#32 = 0#1 := by
    unfold IntOp.cmpi
    show BitVec.ofBool (BitVec.slt _ _) = _
    rw [BitVec.slt_eq_decide, WordArith.toInt_ofNat_small _ (by omega), decide_eq_false (by rw [show (0#32 : BitVec 32).toInt = 0 from rfl]; omega)]
    rfl
  rw [h]
  rfl

theorem gather_row (x : S16400x2x64.Idx → EReal) (idx : IVec S1024x32x1 32) (n : Fin 1024) (i : Fin 32) (g : Fin 2) (d : Fin 64) :
    Host.gather gather_S16400x2x64_S1024x32x1_S1024x32x2x64_23_0_n_n_0_2_1264 x idx (ix4 n i g d)
      = x (ix3 (⟨min (idx (ix3 n i 0)).toInt.toNat 16399, by omega⟩ : Fin 16400) g d) := by
  unfold Host.gather
  refine congrArg x (funext fun a => Fin.ext ?_)
  show GatherDims.start gather_S16400x2x64_S1024x32x1_S1024x32x2x64_23_0_n_n_0_2_1264 (ix4 n i g d) idx a + GatherDims.batchCoord gather_S16400x2x64_S1024x32x1_S1024x32x2x64_23_0_n_n_0_2_1264 (ix4 n i g d) a
    + GatherDims.offCoord gather_S16400x2x64_S1024x32x1_S1024x32x2x64_23_0_n_n_0_2_1264 (ix4 n i g d) a = _
  rw [GatherDims.batchCoord_eq_zero _ _ _ (fun h => by simp [gather_S16400x2x64_S1024x32x1_S1024x32x2x64_23_0_n_n_0_2_1264] at h), Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  unfold GatherDims.start
  rcases h012 with rfl | rfl | rfl
  · rw [GatherDims.offCoord_eq_zero _ _ _ (fun h => ((GatherDims.mem_sKept _ _).mp h).1 (List.mem_singleton.mpr rfl)), Nat.add_zero,
      dif_pos (show (0 : Fin 3) ∈ GatherDims.startIndexMap gather_S16400x2x64_S1024x32x1_S1024x32x2x64_23_0_n_n_0_2_1264 from List.mem_singleton.mpr rfl)]
    have hs : GatherDims.siIdx gather_S16400x2x64_S1024x32x1_S1024x32x2x64_23_0_n_n_0_2_1264 (ix4 n i g d) ⟨List.idxOf (0 : Fin 3) (GatherDims.startIndexMap gather_S16400x2x64_S1024x32x1_S1024x32x2x64_23_0_n_n_0_2_1264), List.idxOf_lt_length_iff.2 (List.mem_singleton.mpr rfl)⟩ = ix3 n i 0 :=
      ext3 _ _ rfl rfl rfl
    exact congrArg (fun j => min (idx j).toInt.toNat 16399) hs
  · rw [dif_neg (show ¬(1 : Fin 3) ∈ GatherDims.startIndexMap gather_S16400x2x64_S1024x32x1_S1024x32x2x64_23_0_n_n_0_2_1264 from by decide), Nat.zero_add]
    rfl
  · rw [dif_neg (show ¬(2 : Fin 3) ∈ GatherDims.startIndexMap gather_S16400x2x64_S1024x32x1_S1024x32x2x64_23_0_n_n_0_2_1264 from by decide), Nat.zero_add]
    rfl

/-! ## The result at an index -/

variable (x : Vec Ideal S16384x128 .f32) (p : Vec Ideal S32x64 .f32) (w1 : Vec Ideal S2048x256 .f32)

theorem grouped (k : Fin 16384) (g : Fin 2) (d : Fin 64) :
    (shapeCast _ x shapeCasts_S16384x128_S16384x2x64 : Vec Ideal S16384x2x64 .f32) (ix3 k g d) = x (ix2 k (⟨64 * g.val + d.val, by have := g.isLt; have := d.isLt; omega⟩ : Fin 128)) := by
  pointwise
  exact congrArg x (ext2 _ _ rfl (by show g.val * 64 + d.val = 64 * g.val + d.val; omega))

theorem repeated (a : Vec Ideal S16384x2x64 .f32) (b : Vec Ideal S16x2x64 .f32) (k : Fin 16400) (g : Fin 2) (d : Fin 64) :
    concatenate S16400x2x64 0 [⟨S16384x2x64, a⟩, ⟨S16x2x64, b⟩] concatenates_S16384x2x64_S16x2x64_S16400x2x64_d0 (ix3 k g d)
      = if h : k.val < 16384 then a (ix3 (⟨k.val, h⟩ : Fin 16384) g d) else b (ix3 (⟨k.val - 16384, by have := k.isLt; omega⟩ : Fin 16) g d) := by
  pointwise

theorem circle_apply (k : Fin 16400) (g : Fin 2) (d : Fin 64) :
    circle x (ix3 k g d) = x (ix2 (⟨k.val % 16384, Nat.mod_lt _ (by norm_num)⟩ : Fin 16384) (⟨64 * g.val + d.val, by have := g.isLt; have := d.isLt; omega⟩ : Fin 128)) := by
  have hk := k.isLt
  unfold circle
  refine (repeated _ _ k g d).trans ?_
  split_ifs with h
  · exact (grouped x _ g d).trans (congrArg x (ext2 _ _ (Nat.mod_eq_of_lt h).symm rfl))
  · refine Eq.trans (congrArg (shapeCast _ x shapeCasts_S16384x128_S16384x2x64 : Vec Ideal S16384x2x64 .f32)
      (ext3 _ (ix3 (⟨k.val % 16384, Nat.mod_lt _ (by norm_num)⟩ : Fin 16384) g d) ?_ ?_ ?_)) (grouped x _ g d)
    · show 0 + (k.val - 16384) = k.val % 16384
      omega
    · show 0 + g.val = g.val
      omega
    · show 0 + d.val = d.val
      omega

theorem gathered (n : Fin 1024) (g : Fin 2) (k : Fin 2048) (i : Fin 32) (d : Fin 64) (hi : i.val = k.val / 64) (hd : d.val = k.val % 64) :
    Host.gather gather_S16400x2x64_S1024x32x1_S1024x32x2x64_23_0_n_n_0_2_1264 (circle x) starts (ix4 n i g d) = kv x g n.val k.val := by
  have hn := n.isLt; have hk := k.isLt
  rw [gather_row, circle_apply]
  refine congrArg x (ext2 _ _ ?_ ?_)
  · show min (starts (ix3 n i 0)).toInt.toNat 16399 % 16384 = (16 * n.val + k.val / 64) % 16384
    rw [starts_apply, WordArith.toInt_ofNat_small _ (by omega)]
    omega
  · show 64 * g.val + d.val = 64 * g.val + k.val % 64
    omega

theorem rows_apply (n : Fin 1024) (g : Fin 2) (k : Fin 2048) : rows x p (ix3 n g k) = kv x g n.val k.val + pos p k := by
  unfold rows
  pointwise
  exact congrArg₂ (· + ·) (gathered x n g k _ _ rfl rfl) rfl

theorem hidR_apply (n : Fin 1024) (g : Fin 2) (f : Fin 256) : hidR x p w1 (ix3 n g f) = hid x p w1 g n.val f := by
  unfold hidR hid
  pointwise
  refine Finset.sum_congr rfl fun k _ => ?_
  rw [rows_apply]

theorem geluR_apply (z : Vec Ideal S1024x2x256 .f32) (n : Fin 1024) (g : Fin 2) (f : Fin 256) : geluR z (ix3 n g f) = gelu (z (ix3 n g f)) := by
  unfold geluR gelu
  pointwise

theorem under_apply (g : Fin 2) (r : Fin 16) (n : Fin 1024) : under (F := Ideal) (ix3 g r n) = if r.val = 0 then 1 else 0 := by
  unfold under
  pointwise
  have h : IntOp.cmpi .eq (BitVec.ofNat 32 r.val) 0#32 = if r.val = 0 then 1#1 else 0#1 := by revert r; decide
  rw [h]
  split_ifs
  · show (((1#1 : BitVec 1).toNat : ℝ) : EReal) = 1
    simp
  · show (((0#1 : BitVec 1).toNat : ℝ) : EReal) = 0
    simp

theorem result (w2 : Vec Ideal S256x64 .f32) (g : Fin 2) (r : Fin 80) (n : Fin 1024) : whole x p w1 w2 (ix3 g r n) = outAt x p w1 w2 g r n.val := by
  unfold whole outAt
  pointwise
  by_cases h : r.val < 64
  · rw [dif_pos h, dif_pos h]
    exact Finset.sum_congr rfl fun f _ => by rw [geluR_apply, hidR_apply]
  · rw [dif_neg h, dif_neg h]
    refine (under_apply g _ n).trans (if_congr ?_ rfl rfl)
    show r.val - 64 = 0 ↔ r.val = 64
    omega

end Cert.Reference4Ideal.Cmp

end
-- ==== Proof.CmpClaims.lean ====
/- The claims about the compression of the values. -/
module

public import proofs.«01_k».proof.Defs
public import proofs.«01_k».proof.Proof.Gen.Kernel4.Frame
public import proofs.«01_k».proof.Proof.Gen.Kernel4Ideal.Frame
public import proofs.«01_k».proof.Proof.CmpKernel
public import proofs.«01_k».proof.Proof.CmpRef
public import proofs.«01_k».proof.Proof.RetClaims
public import Idealize.ShloMosaic.Lib.Quiescent

@[expose] public section

set_option maxRecDepth 16384

noncomputable section

namespace Cert.Cmp

open Idealize.ShloMosaic Idealize.ShloMosaic.TcCoe Idealize.ShloMosaic.Tactic Idealize.SL.Sem
open Cert.Index

/-- The side conditions the precondition states. -/
instance preFacts : Cert.Pre_finite4.Facts where
  bcast_S_S16384x128 := by decide
  reducesTo_S16384x128_S_d0_1 := by decide
  h_S_ := by decide
  bcast_S_S32x64 := by decide
  reducesTo_S32x64_S_d0_1 := by decide
  bcast_S_S2048x256 := by decide
  reducesTo_S2048x256_S_d0_1 := by decide
  bcast_S_S256x64 := by decide
  reducesTo_S256x64_S_d0_1 := by decide

/-- An element whose absolute value is below infinity is a real number. -/
theorem isR_of_abs_lt {S : Shape} (x : FVec Ideal S .f32) (b : FVec Ideal S .f32) (hb : ∀ i, b i = ⊤)
    (h : ∀ i, cmpf .olt (Host.absf x) b i = 1#1) (i : S.Idx) : IsR (x i) := by
  have h2 : BitVec.ofBool (decide (max (x i) (-(x i)) < b i)) = 1#1 := h i
  rw [hb, WordArith.ofBool_eq_one_iff, decide_eq_true_iff, max_lt_iff] at h2
  exact ⟨(x i).toReal, (EReal.coe_toReal h2.1.ne (fun hbot => h2.2.ne (by rw [hbot, EReal.neg_bot]))).symm⟩

theorem reals (x : FVec Ideal XS .f32) (p : FVec Ideal PS .f32) (w1 : FVec Ideal W1S .f32) (w2 : FVec Ideal W2S .f32)
    (h : Cert.Pre_finite4.fn (F := Ideal) x p w1 w2 = fun _ => 1#1) :
    (∀ i, IsR (x i)) ∧ (∀ i, IsR (p i)) ∧ (∀ i, IsR (w1 i)) ∧ (∀ i, IsR (w2 i)) := by
  have h0 := congrFun h ix0
  dsimp only [Cert.Pre_finite4.fn, Cert.Pre_finite4.fn_part1] at h0
  obtain ⟨h012, h3⟩ := Cert.Ret.both_one _ _ h0
  obtain ⟨h01, h2⟩ := Cert.Ret.both_one _ _ h012
  obtain ⟨h0, h1⟩ := Cert.Ret.both_one _ _ h01
  exact ⟨isR_of_abs_lt _ _ (fun _ => Cert.Ret.top_word) fun i => Host.reduce_andi_all _ _ _ _ _ h0 i,
    isR_of_abs_lt _ _ (fun _ => Cert.Ret.top_word) fun i => Host.reduce_andi_all _ _ _ _ _ h1 i,
    isR_of_abs_lt _ _ (fun _ => Cert.Ret.top_word) fun i => Host.reduce_andi_all _ _ _ _ _ h2 i,
    isR_of_abs_lt _ _ (fun _ => Cert.Ret.top_word) fun i => Host.reduce_andi_all _ _ _ _ _ h3 i⟩

theorem frame_kernel : Cert.quiescent_Kernel4 (hKernel4 := Cert.Kernel4.Gen.facts) := fun m g _ => Cert.Kernel4.Gen.frame m g
theorem frame_kernelIdeal : Cert.quiescent_Kernel4Ideal (hKernel4Ideal := Cert.Kernel4Ideal.Gen.facts) := fun m g _ => Cert.Kernel4Ideal.Gen.frame m g
theorem frame_kernelIdeal_pre : Cert.quiescent_Kernel4Ideal_pre_finite4 (hKernel4Ideal := Cert.Kernel4Ideal.Gen.facts) := fun m g _ => Cert.Kernel4Ideal.Gen.frame m g
theorem frame_reference : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run m g)
theorem frame_reference_pre : Cert.quiescent_Reference4Ideal_pre_finite4 (hReference4Ideal := Cert.Reference4Ideal.Gen.facts) := fun m g _ => frame_reference m g trivial

theorem equal : Cert.algebraic_Kernel4Ideal_Reference4Ideal_pre_finite4 (hKernel4Ideal := Cert.Kernel4Ideal.Gen.facts) (hReference4Ideal := Cert.Reference4Ideal.Gen.facts) := by
  intro m g m' g' hpre hargs
  refine ⟨fun c => (Cert.Kernel4Ideal.Gen.dats m 0 c).arrAt 4 Cert.Kernel4Ideal.cfg0.N, Cert.Kernel4Ideal.Value.run_blocks m g, ?_⟩
  refine (θ_run _ _ _).mono (fun r h c => ⟨(h c).1.trans ?_, (h c).2⟩) (Cert.Reference4Ideal.Value.run m' g')
  obtain ⟨r0, r1, r2, r3⟩ := reals _ _ _ _ (hpre c)
  obtain ⟨e0, e1, e2, e3⟩ := hargs c
  rw [Cert.Reference4Ideal.Cmp.res_eq, e0, e1, e2, e3]
  funext i
  refine all3 (fun i => Cert.Reference4Ideal.Cmp.whole (F := Ideal) (Cert.Kernel4Ideal.Cmp.X0 m c) (Cert.Kernel4Ideal.Cmp.X1 m c) (Cert.Kernel4Ideal.Cmp.X2 m c) (Cert.Kernel4Ideal.Cmp.X3 m c) i
    = (Cert.Kernel4Ideal.Gen.dats m 0 c).arrAt 4 Cert.Kernel4Ideal.cfg0.N i) (fun g r n => ?_) i
  exact (Cert.Reference4Ideal.Cmp.result _ _ _ _ g r n).trans (Cert.Kernel4Ideal.Cmp.result m c r0 r1 r2 r3 g r n).symm

end Cert.Cmp

end
-- ==== Proof.lean ====
module

public import proofs.«01_k».proof.Defs
public import proofs.«01_k».proof.Proof.RetClaims
public import proofs.«01_k».proof.Proof.PostClaims
public import proofs.«01_k».proof.Proof.InprojClaims
public import proofs.«01_k».proof.Proof.CmpClaims

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Ret.preFacts, Cert.Cmp.preFacts,
  Cert.Ret.frame_kernel, Cert.Ret.frame_kernelIdeal, Cert.Ret.frame_kernelIdeal_pre, Cert.Ret.frame_reference, Cert.Ret.frame_reference_pre,
  Cert.Post.frame_kernel, Cert.Post.frame_kernelIdeal, Cert.Post.frame_reference,
  Cert.Inproj.frame_kernel, Cert.Inproj.frame_kernelIdeal, Cert.Inproj.frame_reference,
  Cert.Cmp.frame_kernel, Cert.Cmp.frame_kernelIdeal, Cert.Cmp.frame_kernelIdeal_pre, Cert.Cmp.frame_reference, Cert.Cmp.frame_reference_pre,
  Cert.Ret.preserved, Cert.Ret.equal, trivial, Cert.Post.equal, trivial, Cert.Inproj.equal,
  trivial, Cert.Cmp.equal⟩

end Cert.Proof

end
